-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "neg_inf" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_inputs.lean ====
abbrev S32768x512 : Shape := ⟨2, ![32768, 512]⟩
abbrev S16x8x256x512 : Shape := ⟨4, ![16, 8, 256, 512]⟩
abbrev S16x8x512x256 : Shape := ⟨4, ![16, 8, 512, 256]⟩
abbrev S16x8x512 : Shape := ⟨3, ![16, 8, 512]⟩
abbrev S8x256x256 : Shape := ⟨3, ![8, 256, 256]⟩
abbrev S8x2x256x256 : Shape := ⟨4, ![8, 2, 256, 256]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S16x8x256x512 : S_.BroadcastsInDim S16x8x256x512 (![] : Fin 0 → Fin S16x8x256x512.rank)
  reducesTo_S16x8x256x512_S_d0_1_2_3 : S16x8x256x512.ReducesTo [0, 1, 2, 3] S_
  bcast_S_S16x8x512x256 : S_.BroadcastsInDim S16x8x512x256 (![] : Fin 0 → Fin S16x8x512x256.rank)
  reducesTo_S16x8x512x256_S_d0_1_2_3 : S16x8x512x256.ReducesTo [0, 1, 2, 3] S_
  bcast_S_S16x8x512 : S_.BroadcastsInDim S16x8x512 (![] : Fin 0 → Fin S16x8x512.rank)
  reducesTo_S16x8x512_S_d0_1_2 : S16x8x512.ReducesTo [0, 1, 2] S_
  bcast_S_S8x256x256 : S_.BroadcastsInDim S8x256x256 (![] : Fin 0 → Fin S8x256x256.rank)
  reducesTo_S8x256x256_S_d0_1_2 : S8x256x256.ReducesTo [0, 1, 2] S_
  bcast_S_S8x2x256x256 : S_.BroadcastsInDim S8x2x256x256 (![] : Fin 0 → Fin S8x2x256x256.rank)
  reducesTo_S8x2x256x256_S_d0_1_2_3 : S8x2x256x256.ReducesTo [0, 1, 2, 3] S_

variable [Facts]

def fn_part1 {F : FTy → Type} [FloatOps F] (main_arg4 : FVec F S8x256x256 .f32) (main_arg5 : FVec F S8x2x256x256 .f32) (main_v16 : IVec S_ 1) (main_v17 : FVec F S16x8x512 .f32) : IVec S_ 1 :=
  let main_cst_4 : FVec F S_ .f32 := constant S_ .f32 0x7F800000#32
  let main_v18 : FVec F S16x8x512 .f32 := broadcastInDim S16x8x512 ![] bcast_S_S16x8x512 main_cst_4
  let main_v19 : IVec S16x8x512 1 := cmpf .olt main_v17 main_v18
  let main_c_5 : IVec S_ 1 := constantI S_ 1 1#1
  let main_v20 : IVec S_ 1 := (fun x v => Host.reduce IntOp.andi x v reducesTo_S16x8x512_S_d0_1_2 h_S_) main_v19 main_c_5
  let main_v21 : IVec S_ 1 := andi main_v16 main_v20
  let main_v22 : FVec F S8x256x256 .f32 := Host.absf main_arg4
  let main_cst_6 : FVec F S_ .f32 := constant S_ .f32 0x7F800000#32
  let main_v23 : FVec F S8x256x256 .f32 := broadcastInDim S8x256x256 ![] bcast_S_S8x256x256 main_cst_6
  let main_v24 : IVec S8x256x256 1 := cmpf .olt main_v22 main_v23
  let main_c_7 : IVec S_ 1 := constantI S_ 1 1#1
  let main_v25 : IVec S_ 1 := (fun x v => Host.reduce IntOp.andi x v reducesTo_S8x256x256_S_d0_1_2 h_S_) main_v24 main_c_7
  let main_v26 : IVec S_ 1 := andi main_v21 main_v25
  let main_v27 : FVec F S8x2x256x256 .f32 := Host.absf main_arg5
  let main_cst_8 : FVec F S_ .f32 := constant S_ .f32 0x7F800000#32
  let main_v28 : FVec F S8x2x256x256 .f32 := broadcastInDim S8x2x256x256 ![] bcast_S_S8x2x256x256 main_cst_8
  let main_v29 : IVec S8x2x256x256 1 := cmpf .olt main_v27 main_v28
  let main_c_9 : IVec S_ 1 := constantI S_ 1 1#1
  let main_v30 : IVec S_ 1 := (fun x v => Host.reduce IntOp.andi x v reducesTo_S8x2x256x256_S_d0_1_2_3 h_S_) main_v29 main_c_9
  let main_v31 : IVec S_ 1 := andi main_v26 main_v30
  main_v31

def fn {F : FTy → Type} [FloatOps F] (main_arg0 : FVec F S32768x512 .bf16) (main_arg1 : FVec F S16x8x256x512 .bf16) (main_arg2 : FVec F S16x8x512x256 .bf16) (main_arg3 : FVec F S16x8x512 .f32) (main_arg4 : FVec F S8x256x256 .f32) (main_arg5 : FVec F S8x2x256x256 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S16x8x256x512 .f32 := (extf .f32 · bitsLt_bf16_f32) main_arg1
  let main_v6 : FVec F S16x8x256x512 .f32 := Host.absf main_v5
  let main_cst_0 : FVec F S_ .f32 := constant S_ .f32 0x7F800000#32
  let main_v7 : FVec F S16x8x256x512 .f32 := broadcastInDim S16x8x256x512 ![] bcast_S_S16x8x256x512 main_cst_0
  let main_v8 : IVec S16x8x256x512 1 := cmpf .olt main_v6 main_v7
  let main_c_1 : IVec S_ 1 := constantI S_ 1 1#1
  let main_v9 : IVec S_ 1 := (fun x v => Host.reduce IntOp.andi x v reducesTo_S16x8x256x512_S_d0_1_2_3 h_S_) main_v8 main_c_1
  let main_v10 : IVec S_ 1 := andi main_v4 main_v9
  let main_v11 : FVec F S16x8x512x256 .f32 := (extf .f32 · bitsLt_bf16_f32) main_arg2
  let main_v12 : FVec F S16x8x512x256 .f32 := Host.absf main_v11
  let main_cst_2 : FVec F S_ .f32 := constant S_ .f32 0x7F800000#32
  let main_v13 : FVec F S16x8x512x256 .f32 := broadcastInDim S16x8x512x256 ![] bcast_S_S16x8x512x256 main_cst_2
  let main_v14 : IVec S16x8x512x256 1 := cmpf .olt main_v12 main_v13
  let main_c_3 : IVec S_ 1 := constantI S_ 1 1#1
  let main_v15 : IVec S_ 1 := (fun x v => Host.reduce IntOp.andi x v reducesTo_S16x8x512x256_S_d0_1_2_3 h_S_) main_v14 main_c_3
  let main_v16 : IVec S_ 1 := andi main_v10 main_v15
  let main_v17 : FVec F S16x8x512 .f32 := Host.absf main_arg3
  fn_part1 (F := F) main_arg4 main_arg5 main_v16 main_v17
-- ==== Kernel.lean ====
abbrev S32768x512 : Shape := ⟨2, ![32768, 512]⟩
abbrev S16x8x256x512 : Shape := ⟨4, ![16, 8, 256, 512]⟩
abbrev S16x8x512x256 : Shape := ⟨4, ![16, 8, 512, 256]⟩
abbrev S16x8x512 : Shape := ⟨3, ![16, 8, 512]⟩
abbrev S8x256x256 : Shape := ⟨3, ![8, 256, 256]⟩
abbrev S8x2x256x256 : Shape := ⟨4, ![8, 2, 256, 256]⟩
abbrev S256x512 : Shape := ⟨2, ![256, 512]⟩
abbrev S1x8x256x512 : Shape := ⟨4, ![1, 8, 256, 512]⟩
abbrev S1x8x512x256 : Shape := ⟨4, ![1, 8, 512, 256]⟩
abbrev S1x8x512 : Shape := ⟨3, ![1, 8, 512]⟩
abbrev S8x8x8x256 : Shape := ⟨4, ![8, 8, 8, 256]⟩
abbrev S8x256 : Shape := ⟨2, ![8, 256]⟩
abbrev S256x128 : Shape := ⟨2, ![256, 128]⟩
abbrev S1x8x128 : Shape := ⟨3, ![1, 8, 128]⟩
abbrev S8x128 : Shape := ⟨2, ![8, 128]⟩
abbrev S1x256 : Shape := ⟨2, ![1, 256]⟩
abbrev S1x1x8x256 : Shape := ⟨4, ![1, 1, 8, 256]⟩
abbrev S1x1x256x128 : Shape := ⟨4, ![1, 1, 256, 128]⟩
abbrev S256x256 : Shape := ⟨2, ![256, 256]⟩
abbrev S1x256x256 : Shape := ⟨3, ![1, 256, 256]⟩
abbrev S256 : Shape := ⟨1, ![256]⟩
abbrev S1x1x64x256 : Shape := ⟨4, ![1, 1, 64, 256]⟩
abbrev S64x256 : Shape := ⟨2, ![64, 256]⟩
abbrev S1x1x256x256 : Shape := ⟨4, ![1, 1, 256, 256]⟩
abbrev S128x256 : Shape := ⟨2, ![128, 256]⟩

abbrev nBuf : Space → Nat
  | .hbm => 7
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S16x8x256x512, .bf16⟩
  | .hbm, ⟨2, _⟩ => ⟨S16x8x512x256, .bf16⟩
  | .hbm, ⟨3, _⟩ => ⟨S16x8x512, .f32⟩
  | .hbm, ⟨4, _⟩ => ⟨S8x256x256, .f32⟩
  | .hbm, ⟨5, _⟩ => ⟨S8x2x256x256, .f32⟩
  | .hbm, ⟨6, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S1x8x256x512, .bf16⟩
  | .local _ .vmem, ⟨3, _⟩ => ⟨S1x8x256x512, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x8x512, .f32⟩
  | .local _ .vmem, ⟨7, _⟩ => ⟨S1x8x512, .f32⟩
  | .local _ .vmem, ⟨8, _⟩ => ⟨S8x256x256, .f32⟩
  | .local _ .vmem, ⟨9, _⟩ => ⟨S8x2x256x256, .f32⟩
  | .local _ .vmem, ⟨10, _⟩ => ⟨S256x512, .bf16⟩
  | .local _ .vmem, ⟨11, _⟩ => ⟨S256x512, .bf16⟩
  | .local _ .vmem, ⟨12, _⟩ => ⟨S8x8x8x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_off1 (i : grid0.Coords) : Fin 4 → Nat :=
  let c0_37 : Index := 0#32
  let arg1 : BitVec 32 := BitVec.ofNat 32 (i 1).val
  let v171 : Index := Scalar.indexCast arg1
  let c0_38 : Index := 0#32
  let c0_39 : Index := 0#32
  ![0, v171.toNat, 0, 0]
def k0_off2 (i : grid0.Coords) : Fin 4 → Nat :=
  let c0_46 : Index := 0#32
  let arg1 : BitVec 32 := BitVec.ofNat 32 (i 1).val
  let v185 : Index := Scalar.indexCast arg1
  let c0_47 : Index := 0#32
  let c0_48 : Index := 0#32
  ![0, v185.toNat, 0, 0]
@[reducible] def k0_t1_loop (i : grid0.Coords) : Scf.Loop 32 :=
  let c0_i32_50 : BitVec 32 := 0#32
  let arg1 : BitVec 32 := BitVec.ofNat 32 (i 1).val
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let c1_i32_52 : BitVec 32 := 1#32
  ⟨c0_i32_50, v194, c1_i32_52⟩
def k0_off3 (i : grid0.Coords) (k0_t1 : Fin (k0_t1_loop i).trips) : Fin 4 → Nat :=
  let c0_541 : Index := 0#32
  let c0_i32_50 : BitVec 32 := 0#32
  let c1_i32_52 : BitVec 32 := 1#32
  let arg10 : BitVec 32 := Scf.iv c0_i32_50 c1_i32_52 k0_t1
  let v1574 : Index := Scalar.indexCast arg10
  let c0_542 : Index := 0#32
  let c0_543 : Index := 0#32
  ![0, v1574.toNat, 0, 0]
def k0_off4 (i : grid0.Coords) (k0_t1 : Fin (k0_t1_loop i).trips) : Fin 4 → Nat :=
  let c0_545 : Index := 0#32
  let arg1 : BitVec 32 := BitVec.ofNat 32 (i 1).val
  let c1_i32_539 : BitVec 32 := 1#32
  let v1571 : BitVec 32 := Scalar.subi arg1 c1_i32_539
  let c0_i32_50 : BitVec 32 := 0#32
  let c1_i32_52 : BitVec 32 := 1#32
  let arg10 : BitVec 32 := Scf.iv c0_i32_50 c1_i32_52 k0_t1
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![0, v1578.toNat, 0, 0]
def k0_off5 (i : grid0.Coords) (k0_t1 : Fin (k0_t1_loop i).trips) : Fin 4 → Nat :=
  let c0_548 : Index := 0#32
  let c0_i32_50 : BitVec 32 := 0#32
  let c1_i32_52 : BitVec 32 := 1#32
  let arg10 : BitVec 32 := Scf.iv c0_i32_50 c1_i32_52 k0_t1
  let v1582 : Index := Scalar.indexCast arg10
  let c0_549 : Index := 0#32
  let c0_550 : Index := 0#32
  ![0, v1582.toNat, 0, 0]
def k0_off6 (i : grid0.Coords) (k0_t1 : Fin (k0_t1_loop i).trips) : Fin 4 → Nat :=
  let c0_553 : Index := 0#32
  let c0_i32_50 : BitVec 32 := 0#32
  let c1_i32_52 : BitVec 32 := 1#32
  let arg10 : BitVec 32 := Scf.iv c0_i32_50 c1_i32_52 k0_t1
  let v1602 : Index := Scalar.indexCast arg10
  let c0_554 : Index := 0#32
  let c0_555 : Index := 0#32
  ![0, v1602.toNat, 0, 0]
@[reducible] def k0_t2_loop (i : grid0.Coords) : Scf.Loop 32 :=
  let c0_i32_50 : BitVec 32 := 0#32
  let arg1 : BitVec 32 := BitVec.ofNat 32 (i 1).val
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let v191 : BitVec 32 := Scalar.addi c0_i32_50 v190
  let c1_i32_53 : BitVec 32 := 1#32
  ⟨v194, v191, c1_i32_53⟩
def k0_off7 (i : grid0.Coords) (k0_t2 : Fin (k0_t2_loop i).trips) : Fin 4 → Nat :=
  let c0_541 : Index := 0#32
  let c0_i32_50 : BitVec 32 := 0#32
  let arg1 : BitVec 32 := BitVec.ofNat 32 (i 1).val
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let c1_i32_53 : BitVec 32 := 1#32
  let arg10 : BitVec 32 := Scf.iv v194 c1_i32_53 k0_t2
  let v1574 : Index := Scalar.indexCast arg10
  let c0_542 : Index := 0#32
  let c0_543 : Index := 0#32
  ![0, v1574.toNat, 0, 0]
def k0_off8 (i : grid0.Coords) (k0_t2 : Fin (k0_t2_loop i).trips) : Fin 4 → Nat :=
  let c0_545 : Index := 0#32
  let arg1 : BitVec 32 := BitVec.ofNat 32 (i 1).val
  let c1_i32_539 : BitVec 32 := 1#32
  let v1571 : BitVec 32 := Scalar.subi arg1 c1_i32_539
  let c0_i32_50 : BitVec 32 := 0#32
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let c1_i32_53 : BitVec 32 := 1#32
  let arg10 : BitVec 32 := Scf.iv v194 c1_i32_53 k0_t2
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![0, v1578.toNat, 0, 0]
def k0_off9 (i : grid0.Coords) (k0_t2 : Fin (k0_t2_loop i).trips) : Fin 4 → Nat :=
  let c0_548 : Index := 0#32
  let c0_i32_50 : BitVec 32 := 0#32
  let arg1 : BitVec 32 := BitVec.ofNat 32 (i 1).val
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let c1_i32_53 : BitVec 32 := 1#32
  let arg10 : BitVec 32 := Scf.iv v194 c1_i32_53 k0_t2
  let v1582 : Index := Scalar.indexCast arg10
  let c0_549 : Index := 0#32
  let c0_550 : Index := 0#32
  ![0, v1582.toNat, 0, 0]
def k0_off10 (i : grid0.Coords) (k0_t2 : Fin (k0_t2_loop i).trips) : Fin 4 → Nat :=
  let c0_553 : Index := 0#32
  let c0_i32_50 : BitVec 32 := 0#32
  let arg1 : BitVec 32 := BitVec.ofNat 32 (i 1).val
  let v190 : BitVec 32 := Scalar.subi arg1 c0_i32_50
  let c1_i32_51 : BitVec 32 := 1#32
  let v192 : BitVec 32 := Scalar.divsi v190 c1_i32_51
  let v193 : BitVec 32 := Scalar.muli v192 c1_i32_51
  let v194 : BitVec 32 := Scalar.addi c0_i32_50 v193
  let c1_i32_53 : BitVec 32 := 1#32
  let arg10 : BitVec 32 := Scf.iv v194 c1_i32_53 k0_t2
  let v1602 : Index := Scalar.indexCast arg10
  let c0_554 : Index := 0#32
  let c0_555 : Index := 0#32
  ![0, v1602.toNat, 0, 0]
def k0_off11 (i : grid0.Coords) : Fin 4 → Nat :=
  let c0_112 : Index := 0#32
  let arg1 : BitVec 32 := BitVec.ofNat 32 (i 1).val
  let v375 : Index := Scalar.indexCast arg1
  let c64 : Index := 64#32
  let c0_113 : Index := 0#32
  ![0, v375.toNat, 64, 0]
@[reducible] def k0_t3_loop (i : grid0.Coords) : Scf.Loop 32 :=
  let c0_i32_115 : BitVec 32 := 0#32
  let arg1 : BitVec 32 := BitVec.ofNat 32 (i 1).val
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let c1_i32_117 : BitVec 32 := 1#32
  ⟨c0_i32_115, v384, c1_i32_117⟩
def k0_off12 (i : grid0.Coords) (k0_t3 : Fin (k0_t3_loop i).trips) : Fin 4 → Nat :=
  let c0_541 : Index := 0#32
  let c0_i32_115 : BitVec 32 := 0#32
  let c1_i32_117 : BitVec 32 := 1#32
  let arg10 : BitVec 32 := Scf.iv c0_i32_115 c1_i32_117 k0_t3
  let v1574 : Index := Scalar.indexCast arg10
  let c0_542 : Index := 0#32
  let c0_543 : Index := 0#32
  ![0, v1574.toNat, 0, 0]
def k0_off13 (i : grid0.Coords) (k0_t3 : Fin (k0_t3_loop i).trips) : Fin 4 → Nat :=
  let c1_545 : Index := 1#32
  let arg1 : BitVec 32 := BitVec.ofNat 32 (i 1).val
  let c1_i32_539 : BitVec 32 := 1#32
  let v1571 : BitVec 32 := Scalar.subi arg1 c1_i32_539
  let c0_i32_115 : BitVec 32 := 0#32
  let c1_i32_117 : BitVec 32 := 1#32
  let arg10 : BitVec 32 := Scf.iv c0_i32_115 c1_i32_117 k0_t3
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![1, v1578.toNat, 0, 0]
def k0_off14 (i : grid0.Coords) (k0_t3 : Fin (k0_t3_loop i).trips) : Fin 4 → Nat :=
  let c1_548 : Index := 1#32
  let c0_i32_115 : BitVec 32 := 0#32
  let c1_i32_117 : BitVec 32 := 1#32
  let arg10 : BitVec 32 := Scf.iv c0_i32_115 c1_i32_117 k0_t3
  let v1582 : Index := Scalar.indexCast arg10
  let c0_549 : Index := 0#32
  let c0_550 : Index := 0#32
  ![1, v1582.toNat, 0, 0]
def k0_off15 (i : grid0.Coords) (k0_t3 : Fin (k0_t3_loop i).trips) : Fin 4 → Nat :=
  let c0_553 : Index := 0#32
  let c0_i32_115 : BitVec 32 := 0#32
  let c1_i32_117 : BitVec 32 := 1#32
  let arg10 : BitVec 32 := Scf.iv c0_i32_115 c1_i32_117 k0_t3
  let v1602 : Index := Scalar.indexCast arg10
  let c64_554 : Index := 64#32
  let c0_555 : Index := 0#32
  ![0, v1602.toNat, 64, 0]
@[reducible] def k0_t4_loop (i : grid0.Coords) : Scf.Loop 32 :=
  let c0_i32_115 : BitVec 32 := 0#32
  let arg1 : BitVec 32 := BitVec.ofNat 32 (i 1).val
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let v381 : BitVec 32 := Scalar.addi c0_i32_115 v380
  let c1_i32_118 : BitVec 32 := 1#32
  ⟨v384, v381, c1_i32_118⟩
def k0_off16 (i : grid0.Coords) (k0_t4 : Fin (k0_t4_loop i).trips) : Fin 4 → Nat :=
  let c0_541 : Index := 0#32
  let c0_i32_115 : BitVec 32 := 0#32
  let arg1 : BitVec 32 := BitVec.ofNat 32 (i 1).val
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let c1_i32_118 : BitVec 32 := 1#32
  let arg10 : BitVec 32 := Scf.iv v384 c1_i32_118 k0_t4
  let v1574 : Index := Scalar.indexCast arg10
  let c0_542 : Index := 0#32
  let c0_543 : Index := 0#32
  ![0, v1574.toNat, 0, 0]
def k0_off17 (i : grid0.Coords) (k0_t4 : Fin (k0_t4_loop i).trips) : Fin 4 → Nat :=
  let c1_545 : Index := 1#32
  let arg1 : BitVec 32 := BitVec.ofNat 32 (i 1).val
  let c1_i32_539 : BitVec 32 := 1#32
  let v1571 : BitVec 32 := Scalar.subi arg1 c1_i32_539
  let c0_i32_115 : BitVec 32 := 0#32
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let c1_i32_118 : BitVec 32 := 1#32
  let arg10 : BitVec 32 := Scf.iv v384 c1_i32_118 k0_t4
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![1, v1578.toNat, 0, 0]
def k0_off18 (i : grid0.Coords) (k0_t4 : Fin (k0_t4_loop i).trips) : Fin 4 → Nat :=
  let c1_548 : Index := 1#32
  let c0_i32_115 : BitVec 32 := 0#32
  let arg1 : BitVec 32 := BitVec.ofNat 32 (i 1).val
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let c1_i32_118 : BitVec 32 := 1#32
  let arg10 : BitVec 32 := Scf.iv v384 c1_i32_118 k0_t4
  let v1582 : Index := Scalar.indexCast arg10
  let c0_549 : Index := 0#32
  let c0_550 : Index := 0#32
  ![1, v1582.toNat, 0, 0]
def k0_off19 (i : grid0.Coords) (k0_t4 : Fin (k0_t4_loop i).trips) : Fin 4 → Nat :=
  let c0_553 : Index := 0#32
  let c0_i32_115 : BitVec 32 := 0#32
  let arg1 : BitVec 32 := BitVec.ofNat 32 (i 1).val
  let v380 : BitVec 32 := Scalar.subi arg1 c0_i32_115
  let c1_i32_116 : BitVec 32 := 1#32
  let v382 : BitVec 32 := Scalar.divsi v380 c1_i32_116
  let v383 : BitVec 32 := Scalar.muli v382 c1_i32_116
  let v384 : BitVec 32 := Scalar.addi c0_i32_115 v383
  let c1_i32_118 : BitVec 32 := 1#32
  let arg10 : BitVec 32 := Scf.iv v384 c1_i32_118 k0_t4
  let v1602 : Index := Scalar.indexCast arg10
  let c64_554 : Index := 64#32
  let c0_555 : Index := 0#32
  ![0, v1602.toNat, 64, 0]
def k0_off20 (i : grid0.Coords) : Fin 4 → Nat :=
  let c0_175 : Index := 0#32
  let arg1 : BitVec 32 := BitVec.ofNat 32 (i 1).val
  let v563 : Index := Scalar.indexCast arg1
  let c0_176 : Index := 0#32
  let c128_177 : Index := 128#32
  ![0, v563.toNat, 0, 128]
def k0_off21 (i : grid0.Coords) : Fin 4 → Nat :=
  let c0_184 : Index := 0#32
  let arg1 : BitVec 32 := BitVec.ofNat 32 (i 1).val
  let v577 : Index := Scalar.indexCast arg1
  let c128_185 : Index := 128#32
  let c0_186 : Index := 0#32
  ![0, v577.toNat, 128, 0]
@[reducible] def k0_t5_loop (i : grid0.Coords) : Scf.Loop 32 :=
  let c0_i32_188 : BitVec 32 := 0#32
  let arg1 : BitVec 32 := BitVec.ofNat 32 (i 1).val
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let c1_i32_190 : BitVec 32 := 1#32
  ⟨c0_i32_188, v586, c1_i32_190⟩
def k0_off22 (i : grid0.Coords) (k0_t5 : Fin (k0_t5_loop i).trips) : Fin 4 → Nat :=
  let c0_541 : Index := 0#32
  let c0_i32_188 : BitVec 32 := 0#32
  let c1_i32_190 : BitVec 32 := 1#32
  let arg10 : BitVec 32 := Scf.iv c0_i32_188 c1_i32_190 k0_t5
  let v1574 : Index := Scalar.indexCast arg10
  let c0_542 : Index := 0#32
  let c128_543 : Index := 128#32
  ![0, v1574.toNat, 0, 128]
def k0_off23 (i : grid0.Coords) (k0_t5 : Fin (k0_t5_loop i).trips) : Fin 4 → Nat :=
  let c2_545 : Index := 2#32
  let arg1 : BitVec 32 := BitVec.ofNat 32 (i 1).val
  let c1_i32_539 : BitVec 32 := 1#32
  let v1571 : BitVec 32 := Scalar.subi arg1 c1_i32_539
  let c0_i32_188 : BitVec 32 := 0#32
  let c1_i32_190 : BitVec 32 := 1#32
  let arg10 : BitVec 32 := Scf.iv c0_i32_188 c1_i32_190 k0_t5
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![2, v1578.toNat, 0, 0]
def k0_off24 (i : grid0.Coords) (k0_t5 : Fin (k0_t5_loop i).trips) : Fin 4 → Nat :=
  let c2_548 : Index := 2#32
  let c0_i32_188 : BitVec 32 := 0#32
  let c1_i32_190 : BitVec 32 := 1#32
  let arg10 : BitVec 32 := Scf.iv c0_i32_188 c1_i32_190 k0_t5
  let v1582 : Index := Scalar.indexCast arg10
  let c0_549 : Index := 0#32
  let c0_550 : Index := 0#32
  ![2, v1582.toNat, 0, 0]
def k0_off25 (i : grid0.Coords) (k0_t5 : Fin (k0_t5_loop i).trips) : Fin 4 → Nat :=
  let c0_553 : Index := 0#32
  let c0_i32_188 : BitVec 32 := 0#32
  let c1_i32_190 : BitVec 32 := 1#32
  let arg10 : BitVec 32 := Scf.iv c0_i32_188 c1_i32_190 k0_t5
  let v1602 : Index := Scalar.indexCast arg10
  let c128_554 : Index := 128#32
  let c0_555 : Index := 0#32
  ![0, v1602.toNat, 128, 0]
@[reducible] def k0_t6_loop (i : grid0.Coords) : Scf.Loop 32 :=
  let c0_i32_188 : BitVec 32 := 0#32
  let arg1 : BitVec 32 := BitVec.ofNat 32 (i 1).val
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let v583 : BitVec 32 := Scalar.addi c0_i32_188 v582
  let c1_i32_191 : BitVec 32 := 1#32
  ⟨v586, v583, c1_i32_191⟩
def k0_off26 (i : grid0.Coords) (k0_t6 : Fin (k0_t6_loop i).trips) : Fin 4 → Nat :=
  let c0_541 : Index := 0#32
  let c0_i32_188 : BitVec 32 := 0#32
  let arg1 : BitVec 32 := BitVec.ofNat 32 (i 1).val
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let c1_i32_191 : BitVec 32 := 1#32
  let arg10 : BitVec 32 := Scf.iv v586 c1_i32_191 k0_t6
  let v1574 : Index := Scalar.indexCast arg10
  let c0_542 : Index := 0#32
  let c128_543 : Index := 128#32
  ![0, v1574.toNat, 0, 128]
def k0_off27 (i : grid0.Coords) (k0_t6 : Fin (k0_t6_loop i).trips) : Fin 4 → Nat :=
  let c2_545 : Index := 2#32
  let arg1 : BitVec 32 := BitVec.ofNat 32 (i 1).val
  let c1_i32_539 : BitVec 32 := 1#32
  let v1571 : BitVec 32 := Scalar.subi arg1 c1_i32_539
  let c0_i32_188 : BitVec 32 := 0#32
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let c1_i32_191 : BitVec 32 := 1#32
  let arg10 : BitVec 32 := Scf.iv v586 c1_i32_191 k0_t6
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![2, v1578.toNat, 0, 0]
def k0_off28 (i : grid0.Coords) (k0_t6 : Fin (k0_t6_loop i).trips) : Fin 4 → Nat :=
  let c2_548 : Index := 2#32
  let c0_i32_188 : BitVec 32 := 0#32
  let arg1 : BitVec 32 := BitVec.ofNat 32 (i 1).val
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let c1_i32_191 : BitVec 32 := 1#32
  let arg10 : BitVec 32 := Scf.iv v586 c1_i32_191 k0_t6
  let v1582 : Index := Scalar.indexCast arg10
  let c0_549 : Index := 0#32
  let c0_550 : Index := 0#32
  ![2, v1582.toNat, 0, 0]
def k0_off29 (i : grid0.Coords) (k0_t6 : Fin (k0_t6_loop i).trips) : Fin 4 → Nat :=
  let c0_553 : Index := 0#32
  let c0_i32_188 : BitVec 32 := 0#32
  let arg1 : BitVec 32 := BitVec.ofNat 32 (i 1).val
  let v582 : BitVec 32 := Scalar.subi arg1 c0_i32_188
  let c1_i32_189 : BitVec 32 := 1#32
  let v584 : BitVec 32 := Scalar.divsi v582 c1_i32_189
  let v585 : BitVec 32 := Scalar.muli v584 c1_i32_189
  let v586 : BitVec 32 := Scalar.addi c0_i32_188 v585
  let c1_i32_191 : BitVec 32 := 1#32
  let arg10 : BitVec 32 := Scf.iv v586 c1_i32_191 k0_t6
  let v1602 : Index := Scalar.indexCast arg10
  let c128_554 : Index := 128#32
  let c0_555 : Index := 0#32
  ![0, v1602.toNat, 128, 0]
def k0_off30 (i : grid0.Coords) : Fin 4 → Nat :=
  let c0_251 : Index := 0#32
  let arg1 : BitVec 32 := BitVec.ofNat 32 (i 1).val
  let v767 : Index := Scalar.indexCast arg1
  let c192 : Index := 192#32
  let c0_252 : Index := 0#32
  ![0, v767.toNat, 192, 0]
@[reducible] def k0_t7_loop (i : grid0.Coords) : Scf.Loop 32 :=
  let c0_i32_254 : BitVec 32 := 0#32
  let arg1 : BitVec 32 := BitVec.ofNat 32 (i 1).val
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let c1_i32_256 : BitVec 32 := 1#32
  ⟨c0_i32_254, v776, c1_i32_256⟩
def k0_off31 (i : grid0.Coords) (k0_t7 : Fin (k0_t7_loop i).trips) : Fin 4 → Nat :=
  let c0_541 : Index := 0#32
  let c0_i32_254 : BitVec 32 := 0#32
  let c1_i32_256 : BitVec 32 := 1#32
  let arg10 : BitVec 32 := Scf.iv c0_i32_254 c1_i32_256 k0_t7
  let v1574 : Index := Scalar.indexCast arg10
  let c0_542 : Index := 0#32
  let c128_543 : Index := 128#32
  ![0, v1574.toNat, 0, 128]
def k0_off32 (i : grid0.Coords) (k0_t7 : Fin (k0_t7_loop i).trips) : Fin 4 → Nat :=
  let c3_545 : Index := 3#32
  let arg1 : BitVec 32 := BitVec.ofNat 32 (i 1).val
  let c1_i32_539 : BitVec 32 := 1#32
  let v1571 : BitVec 32 := Scalar.subi arg1 c1_i32_539
  let c0_i32_254 : BitVec 32 := 0#32
  let c1_i32_256 : BitVec 32 := 1#32
  let arg10 : BitVec 32 := Scf.iv c0_i32_254 c1_i32_256 k0_t7
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![3, v1578.toNat, 0, 0]
def k0_off33 (i : grid0.Coords) (k0_t7 : Fin (k0_t7_loop i).trips) : Fin 4 → Nat :=
  let c3_548 : Index := 3#32
  let c0_i32_254 : BitVec 32 := 0#32
  let c1_i32_256 : BitVec 32 := 1#32
  let arg10 : BitVec 32 := Scf.iv c0_i32_254 c1_i32_256 k0_t7
  let v1582 : Index := Scalar.indexCast arg10
  let c0_549 : Index := 0#32
  let c0_550 : Index := 0#32
  ![3, v1582.toNat, 0, 0]
def k0_off34 (i : grid0.Coords) (k0_t7 : Fin (k0_t7_loop i).trips) : Fin 4 → Nat :=
  let c0_553 : Index := 0#32
  let c0_i32_254 : BitVec 32 := 0#32
  let c1_i32_256 : BitVec 32 := 1#32
  let arg10 : BitVec 32 := Scf.iv c0_i32_254 c1_i32_256 k0_t7
  let v1602 : Index := Scalar.indexCast arg10
  let c192_554 : Index := 192#32
  let c0_555 : Index := 0#32
  ![0, v1602.toNat, 192, 0]
@[reducible] def k0_t8_loop (i : grid0.Coords) : Scf.Loop 32 :=
  let c0_i32_254 : BitVec 32 := 0#32
  let arg1 : BitVec 32 := BitVec.ofNat 32 (i 1).val
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let v773 : BitVec 32 := Scalar.addi c0_i32_254 v772
  let c1_i32_257 : BitVec 32 := 1#32
  ⟨v776, v773, c1_i32_257⟩
def k0_off35 (i : grid0.Coords) (k0_t8 : Fin (k0_t8_loop i).trips) : Fin 4 → Nat :=
  let c0_541 : Index := 0#32
  let c0_i32_254 : BitVec 32 := 0#32
  let arg1 : BitVec 32 := BitVec.ofNat 32 (i 1).val
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let c1_i32_257 : BitVec 32 := 1#32
  let arg10 : BitVec 32 := Scf.iv v776 c1_i32_257 k0_t8
  let v1574 : Index := Scalar.indexCast arg10
  let c0_542 : Index := 0#32
  let c128_543 : Index := 128#32
  ![0, v1574.toNat, 0, 128]
def k0_off36 (i : grid0.Coords) (k0_t8 : Fin (k0_t8_loop i).trips) : Fin 4 → Nat :=
  let c3_545 : Index := 3#32
  let arg1 : BitVec 32 := BitVec.ofNat 32 (i 1).val
  let c1_i32_539 : BitVec 32 := 1#32
  let v1571 : BitVec 32 := Scalar.subi arg1 c1_i32_539
  let c0_i32_254 : BitVec 32 := 0#32
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let c1_i32_257 : BitVec 32 := 1#32
  let arg10 : BitVec 32 := Scf.iv v776 c1_i32_257 k0_t8
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![3, v1578.toNat, 0, 0]
def k0_off37 (i : grid0.Coords) (k0_t8 : Fin (k0_t8_loop i).trips) : Fin 4 → Nat :=
  let c3_548 : Index := 3#32
  let c0_i32_254 : BitVec 32 := 0#32
  let arg1 : BitVec 32 := BitVec.ofNat 32 (i 1).val
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let c1_i32_257 : BitVec 32 := 1#32
  let arg10 : BitVec 32 := Scf.iv v776 c1_i32_257 k0_t8
  let v1582 : Index := Scalar.indexCast arg10
  let c0_549 : Index := 0#32
  let c0_550 : Index := 0#32
  ![3, v1582.toNat, 0, 0]
def k0_off38 (i : grid0.Coords) (k0_t8 : Fin (k0_t8_loop i).trips) : Fin 4 → Nat :=
  let c0_553 : Index := 0#32
  let c0_i32_254 : BitVec 32 := 0#32
  let arg1 : BitVec 32 := BitVec.ofNat 32 (i 1).val
  let v772 : BitVec 32 := Scalar.subi arg1 c0_i32_254
  let c1_i32_255 : BitVec 32 := 1#32
  let v774 : BitVec 32 := Scalar.divsi v772 c1_i32_255
  let v775 : BitVec 32 := Scalar.muli v774 c1_i32_255
  let v776 : BitVec 32 := Scalar.addi c0_i32_254 v775
  let c1_i32_257 : BitVec 32 := 1#32
  let arg10 : BitVec 32 := Scf.iv v776 c1_i32_257 k0_t8
  let v1602 : Index := Scalar.indexCast arg10
  let c192_554 : Index := 192#32
  let c0_555 : Index := 0#32
  ![0, v1602.toNat, 192, 0]
def k0_off39 (i : grid0.Coords) : Fin 4 → Nat :=
  let c0_314 : Index := 0#32
  let arg1 : BitVec 32 := BitVec.ofNat 32 (i 1).val
  let v955 : Index := Scalar.indexCast arg1
  let c0_315 : Index := 0#32
  let c256_316 : Index := 256#32
  ![0, v955.toNat, 0, 256]
def k0_off40 (i : grid0.Coords) : Fin 4 → Nat :=
  let c0_323 : Index := 0#32
  let arg1 : BitVec 32 := BitVec.ofNat 32 (i 1).val
  let v969 : Index := Scalar.indexCast arg1
  let c256_324 : Index := 256#32
  let c0_325 : Index := 0#32
  ![0, v969.toNat, 256, 0]
@[reducible] def k0_t9_loop (i : grid0.Coords) : Scf.Loop 32 :=
  let c0_i32_327 : BitVec 32 := 0#32
  let arg1 : BitVec 32 := BitVec.ofNat 32 (i 1).val
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let c1_i32_329 : BitVec 32 := 1#32
  ⟨c0_i32_327, v978, c1_i32_329⟩
def k0_off41 (i : grid0.Coords) (k0_t9 : Fin (k0_t9_loop i).trips) : Fin 4 → Nat :=
  let c0_541 : Index := 0#32
  let c0_i32_327 : BitVec 32 := 0#32
  let c1_i32_329 : BitVec 32 := 1#32
  let arg10 : BitVec 32 := Scf.iv c0_i32_327 c1_i32_329 k0_t9
  let v1574 : Index := Scalar.indexCast arg10
  let c0_542 : Index := 0#32
  let c256_543 : Index := 256#32
  ![0, v1574.toNat, 0, 256]
def k0_off42 (i : grid0.Coords) (k0_t9 : Fin (k0_t9_loop i).trips) : Fin 4 → Nat :=
  let c4_545 : Index := 4#32
  let arg1 : BitVec 32 := BitVec.ofNat 32 (i 1).val
  let c1_i32_539 : BitVec 32 := 1#32
  let v1571 : BitVec 32 := Scalar.subi arg1 c1_i32_539
  let c0_i32_327 : BitVec 32 := 0#32
  let c1_i32_329 : BitVec 32 := 1#32
  let arg10 : BitVec 32 := Scf.iv c0_i32_327 c1_i32_329 k0_t9
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![4, v1578.toNat, 0, 0]
def k0_off43 (i : grid0.Coords) (k0_t9 : Fin (k0_t9_loop i).trips) : Fin 4 → Nat :=
  let c4_548 : Index := 4#32
  let c0_i32_327 : BitVec 32 := 0#32
  let c1_i32_329 : BitVec 32 := 1#32
  let arg10 : BitVec 32 := Scf.iv c0_i32_327 c1_i32_329 k0_t9
  let v1582 : Index := Scalar.indexCast arg10
  let c0_549 : Index := 0#32
  let c0_550 : Index := 0#32
  ![4, v1582.toNat, 0, 0]
def k0_off44 (i : grid0.Coords) (k0_t9 : Fin (k0_t9_loop i).trips) : Fin 4 → Nat :=
  let c0_553 : Index := 0#32
  let c0_i32_327 : BitVec 32 := 0#32
  let c1_i32_329 : BitVec 32 := 1#32
  let arg10 : BitVec 32 := Scf.iv c0_i32_327 c1_i32_329 k0_t9
  let v1602 : Index := Scalar.indexCast arg10
  let c256_554 : Index := 256#32
  let c0_555 : Index := 0#32
  ![0, v1602.toNat, 256, 0]
@[reducible] def k0_t10_loop (i : grid0.Coords) : Scf.Loop 32 :=
  let c0_i32_327 : BitVec 32 := 0#32
  let arg1 : BitVec 32 := BitVec.ofNat 32 (i 1).val
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let v975 : BitVec 32 := Scalar.addi c0_i32_327 v974
  let c1_i32_330 : BitVec 32 := 1#32
  ⟨v978, v975, c1_i32_330⟩
def k0_off45 (i : grid0.Coords) (k0_t10 : Fin (k0_t10_loop i).trips) : Fin 4 → Nat :=
  let c0_541 : Index := 0#32
  let c0_i32_327 : BitVec 32 := 0#32
  let arg1 : BitVec 32 := BitVec.ofNat 32 (i 1).val
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let c1_i32_330 : BitVec 32 := 1#32
  let arg10 : BitVec 32 := Scf.iv v978 c1_i32_330 k0_t10
  let v1574 : Index := Scalar.indexCast arg10
  let c0_542 : Index := 0#32
  let c256_543 : Index := 256#32
  ![0, v1574.toNat, 0, 256]
def k0_off46 (i : grid0.Coords) (k0_t10 : Fin (k0_t10_loop i).trips) : Fin 4 → Nat :=
  let c4_545 : Index := 4#32
  let arg1 : BitVec 32 := BitVec.ofNat 32 (i 1).val
  let c1_i32_539 : BitVec 32 := 1#32
  let v1571 : BitVec 32 := Scalar.subi arg1 c1_i32_539
  let c0_i32_327 : BitVec 32 := 0#32
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let c1_i32_330 : BitVec 32 := 1#32
  let arg10 : BitVec 32 := Scf.iv v978 c1_i32_330 k0_t10
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![4, v1578.toNat, 0, 0]
def k0_off47 (i : grid0.Coords) (k0_t10 : Fin (k0_t10_loop i).trips) : Fin 4 → Nat :=
  let c4_548 : Index := 4#32
  let c0_i32_327 : BitVec 32 := 0#32
  let arg1 : BitVec 32 := BitVec.ofNat 32 (i 1).val
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let c1_i32_330 : BitVec 32 := 1#32
  let arg10 : BitVec 32 := Scf.iv v978 c1_i32_330 k0_t10
  let v1582 : Index := Scalar.indexCast arg10
  let c0_549 : Index := 0#32
  let c0_550 : Index := 0#32
  ![4, v1582.toNat, 0, 0]
def k0_off48 (i : grid0.Coords) (k0_t10 : Fin (k0_t10_loop i).trips) : Fin 4 → Nat :=
  let c0_553 : Index := 0#32
  let c0_i32_327 : BitVec 32 := 0#32
  let arg1 : BitVec 32 := BitVec.ofNat 32 (i 1).val
  let v974 : BitVec 32 := Scalar.subi arg1 c0_i32_327
  let c1_i32_328 : BitVec 32 := 1#32
  let v976 : BitVec 32 := Scalar.divsi v974 c1_i32_328
  let v977 : BitVec 32 := Scalar.muli v976 c1_i32_328
  let v978 : BitVec 32 := Scalar.addi c0_i32_327 v977
  let c1_i32_330 : BitVec 32 := 1#32
  let arg10 : BitVec 32 := Scf.iv v978 c1_i32_330 k0_t10
  let v1602 : Index := Scalar.indexCast arg10
  let c256_554 : Index := 256#32
  let c0_555 : Index := 0#32
  ![0, v1602.toNat, 256, 0]
def k0_off49 (i : grid0.Coords) : Fin 4 → Nat :=
  let c0_390 : Index := 0#32
  let arg1 : BitVec 32 := BitVec.ofNat 32 (i 1).val
  let v1159 : Index := Scalar.indexCast arg1
  let c320 : Index := 320#32
  let c0_391 : Index := 0#32
  ![0, v1159.toNat, 320, 0]
@[reducible] def k0_t11_loop (i : grid0.Coords) : Scf.Loop 32 :=
  let c0_i32_393 : BitVec 32 := 0#32
  let arg1 : BitVec 32 := BitVec.ofNat 32 (i 1).val
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let c1_i32_395 : BitVec 32 := 1#32
  ⟨c0_i32_393, v1168, c1_i32_395⟩
def k0_off50 (i : grid0.Coords) (k0_t11 : Fin (k0_t11_loop i).trips) : Fin 4 → Nat :=
  let c0_541 : Index := 0#32
  let c0_i32_393 : BitVec 32 := 0#32
  let c1_i32_395 : BitVec 32 := 1#32
  let arg10 : BitVec 32 := Scf.iv c0_i32_393 c1_i32_395 k0_t11
  let v1574 : Index := Scalar.indexCast arg10
  let c0_542 : Index := 0#32
  let c256_543 : Index := 256#32
  ![0, v1574.toNat, 0, 256]
def k0_off51 (i : grid0.Coords) (k0_t11 : Fin (k0_t11_loop i).trips) : Fin 4 → Nat :=
  let c5_545 : Index := 5#32
  let arg1 : BitVec 32 := BitVec.ofNat 32 (i 1).val
  let c1_i32_539 : BitVec 32 := 1#32
  let v1571 : BitVec 32 := Scalar.subi arg1 c1_i32_539
  let c0_i32_393 : BitVec 32 := 0#32
  let c1_i32_395 : BitVec 32 := 1#32
  let arg10 : BitVec 32 := Scf.iv c0_i32_393 c1_i32_395 k0_t11
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![5, v1578.toNat, 0, 0]
def k0_off52 (i : grid0.Coords) (k0_t11 : Fin (k0_t11_loop i).trips) : Fin 4 → Nat :=
  let c5_548 : Index := 5#32
  let c0_i32_393 : BitVec 32 := 0#32
  let c1_i32_395 : BitVec 32 := 1#32
  let arg10 : BitVec 32 := Scf.iv c0_i32_393 c1_i32_395 k0_t11
  let v1582 : Index := Scalar.indexCast arg10
  let c0_549 : Index := 0#32
  let c0_550 : Index := 0#32
  ![5, v1582.toNat, 0, 0]
def k0_off53 (i : grid0.Coords) (k0_t11 : Fin (k0_t11_loop i).trips) : Fin 4 → Nat :=
  let c0_553 : Index := 0#32
  let c0_i32_393 : BitVec 32 := 0#32
  let c1_i32_395 : BitVec 32 := 1#32
  let arg10 : BitVec 32 := Scf.iv c0_i32_393 c1_i32_395 k0_t11
  let v1602 : Index := Scalar.indexCast arg10
  let c320_554 : Index := 320#32
  let c0_555 : Index := 0#32
  ![0, v1602.toNat, 320, 0]
@[reducible] def k0_t12_loop (i : grid0.Coords) : Scf.Loop 32 :=
  let c0_i32_393 : BitVec 32 := 0#32
  let arg1 : BitVec 32 := BitVec.ofNat 32 (i 1).val
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let v1165 : BitVec 32 := Scalar.addi c0_i32_393 v1164
  let c1_i32_396 : BitVec 32 := 1#32
  ⟨v1168, v1165, c1_i32_396⟩
def k0_off54 (i : grid0.Coords) (k0_t12 : Fin (k0_t12_loop i).trips) : Fin 4 → Nat :=
  let c0_541 : Index := 0#32
  let c0_i32_393 : BitVec 32 := 0#32
  let arg1 : BitVec 32 := BitVec.ofNat 32 (i 1).val
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let c1_i32_396 : BitVec 32 := 1#32
  let arg10 : BitVec 32 := Scf.iv v1168 c1_i32_396 k0_t12
  let v1574 : Index := Scalar.indexCast arg10
  let c0_542 : Index := 0#32
  let c256_543 : Index := 256#32
  ![0, v1574.toNat, 0, 256]
def k0_off55 (i : grid0.Coords) (k0_t12 : Fin (k0_t12_loop i).trips) : Fin 4 → Nat :=
  let c5_545 : Index := 5#32
  let arg1 : BitVec 32 := BitVec.ofNat 32 (i 1).val
  let c1_i32_539 : BitVec 32 := 1#32
  let v1571 : BitVec 32 := Scalar.subi arg1 c1_i32_539
  let c0_i32_393 : BitVec 32 := 0#32
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let c1_i32_396 : BitVec 32 := 1#32
  let arg10 : BitVec 32 := Scf.iv v1168 c1_i32_396 k0_t12
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![5, v1578.toNat, 0, 0]
def k0_off56 (i : grid0.Coords) (k0_t12 : Fin (k0_t12_loop i).trips) : Fin 4 → Nat :=
  let c5_548 : Index := 5#32
  let c0_i32_393 : BitVec 32 := 0#32
  let arg1 : BitVec 32 := BitVec.ofNat 32 (i 1).val
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let c1_i32_396 : BitVec 32 := 1#32
  let arg10 : BitVec 32 := Scf.iv v1168 c1_i32_396 k0_t12
  let v1582 : Index := Scalar.indexCast arg10
  let c0_549 : Index := 0#32
  let c0_550 : Index := 0#32
  ![5, v1582.toNat, 0, 0]
def k0_off57 (i : grid0.Coords) (k0_t12 : Fin (k0_t12_loop i).trips) : Fin 4 → Nat :=
  let c0_553 : Index := 0#32
  let c0_i32_393 : BitVec 32 := 0#32
  let arg1 : BitVec 32 := BitVec.ofNat 32 (i 1).val
  let v1164 : BitVec 32 := Scalar.subi arg1 c0_i32_393
  let c1_i32_394 : BitVec 32 := 1#32
  let v1166 : BitVec 32 := Scalar.divsi v1164 c1_i32_394
  let v1167 : BitVec 32 := Scalar.muli v1166 c1_i32_394
  let v1168 : BitVec 32 := Scalar.addi c0_i32_393 v1167
  let c1_i32_396 : BitVec 32 := 1#32
  let arg10 : BitVec 32 := Scf.iv v1168 c1_i32_396 k0_t12
  let v1602 : Index := Scalar.indexCast arg10
  let c320_554 : Index := 320#32
  let c0_555 : Index := 0#32
  ![0, v1602.toNat, 320, 0]
def k0_off58 (i : grid0.Coords) : Fin 4 → Nat :=
  let c0_453 : Index := 0#32
  let arg1 : BitVec 32 := BitVec.ofNat 32 (i 1).val
  let v1347 : Index := Scalar.indexCast arg1
  let c0_454 : Index := 0#32
  let c384_455 : Index := 384#32
  ![0, v1347.toNat, 0, 384]
def k0_off59 (i : grid0.Coords) : Fin 4 → Nat :=
  let c0_462 : Index := 0#32
  let arg1 : BitVec 32 := BitVec.ofNat 32 (i 1).val
  let v1361 : Index := Scalar.indexCast arg1
  let c384_463 : Index := 384#32
  let c0_464 : Index := 0#32
  ![0, v1361.toNat, 384, 0]
@[reducible] def k0_t13_loop (i : grid0.Coords) : Scf.Loop 32 :=
  let c0_i32_466 : BitVec 32 := 0#32
  let arg1 : BitVec 32 := BitVec.ofNat 32 (i 1).val
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let c1_i32_468 : BitVec 32 := 1#32
  ⟨c0_i32_466, v1370, c1_i32_468⟩
def k0_off60 (i : grid0.Coords) (k0_t13 : Fin (k0_t13_loop i).trips) : Fin 4 → Nat :=
  let c0_541 : Index := 0#32
  let c0_i32_466 : BitVec 32 := 0#32
  let c1_i32_468 : BitVec 32 := 1#32
  let arg10 : BitVec 32 := Scf.iv c0_i32_466 c1_i32_468 k0_t13
  let v1574 : Index := Scalar.indexCast arg10
  let c0_542 : Index := 0#32
  let c384_543 : Index := 384#32
  ![0, v1574.toNat, 0, 384]
def k0_off61 (i : grid0.Coords) (k0_t13 : Fin (k0_t13_loop i).trips) : Fin 4 → Nat :=
  let c6_545 : Index := 6#32
  let arg1 : BitVec 32 := BitVec.ofNat 32 (i 1).val
  let c1_i32_539 : BitVec 32 := 1#32
  let v1571 : BitVec 32 := Scalar.subi arg1 c1_i32_539
  let c0_i32_466 : BitVec 32 := 0#32
  let c1_i32_468 : BitVec 32 := 1#32
  let arg10 : BitVec 32 := Scf.iv c0_i32_466 c1_i32_468 k0_t13
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![6, v1578.toNat, 0, 0]
def k0_off62 (i : grid0.Coords) (k0_t13 : Fin (k0_t13_loop i).trips) : Fin 4 → Nat :=
  let c6_548 : Index := 6#32
  let c0_i32_466 : BitVec 32 := 0#32
  let c1_i32_468 : BitVec 32 := 1#32
  let arg10 : BitVec 32 := Scf.iv c0_i32_466 c1_i32_468 k0_t13
  let v1582 : Index := Scalar.indexCast arg10
  let c0_549 : Index := 0#32
  let c0_550 : Index := 0#32
  ![6, v1582.toNat, 0, 0]
def k0_off63 (i : grid0.Coords) (k0_t13 : Fin (k0_t13_loop i).trips) : Fin 4 → Nat :=
  let c0_553 : Index := 0#32
  let c0_i32_466 : BitVec 32 := 0#32
  let c1_i32_468 : BitVec 32 := 1#32
  let arg10 : BitVec 32 := Scf.iv c0_i32_466 c1_i32_468 k0_t13
  let v1602 : Index := Scalar.indexCast arg10
  let c384_554 : Index := 384#32
  let c0_555 : Index := 0#32
  ![0, v1602.toNat, 384, 0]
@[reducible] def k0_t14_loop (i : grid0.Coords) : Scf.Loop 32 :=
  let c0_i32_466 : BitVec 32 := 0#32
  let arg1 : BitVec 32 := BitVec.ofNat 32 (i 1).val
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let v1367 : BitVec 32 := Scalar.addi c0_i32_466 v1366
  let c1_i32_469 : BitVec 32 := 1#32
  ⟨v1370, v1367, c1_i32_469⟩
def k0_off64 (i : grid0.Coords) (k0_t14 : Fin (k0_t14_loop i).trips) : Fin 4 → Nat :=
  let c0_541 : Index := 0#32
  let c0_i32_466 : BitVec 32 := 0#32
  let arg1 : BitVec 32 := BitVec.ofNat 32 (i 1).val
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let c1_i32_469 : BitVec 32 := 1#32
  let arg10 : BitVec 32 := Scf.iv v1370 c1_i32_469 k0_t14
  let v1574 : Index := Scalar.indexCast arg10
  let c0_542 : Index := 0#32
  let c384_543 : Index := 384#32
  ![0, v1574.toNat, 0, 384]
def k0_off65 (i : grid0.Coords) (k0_t14 : Fin (k0_t14_loop i).trips) : Fin 4 → Nat :=
  let c6_545 : Index := 6#32
  let arg1 : BitVec 32 := BitVec.ofNat 32 (i 1).val
  let c1_i32_539 : BitVec 32 := 1#32
  let v1571 : BitVec 32 := Scalar.subi arg1 c1_i32_539
  let c0_i32_466 : BitVec 32 := 0#32
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let c1_i32_469 : BitVec 32 := 1#32
  let arg10 : BitVec 32 := Scf.iv v1370 c1_i32_469 k0_t14
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![6, v1578.toNat, 0, 0]
def k0_off66 (i : grid0.Coords) (k0_t14 : Fin (k0_t14_loop i).trips) : Fin 4 → Nat :=
  let c6_548 : Index := 6#32
  let c0_i32_466 : BitVec 32 := 0#32
  let arg1 : BitVec 32 := BitVec.ofNat 32 (i 1).val
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let c1_i32_469 : BitVec 32 := 1#32
  let arg10 : BitVec 32 := Scf.iv v1370 c1_i32_469 k0_t14
  let v1582 : Index := Scalar.indexCast arg10
  let c0_549 : Index := 0#32
  let c0_550 : Index := 0#32
  ![6, v1582.toNat, 0, 0]
def k0_off67 (i : grid0.Coords) (k0_t14 : Fin (k0_t14_loop i).trips) : Fin 4 → Nat :=
  let c0_553 : Index := 0#32
  let c0_i32_466 : BitVec 32 := 0#32
  let arg1 : BitVec 32 := BitVec.ofNat 32 (i 1).val
  let v1366 : BitVec 32 := Scalar.subi arg1 c0_i32_466
  let c1_i32_467 : BitVec 32 := 1#32
  let v1368 : BitVec 32 := Scalar.divsi v1366 c1_i32_467
  let v1369 : BitVec 32 := Scalar.muli v1368 c1_i32_467
  let v1370 : BitVec 32 := Scalar.addi c0_i32_466 v1369
  let c1_i32_469 : BitVec 32 := 1#32
  let arg10 : BitVec 32 := Scf.iv v1370 c1_i32_469 k0_t14
  let v1602 : Index := Scalar.indexCast arg10
  let c384_554 : Index := 384#32
  let c0_555 : Index := 0#32
  ![0, v1602.toNat, 384, 0]
def k0_off68 (i : grid0.Coords) : Fin 4 → Nat :=
  let c0_529 : Index := 0#32
  let arg1 : BitVec 32 := BitVec.ofNat 32 (i 1).val
  let v1551 : Index := Scalar.indexCast arg1
  let c448 : Index := 448#32
  let c0_530 : Index := 0#32
  ![0, v1551.toNat, 448, 0]
@[reducible] def k0_t15_loop (i : grid0.Coords) : Scf.Loop 32 :=
  let c0_i32_532 : BitVec 32 := 0#32
  let arg1 : BitVec 32 := BitVec.ofNat 32 (i 1).val
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let c1_i32_534 : BitVec 32 := 1#32
  ⟨c0_i32_532, v1560, c1_i32_534⟩
def k0_off69 (i : grid0.Coords) (k0_t15 : Fin (k0_t15_loop i).trips) : Fin 4 → Nat :=
  let c0_541 : Index := 0#32
  let c0_i32_532 : BitVec 32 := 0#32
  let c1_i32_534 : BitVec 32 := 1#32
  let arg10 : BitVec 32 := Scf.iv c0_i32_532 c1_i32_534 k0_t15
  let v1574 : Index := Scalar.indexCast arg10
  let c0_542 : Index := 0#32
  let c384_543 : Index := 384#32
  ![0, v1574.toNat, 0, 384]
def k0_off70 (i : grid0.Coords) (k0_t15 : Fin (k0_t15_loop i).trips) : Fin 4 → Nat :=
  let c7_545 : Index := 7#32
  let arg1 : BitVec 32 := BitVec.ofNat 32 (i 1).val
  let c1_i32_539 : BitVec 32 := 1#32
  let v1571 : BitVec 32 := Scalar.subi arg1 c1_i32_539
  let c0_i32_532 : BitVec 32 := 0#32
  let c1_i32_534 : BitVec 32 := 1#32
  let arg10 : BitVec 32 := Scf.iv c0_i32_532 c1_i32_534 k0_t15
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![7, v1578.toNat, 0, 0]
def k0_off71 (i : grid0.Coords) (k0_t15 : Fin (k0_t15_loop i).trips) : Fin 4 → Nat :=
  let c7_548 : Index := 7#32
  let c0_i32_532 : BitVec 32 := 0#32
  let c1_i32_534 : BitVec 32 := 1#32
  let arg10 : BitVec 32 := Scf.iv c0_i32_532 c1_i32_534 k0_t15
  let v1582 : Index := Scalar.indexCast arg10
  let c0_549 : Index := 0#32
  let c0_550 : Index := 0#32
  ![7, v1582.toNat, 0, 0]
def k0_off72 (i : grid0.Coords) (k0_t15 : Fin (k0_t15_loop i).trips) : Fin 4 → Nat :=
  let c0_553 : Index := 0#32
  let c0_i32_532 : BitVec 32 := 0#32
  let c1_i32_534 : BitVec 32 := 1#32
  let arg10 : BitVec 32 := Scf.iv c0_i32_532 c1_i32_534 k0_t15
  let v1602 : Index := Scalar.indexCast arg10
  let c448_554 : Index := 448#32
  let c0_555 : Index := 0#32
  ![0, v1602.toNat, 448, 0]
@[reducible] def k0_t16_loop (i : grid0.Coords) : Scf.Loop 32 :=
  let c0_i32_532 : BitVec 32 := 0#32
  let arg1 : BitVec 32 := BitVec.ofNat 32 (i 1).val
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let v1557 : BitVec 32 := Scalar.addi c0_i32_532 v1556
  let c1_i32_535 : BitVec 32 := 1#32
  ⟨v1560, v1557, c1_i32_535⟩
def k0_off73 (i : grid0.Coords) (k0_t16 : Fin (k0_t16_loop i).trips) : Fin 4 → Nat :=
  let c0_541 : Index := 0#32
  let c0_i32_532 : BitVec 32 := 0#32
  let arg1 : BitVec 32 := BitVec.ofNat 32 (i 1).val
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let c1_i32_535 : BitVec 32 := 1#32
  let arg10 : BitVec 32 := Scf.iv v1560 c1_i32_535 k0_t16
  let v1574 : Index := Scalar.indexCast arg10
  let c0_542 : Index := 0#32
  let c384_543 : Index := 384#32
  ![0, v1574.toNat, 0, 384]
def k0_off74 (i : grid0.Coords) (k0_t16 : Fin (k0_t16_loop i).trips) : Fin 4 → Nat :=
  let c7_545 : Index := 7#32
  let arg1 : BitVec 32 := BitVec.ofNat 32 (i 1).val
  let c1_i32_539 : BitVec 32 := 1#32
  let v1571 : BitVec 32 := Scalar.subi arg1 c1_i32_539
  let c0_i32_532 : BitVec 32 := 0#32
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let c1_i32_535 : BitVec 32 := 1#32
  let arg10 : BitVec 32 := Scf.iv v1560 c1_i32_535 k0_t16
  let v1572 : BitVec 32 := Scalar.subi v1571 arg10
  let c1_i32_540 : BitVec 32 := 1#32
  let v1573 : BitVec 32 := Scalar.minsi v1572 c1_i32_540
  let v1578 : Index := Scalar.indexCast v1573
  let c0_546 : Index := 0#32
  let c0_547 : Index := 0#32
  ![7, v1578.toNat, 0, 0]
def k0_off75 (i : grid0.Coords) (k0_t16 : Fin (k0_t16_loop i).trips) : Fin 4 → Nat :=
  let c7_548 : Index := 7#32
  let c0_i32_532 : BitVec 32 := 0#32
  let arg1 : BitVec 32 := BitVec.ofNat 32 (i 1).val
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let c1_i32_535 : BitVec 32 := 1#32
  let arg10 : BitVec 32 := Scf.iv v1560 c1_i32_535 k0_t16
  let v1582 : Index := Scalar.indexCast arg10
  let c0_549 : Index := 0#32
  let c0_550 : Index := 0#32
  ![7, v1582.toNat, 0, 0]
def k0_off76 (i : grid0.Coords) (k0_t16 : Fin (k0_t16_loop i).trips) : Fin 4 → Nat :=
  let c0_553 : Index := 0#32
  let c0_i32_532 : BitVec 32 := 0#32
  let arg1 : BitVec 32 := BitVec.ofNat 32 (i 1).val
  let v1556 : BitVec 32 := Scalar.subi arg1 c0_i32_532
  let c1_i32_533 : BitVec 32 := 1#32
  let v1558 : BitVec 32 := Scalar.divsi v1556 c1_i32_533
  let v1559 : BitVec 32 := Scalar.muli v1558 c1_i32_533
  let v1560 : BitVec 32 := Scalar.addi c0_i32_532 v1559
  let c1_i32_535 : BitVec 32 := 1#32
  let arg10 : BitVec 32 := Scf.iv v1560 c1_i32_535 k0_t16
  let v1602 : Index := Scalar.indexCast arg10
  let c448_554 : Index := 448#32
  let c0_555 : Index := 0#32
  ![0, v1602.toNat, 448, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg_inf" => some ⊥
  | _ => none
-- ==== ReferenceIdeal.lean ====
abbrev S32768x512 : Shape := ⟨2, ![32768, 512]⟩
abbrev S16x8x256x512 : Shape := ⟨4, ![16, 8, 256, 512]⟩
abbrev S16x8x512x256 : Shape := ⟨4, ![16, 8, 512, 256]⟩
abbrev S16x8x512 : Shape := ⟨3, ![16, 8, 512]⟩
abbrev S8x256x256 : Shape := ⟨3, ![8, 256, 256]⟩
abbrev S8x2x256x256 : Shape := ⟨4, ![8, 2, 256, 256]⟩
abbrev S16x2048x8x64 : Shape := ⟨4, ![16, 2048, 8, 64]⟩
abbrev S16x8x2048x64 : Shape := ⟨4, ![16, 8, 2048, 64]⟩
abbrev S16x8x256x8x64 : Shape := ⟨5, ![16, 8, 256, 8, 64]⟩
abbrev S16x8x8x256x64 : Shape := ⟨5, ![16, 8, 8, 256, 64]⟩
abbrev S16x8x8x64x256 : Shape := ⟨5, ![16, 8, 8, 64, 256]⟩
abbrev S16x8x8x64 : Shape := ⟨4, ![16, 8, 8, 64]⟩
abbrev S16x8x2048x8 : Shape := ⟨4, ![16, 8, 2048, 8]⟩
abbrev S2048 : Shape := ⟨1, ![2048]⟩
abbrev S_ : Shape := ⟨0, ![]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S3 : Shape := ⟨1, ![3]⟩
abbrev S16 : Shape := ⟨1, ![16]⟩
abbrev S16x1x1x1 : Shape := ⟨4, ![16, 1, 1, 1]⟩
abbrev S1x8x1x1 : Shape := ⟨4, ![1, 8, 1, 1]⟩
abbrev S16x8x2048x3x1 : Shape := ⟨5, ![16, 8, 2048, 3, 1]⟩
abbrev S16x8x2048x3x3 : Shape := ⟨5, ![16, 8, 2048, 3, 3]⟩
abbrev S16x8x2048x3x256x64 : Shape := ⟨6, ![16, 8, 2048, 3, 256, 64]⟩
abbrev S16x8x2048x3x256 : Shape := ⟨5, ![16, 8, 2048, 3, 256]⟩
abbrev S8x1x256x256 : Shape := ⟨4, ![8, 1, 256, 256]⟩
abbrev S1x8x1x256x1x256 : Shape := ⟨6, ![1, 8, 1, 256, 1, 256]⟩
abbrev S1x8x8x256x1x256 : Shape := ⟨6, ![1, 8, 8, 256, 1, 256]⟩
abbrev S8x2048x256 : Shape := ⟨3, ![8, 2048, 256]⟩
abbrev S1x1x2048x1 : Shape := ⟨4, ![1, 1, 2048, 1]⟩
abbrev S1x8x2048x1x256 : Shape := ⟨5, ![1, 8, 2048, 1, 256]⟩
abbrev S1x3 : Shape := ⟨2, ![1, 3]⟩
abbrev S2048x3 : Shape := ⟨2, ![2048, 3]⟩
abbrev S1x1x2048x3x1 : Shape := ⟨5, ![1, 1, 2048, 3, 1]⟩
abbrev S16x8x8x256x256 : Shape := ⟨5, ![16, 8, 8, 256, 256]⟩
abbrev S1x8x1x256x256 : Shape := ⟨5, ![1, 8, 1, 256, 256]⟩
abbrev S16x8x2048x256 : Shape := ⟨4, ![16, 8, 2048, 256]⟩
abbrev S16x8x2048x768 : Shape := ⟨4, ![16, 8, 2048, 768]⟩
abbrev S16x8x2048x1024 : Shape := ⟨4, ![16, 8, 2048, 1024]⟩
abbrev S16x8x2048 : Shape := ⟨3, ![16, 8, 2048]⟩
abbrev S16x8x2048x1 : Shape := ⟨4, ![16, 8, 2048, 1]⟩

abbrev nBuf : Space → Nat
  | .hbm => 183
  | .vmem => 0
  | .smem => 0
  | _ => 0

abbrev hbmTy0_0 (i : Nat) : BufTy := match i % 128 with
  | 0 => ⟨S32768x512, .bf16⟩
  | 1 => ⟨S16x8x256x512, .bf16⟩
  | 2 => ⟨S16x8x512x256, .bf16⟩
  | 3 => ⟨S16x8x512, .f32⟩
  | 4 => ⟨S8x256x256, .f32⟩
  | 5 => ⟨S8x2x256x256, .f32⟩
  | 6 => ⟨S32768x512, .f32⟩
  | 7 => ⟨S16x2048x8x64, .f32⟩
  | 8 => ⟨S16x8x2048x64, .f32⟩
  | 9 => ⟨S16x8x256x512, .f32⟩
  | 10 => ⟨S16x8x256x8x64, .f32⟩
  | 11 => ⟨S16x8x8x256x64, .f32⟩
  | 12 => ⟨S16x8x512x256, .f32⟩
  | 13 => ⟨S16x8x8x64x256, .f32⟩
  | 14 => ⟨S16x8x8x256x64, .f32⟩
  | 15 => ⟨S16x8x8x64, .f32⟩
  | 16 => ⟨S16x8x8x64, .f32⟩
  | 17 => ⟨S16x8x2048x8, .f32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S8, .i32⟩
  | 38 => ⟨S1x8, .i32⟩
  | 39 => ⟨S2048x1, .i32⟩
  | 40 => ⟨S2048x8, .i32⟩
  | 41 => ⟨S2048x8, .i32⟩
  | 42 => ⟨S2048x8, .i1⟩
  | 43 => ⟨S_, .f32⟩
  | 44 => ⟨S_, .f32⟩
  | 45 => ⟨S16x8x2048x8, .i1⟩
  | 46 => ⟨S16x8x2048x8, .f32⟩
  | 47 => ⟨S16x8x2048x8, .f32⟩
  | 48 => ⟨S16x8x2048x3, .f32⟩
  | 49 => ⟨S16x8x2048x3, .i32⟩
  | 50 => ⟨S3, .i32⟩
  | 51 => ⟨S16, .i32⟩
  | 52 => ⟨S16x1x1x1, .i32⟩
  | 53 => ⟨S8, .i32⟩
  | 54 => ⟨S1x8x1x1, .i32⟩
  | 55 => ⟨S_, .i32⟩
  | 56 => ⟨S16x1x1x1, .i32⟩
  | 57 => ⟨S16x1x1x1, .i1⟩
  | 58 => ⟨S_, .i32⟩
  | 59 => ⟨S16x1x1x1, .i32⟩
  | 60 => ⟨S16x1x1x1, .i32⟩
  | 61 => ⟨S16x1x1x1, .i32⟩
  | 62 => ⟨S_, .i32⟩
  | 63 => ⟨S1x8x1x1, .i32⟩
  | 64 => ⟨S1x8x1x1, .i1⟩
  | 65 => ⟨S_, .i32⟩
  | 66 => ⟨S1x8x1x1, .i32⟩
  | 67 => ⟨S1x8x1x1, .i32⟩
  | 68 => ⟨S1x8x1x1, .i32⟩
  | 69 => ⟨S_, .i32⟩
  | 70 => ⟨S16x8x2048x3, .i32⟩
  | 71 => ⟨S16x8x2048x3, .i1⟩
  | 72 => ⟨S_, .i32⟩
  | 73 => ⟨S16x8x2048x3, .i32⟩
  | 74 => ⟨S16x8x2048x3, .i32⟩
  | 75 => ⟨S16x8x2048x3, .i32⟩
  | 76 => ⟨S16x8x2048x3, .i32⟩
  | 77 => ⟨S16x8x2048x3, .i32⟩
  | 78 => ⟨S16x8x2048x3x1, .i32⟩
  | 79 => ⟨S16x8x2048x3x1, .i32⟩
  | 80 => ⟨S16x8x2048x3x1, .i32⟩
  | 81 => ⟨S16x8x2048x3x3, .i32⟩
  | 82 => ⟨S16x8x2048x3x256x64, .f32⟩
  | 83 => ⟨S_, .i32⟩
  | 84 => ⟨S16x1x1x1, .i32⟩
  | 85 => ⟨S16x1x1x1, .i1⟩
  | 86 => ⟨S_, .i32⟩
  | 87 => ⟨S16x1x1x1, .i32⟩
  | 88 => ⟨S16x1x1x1, .i32⟩
  | 89 => ⟨S16x1x1x1, .i32⟩
  | 90 => ⟨S_, .i32⟩
  | 91 => ⟨S1x8x1x1, .i32⟩
  | 92 => ⟨S1x8x1x1, .i1⟩
  | 93 => ⟨S_, .i32⟩
  | 94 => ⟨S1x8x1x1, .i32⟩
  | 95 => ⟨S1x8x1x1, .i32⟩
  | 96 => ⟨S1x8x1x1, .i32⟩
  | 97 => ⟨S_, .i32⟩
  | 98 => ⟨S16x8x2048x3, .i32⟩
  | 99 => ⟨S16x8x2048x3, .i1⟩
  | 100 => ⟨S_, .i32⟩
  | 101 => ⟨S16x8x2048x3, .i32⟩
  | 102 => ⟨S16x8x2048x3, .i32⟩
  | 103 => ⟨S16x8x2048x3, .i32⟩
  | 104 => ⟨S16x8x2048x3, .i32⟩
  | 105 => ⟨S16x8x2048x3, .i32⟩
  | 106 => ⟨S16x8x2048x3x1, .i32⟩
  | 107 => ⟨S16x8x2048x3x1, .i32⟩
  | 108 => ⟨S16x8x2048x3x1, .i32⟩
  | 109 => ⟨S16x8x2048x3x3, .i32⟩
  | 110 => ⟨S16x8x2048x3x256x64, .f32⟩
  | 111 => ⟨S16x8x2048x3x256, .f32⟩
  | 112 => ⟨S8x1x256x256, .f32⟩
  | 113 => ⟨S8x256x256, .f32⟩
  | 114 => ⟨S8x256x256, .f32⟩
  | 115 => ⟨S1x8x1x256x1x256, .f32⟩
  | 116 => ⟨S1x8x8x256x1x256, .f32⟩
  | 117 => ⟨S8x2048x256, .f32⟩
  | 118 => ⟨S8x1x256x256, .f32⟩
  | 119 => ⟨S8x256x256, .f32⟩
  | 120 => ⟨S8x256x256, .f32⟩
  | 121 => ⟨S1x8x1x256x1x256, .f32⟩
  | 122 => ⟨S1x8x8x256x1x256, .f32⟩
  | 123 => ⟨S8x2048x256, .f32⟩
  | 124 => ⟨S1x1x2048x1, .i32⟩
  | 125 => ⟨S16x8x2048x3, .i32⟩
  | 126 => ⟨S16x8x2048x3, .i32⟩
  | 127 => ⟨S_, .i32⟩
  | _ => ⟨S32768x512, .bf16⟩

abbrev hbmTy0_1 (i : Nat) : BufTy := match i % 128 with
  | 0 => ⟨S16x8x2048x3, .i32⟩
  | 1 => ⟨S16x8x2048x3, .i1⟩
  | 2 => ⟨S16x8x2048x3x1, .i1⟩
  | 3 => ⟨S1x8x2048x1x256, .f32⟩
  | 4 => ⟨S1x8x2048x1x256, .f32⟩
  | 5 => ⟨S16x8x2048x3x256, .i1⟩
  | 6 => ⟨S16x8x2048x3x256, .f32⟩
  | 7 => ⟨S16x8x2048x3x256, .f32⟩
  | 8 => ⟨S16x8x2048x3x256, .f32⟩
  | 9 => ⟨S16x8x2048x3x256, .f32⟩
  | 10 => ⟨S1x3, .i32⟩
  | 11 => ⟨S2048x1, .i32⟩
  | 12 => ⟨S2048x3, .i32⟩
  | 13 => ⟨S2048x3, .i32⟩
  | 14 => ⟨S2048x3, .i1⟩
  | 15 => ⟨S1x1x2048x3x1, .i1⟩
  | 16 => ⟨S_, .f32⟩
  | 17 => ⟨S_, .f32⟩
  | 18 => ⟨S16x8x2048x3x256, .i1⟩
  | 19 => ⟨S16x8x2048x3x256, .f32⟩
  | 20 => ⟨S16x8x2048x3x256, .f32⟩
  | 21 => ⟨S16x8x8x256x64, .f32⟩
  | 22 => ⟨S16x8x8x256x256, .f32⟩
  | 23 => ⟨S8x256x256, .f32⟩
  | 24 => ⟨S1x8x1x256x256, .f32⟩
  | 25 => ⟨S16x8x8x256x256, .f32⟩
  | 26 => ⟨S16x8x8x256x256, .f32⟩
  | 27 => ⟨S16x8x2048x256, .f32⟩
  | 28 => ⟨S16x8x2048x768, .f32⟩
  | 29 => ⟨S16x8x2048x1024, .f32⟩
  | 30 => ⟨S_, .f32⟩
  | 31 => ⟨S16x8x2048, .f32⟩
  | 32 => ⟨S_, .f32⟩
  | 33 => ⟨S16x8x2048, .f32⟩
  | 34 => ⟨S16x8x2048, .f32⟩
  | 35 => ⟨S16x8x2048x1, .f32⟩
  | 36 => ⟨S16x8x2048x1024, .f32⟩
  | 37 => ⟨S16x8x2048x1024, .f32⟩
  | 38 => ⟨S16x8x2048x1024, .f32⟩
  | 39 => ⟨S_, .f32⟩
  | 40 => ⟨S16x8x2048, .f32⟩
  | 41 => ⟨S16x8x2048x1, .f32⟩
  | 42 => ⟨S16x8x2048x1024, .f32⟩
  | 43 => ⟨S16x8x2048x1024, .f32⟩
  | 44 => ⟨S16x8x2048x768, .f32⟩
  | 45 => ⟨S16x8x2048x3x256, .f32⟩
  | 46 => ⟨S16x8x2048x256, .f32⟩
  | 47 => ⟨S16x8x8x256x256, .f32⟩
  | 48 => ⟨S16x8x2048x64, .f32⟩
  | 49 => ⟨S16x8x8x256x64, .f32⟩
  | 50 => ⟨S16x8x2048x64, .f32⟩
  | 51 => ⟨S16x8x2048x64, .f32⟩
  | 52 => ⟨S16x2048x8x64, .f32⟩
  | 53 => ⟨S32768x512, .f32⟩
  | 54 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v20 : Ref sig .tc := ⟨.hbm, 47, rfl⟩
abbrev main_values : Ref sig .tc := ⟨.hbm, 48, rfl⟩
abbrev main_indices : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_0 : Ref sig .tc := ⟨.hbm, 55, rfl⟩
abbrev main_v26 : Ref sig .tc := ⟨.hbm, 56, rfl⟩
abbrev main_v27 : Ref sig .tc := ⟨.hbm, 57, rfl⟩
abbrev main_c_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_2 : Ref sig .tc := ⟨.hbm, 62, rfl⟩
abbrev main_v31 : Ref sig .tc := ⟨.hbm, 63, rfl⟩
abbrev main_v32 : Ref sig .tc := ⟨.hbm, 64, rfl⟩
abbrev main_c_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_4 : Ref sig .tc := ⟨.hbm, 69, rfl⟩
abbrev main_v36 : Ref sig .tc := ⟨.hbm, 70, rfl⟩
abbrev main_v37 : Ref sig .tc := ⟨.hbm, 71, rfl⟩
abbrev main_c_5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_6 : Ref sig .tc := ⟨.hbm, 83, rfl⟩
abbrev main_v48 : Ref sig .tc := ⟨.hbm, 84, rfl⟩
abbrev main_v49 : Ref sig .tc := ⟨.hbm, 85, rfl⟩
abbrev main_c_7 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_c_8 : Ref sig .tc := ⟨.hbm, 90, rfl⟩
abbrev main_v53 : Ref sig .tc := ⟨.hbm, 91, rfl⟩
abbrev main_v54 : Ref sig .tc := ⟨.hbm, 92, rfl⟩
abbrev main_c_9 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_10 : Ref sig .tc := ⟨.hbm, 97, rfl⟩
abbrev main_v58 : Ref sig .tc := ⟨.hbm, 98, rfl⟩
abbrev main_v59 : Ref sig .tc := ⟨.hbm, 99, rfl⟩
abbrev main_c_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_12 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_13 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_14 : Ref sig .tc := ⟨.hbm, 158, rfl⟩
abbrev main_v109 : Ref sig .tc := ⟨.hbm, 159, rfl⟩
abbrev main_cst_15 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_16 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩

abbrev nD : Nat := 1
abbrev τ : Topo := Topo.v7x

variable {F : FTy → Type} [FloatOps F]
-- ==== Kernel2.lean ====
abbrev S16x2048x1024 : Shape := ⟨3, ![16, 2048, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 22
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .f32⟩
  | .hbm, ⟨10, _⟩ => ⟨S1024x2816, .bf16⟩
  | .hbm, ⟨11, _⟩ => ⟨S1024x11x256, .bf16⟩
  | .hbm, ⟨12, _⟩ => ⟨S11x1024x256, .bf16⟩
  | .hbm, ⟨13, _⟩ => ⟨S1024x2816, .bf16⟩
  | .hbm, ⟨14, _⟩ => ⟨S1024x11x256, .bf16⟩
  | .hbm, ⟨15, _⟩ => ⟨S11x1024x256, .bf16⟩
  | .hbm, ⟨16, _⟩ => ⟨S2816x1024, .bf16⟩
  | .hbm, ⟨17, _⟩ => ⟨S11x256x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v31 : BitVec 32 := Scalar.addi c0_i32 c11_i32
  let c1_i32 : BitVec 32 := 1#32
  ⟨c0_i32, v31, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v49 : Index := Scalar.indexCast arg12
  let c0_27 : Index := 0#32
  let c0_28 : Index := 0#32
  ![v49.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v62 : Index := Scalar.indexCast arg12
  let c0_35 : Index := 0#32
  let c0_36 : Index := 0#32
  ![v62.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2048x1024 : Shape := ⟨3, ![16, 2048, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x512, .f32⟩
  | .hbm, ⟨10, _⟩ => ⟨S16x2048x512, .f32⟩
  | .hbm, ⟨11, _⟩ => ⟨S32768x512, .f32⟩
  | .hbm, ⟨12, _⟩ => ⟨S16x2048x512, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S_, .f32⟩
  | .hbm, ⟨36, _⟩ => ⟨S16x2048x2816, .f32⟩
  | .hbm, ⟨37, _⟩ => ⟨S16x2048x2816, .f32⟩
  | .hbm, ⟨38, _⟩ => ⟨S_, .f32⟩
  | .hbm, ⟨39, _⟩ => ⟨S16x2048x2816, .f32⟩
  | .hbm, ⟨40, _⟩ => ⟨S16x2048x2816, .f32⟩
  | .hbm, ⟨41, _⟩ => ⟨S16x2048x2816, .f32⟩
  | .hbm, ⟨42, _⟩ => ⟨S16x2048x2816, .f32⟩
  | .hbm, ⟨43, _⟩ => ⟨S16x2048x2816, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S_, .f32⟩
  | .hbm, ⟨54, _⟩ => ⟨S16x2048x1, .f32⟩
  | .hbm, ⟨55, _⟩ => ⟨S16x2048x1, .f32⟩
  | .hbm, ⟨56, _⟩ => ⟨S16x2048x1, .f32⟩
  | .hbm, ⟨57, _⟩ => ⟨S16x2048x1024, .f32⟩
  | .hbm, ⟨58, _⟩ => ⟨S16x2048x1024, .f32⟩
  | .hbm, ⟨59, _⟩ => ⟨S1x1x1024, .f32⟩
  | .hbm, ⟨60, _⟩ => ⟨S16x2048x1024, .f32⟩
  | .hbm, ⟨61, _⟩ => ⟨S16x2048x1024, .f32⟩
  | .hbm, ⟨62, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x2560 : Shape := ⟨2, ![1024, 2560]⟩
abbrev S1024x512 : Shape := ⟨2, ![1024, 512]⟩
abbrev S512x1024 : Shape := ⟨2, ![512, 1024]⟩
abbrev S32768x1024 : Shape := ⟨2, ![32768, 1024]⟩
abbrev S1x1024 : Shape := ⟨2, ![1, 1024]⟩
abbrev S32768x512 : Shape := ⟨2, ![32768, 512]⟩
abbrev S16x8x512x256 : Shape := ⟨4, ![16, 8, 512, 256]⟩
abbrev S64x2x512 : Shape := ⟨3, ![64, 2, 512]⟩
abbrev S512x512 : Shape := ⟨2, ![512, 512]⟩
abbrev S1x2x512x256 : Shape := ⟨4, ![1, 2, 512, 256]⟩
abbrev S1x2x512 : Shape := ⟨3, ![1, 2, 512]⟩
abbrev S512 : Shape := ⟨1, ![512]⟩
abbrev S512x1 : Shape := ⟨2, ![512, 1]⟩
abbrev S2x256x512 : Shape := ⟨3, ![2, 256, 512]⟩
abbrev S2x512 : Shape := ⟨2, ![2, 512]⟩
abbrev S512x256 : Shape := ⟨2, ![512, 256]⟩
abbrev S1x1x512x256 : Shape := ⟨4, ![1, 1, 512, 256]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S1024x2560, .bf16⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S32768x1024, .f32⟩
  | .hbm, ⟨8, _⟩ => ⟨S1x1024, .f32⟩
  | .hbm, ⟨9, _⟩ => ⟨S32768x512, .bf16⟩
  | .hbm, ⟨10, _⟩ => ⟨S32768x512, .bf16⟩
  | .hbm, ⟨11, _⟩ => ⟨S16x8x512x256, .bf16⟩
  | .hbm, ⟨12, _⟩ => ⟨S32768x512, .bf16⟩
  | .hbm, ⟨13, _⟩ => ⟨S64x2x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1x2x512x256, .bf16⟩
  | .local _ .vmem, ⟨10, _⟩ => ⟨S1x2x512x256, .bf16⟩
  | .local _ .vmem, ⟨11, _⟩ => ⟨S512x512, .bf16⟩
  | .local _ .vmem, ⟨12, _⟩ => ⟨S512x512, .bf16⟩
  | .local _ .vmem, ⟨13, _⟩ => ⟨S1x2x512, .f32⟩
  | .local _ .vmem, ⟨14, _⟩ => ⟨S1x2x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16x2048x1024 : Shape := ⟨3, ![16, 2048, 1024]⟩
abbrev S1024 : Shape := ⟨1, ![1024]⟩
abbrev S1024x2560 : Shape := ⟨2, ![1024, 2560]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x512 : Shape := ⟨3, ![16, 2048, 512]⟩
abbrev S16x8x256x512 : Shape := ⟨4, ![16, 8, 256, 512]⟩
abbrev S16x8x512 : Shape := ⟨3, ![16, 8, 512]⟩
abbrev S16x8x512x256 : Shape := ⟨4, ![16, 8, 512, 256]⟩
abbrev S32768x512 : Shape := ⟨2, ![32768, 512]⟩
abbrev S64x2x512 : Shape := ⟨3, ![64, 2, 512]⟩

abbrev nBuf : Space → Nat
  | .hbm => 53
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x2560, .f32⟩
  | .hbm, ⟨20, _⟩ => ⟨S16x2048x512, .f32⟩
  | .hbm, ⟨21, _⟩ => ⟨S16x2048x512, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S_, .f32⟩
  | .hbm, ⟨26, _⟩ => ⟨S16x2048x512, .f32⟩
  | .hbm, ⟨27, _⟩ => ⟨S16x2048x512, .f32⟩
  | .hbm, ⟨28, _⟩ => ⟨S16x8x256x512, .f32⟩
  | .hbm, ⟨29, _⟩ => ⟨S_, .f32⟩
  | .hbm, ⟨30, _⟩ => ⟨S16x8x512, .f32⟩
  | .hbm, ⟨31, _⟩ => ⟨S_, .f32⟩
  | .hbm, ⟨32, _⟩ => ⟨S16x8x512, .f32⟩
  | .hbm, ⟨33, _⟩ => ⟨S16x8x512, .f32⟩
  | .hbm, ⟨34, _⟩ => ⟨S16x8x256x512, .f32⟩
  | .hbm, ⟨35, _⟩ => ⟨S16x8x512x256, .f32⟩
  | .hbm, ⟨36, _⟩ => ⟨S16x2048x512, .f32⟩
  | .hbm, ⟨37, _⟩ => ⟨S16x2048x512, .f32⟩
  | .hbm, ⟨38, _⟩ => ⟨S_, .f32⟩
  | .hbm, ⟨39, _⟩ => ⟨S16x2048x512, .f32⟩
  | .hbm, ⟨40, _⟩ => ⟨S16x2048x512, .f32⟩
  | .hbm, ⟨41, _⟩ => ⟨S_, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S32768x512, .f32⟩
  | .hbm, ⟨46, _⟩ => ⟨S32768x512, .bf16⟩
  | .hbm, ⟨47, _⟩ => ⟨S32768x512, .f32⟩
  | .hbm, ⟨48, _⟩ => ⟨S32768x512, .bf16⟩
  | .hbm, ⟨49, _⟩ => ⟨S16x8x512x256, .bf16⟩
  | .hbm, ⟨50, _⟩ => ⟨S32768x512, .f32⟩
  | .hbm, ⟨51, _⟩ => ⟨S32768x512, .bf16⟩
  | .hbm, ⟨52, _⟩ => ⟨S64x2x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel4.lean ====
abbrev S32768x512 : Shape := ⟨2, ![32768, 512]⟩
abbrev S31x512 : Shape := ⟨2, ![31, 512]⟩
abbrev S512 : Shape := ⟨1, ![512]⟩
abbrev S1x512 : Shape := ⟨2, ![1, 512]⟩
abbrev S32x512 : Shape := ⟨2, ![32, 512]⟩
abbrev S512x512 : Shape := ⟨2, ![512, 512]⟩
abbrev S544x512 : Shape := ⟨2, ![544, 512]⟩
abbrev S64x512 : Shape := ⟨2, ![64, 512]⟩
abbrev S64 : Shape := ⟨1, ![64]⟩
abbrev S64x1 : Shape := ⟨2, ![64, 1]⟩

abbrev nBuf : Space → Nat
  | .hbm => 9
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S32768x512, .bf16⟩
  | .local _ .vmem, ⟨0, _⟩ => ⟨S32x512, .bf16⟩
  | .local _ .vmem, ⟨1, _⟩ => ⟨S32x512, .bf16⟩
  | .local _ .vmem, ⟨2, _⟩ => ⟨S512x512, .bf16⟩
  | .local _ .vmem, ⟨3, _⟩ => ⟨S512x512, .bf16⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S544x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c16_i32 : BitVec 32 := 16#32
  let v1 : BitVec 32 := Scalar.muli arg1 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32768x512 : Shape := ⟨2, ![32768, 512]⟩
abbrev S31x512 : Shape := ⟨2, ![31, 512]⟩
abbrev S512 : Shape := ⟨1, ![512]⟩
abbrev S16x2048x512 : Shape := ⟨3, ![16, 2048, 512]⟩
abbrev S_ : Shape := ⟨0, ![]⟩
abbrev S16x2078x512 : Shape := ⟨3, ![16, 2078, 512]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S16x2048x31x512 : Shape := ⟨4, ![16, 2048, 31, 512]⟩
abbrev S1x1x31x512 : Shape := ⟨4, ![1, 1, 31, 512]⟩
abbrev S1x1x512 : Shape := ⟨3, ![1, 1, 512]⟩
abbrev S16x2048 : Shape := ⟨2, ![16, 2048]⟩
abbrev S16x2048x1 : Shape := ⟨3, ![16, 2048, 1]⟩

abbrev nBuf : Space → Nat
  | .hbm => 74
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S32768x512, .f32⟩
  | .hbm, ⟨6, _⟩ => ⟨S16x2048x512, .f32⟩
  | .hbm, ⟨7, _⟩ => ⟨S_, .i32⟩
  | .hbm, ⟨8, _⟩ => ⟨S_, .f32⟩
  | .hbm, ⟨9, _⟩ => ⟨S16x2078x512, .f32⟩
  | .hbm, ⟨10, _⟩ => ⟨S2048, .i32⟩
  | .hbm, ⟨11, _⟩ => ⟨S2048x1, .i32⟩
  | .hbm, ⟨12, _⟩ => ⟨S31, .i32⟩
  | .hbm, ⟨13, _⟩ => ⟨S1x31, .i32⟩
  | .hbm, ⟨14, _⟩ => ⟨S2048x31, .i32⟩
  | .hbm, ⟨15, _⟩ => ⟨S2048x31, .i32⟩
  | .hbm, ⟨16, _⟩ => ⟨S2048x31, .i32⟩
  | .hbm, ⟨17, _⟩ => ⟨S_, .i32⟩
  | .hbm, ⟨18, _⟩ => ⟨S2048x31, .i32⟩
  | .hbm, ⟨19, _⟩ => ⟨S2048x31, .i1⟩
  | .hbm, ⟨20, _⟩ => ⟨S_, .i32⟩
  | .hbm, ⟨21, _⟩ => ⟨S2048x31, .i32⟩
  | .hbm, ⟨22, _⟩ => ⟨S2048x31, .i32⟩
  | .hbm, ⟨23, _⟩ => ⟨S2048x31, .i32⟩
  | .hbm, ⟨24, _⟩ => ⟨S2048x31x1, .i32⟩
  | .hbm, ⟨25, _⟩ => ⟨S16x2048x31x512, .f32⟩
  | .hbm, ⟨26, _⟩ => ⟨S1x1x31x512, .f32⟩
  | .hbm, ⟨27, _⟩ => ⟨S16x2048x31x512, .f32⟩
  | .hbm, ⟨28, _⟩ => ⟨S16x2048x31x512, .f32⟩
  | .hbm, ⟨29, _⟩ => ⟨S_, .f32⟩
  | .hbm, ⟨30, _⟩ => ⟨S16x2048x512, .f32⟩
  | .hbm, ⟨31, _⟩ => ⟨S1x1x512, .f32⟩
  | .hbm, ⟨32, _⟩ => ⟨S16x2048x512, .f32⟩
  | .hbm, ⟨33, _⟩ => ⟨S16x2048x512, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x512, .f32⟩
  | .hbm, ⟨50, _⟩ => ⟨S16x2048x512, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S16x2048x1, .f32⟩
  | .hbm, ⟨55, _⟩ => ⟨S16x2048x512, .f32⟩
  | .hbm, ⟨56, _⟩ => ⟨S16x2048x512, .f32⟩
  | .hbm, ⟨57, _⟩ => ⟨S1x1x512, .f32⟩
  | .hbm, ⟨58, _⟩ => ⟨S16x2048x512, .f32⟩
  | .hbm, ⟨59, _⟩ => ⟨S16x2048x512, .f32⟩
  | .hbm, ⟨60, _⟩ => ⟨S1x1x512, .f32⟩
  | .hbm, ⟨61, _⟩ => ⟨S16x2048x512, .f32⟩
  | .hbm, ⟨62, _⟩ => ⟨S16x2048x512, .f32⟩
  | .hbm, ⟨63, _⟩ => ⟨S16x2048x512, .f32⟩
  | .hbm, ⟨64, _⟩ => ⟨S16x2048x512, .f32⟩
  | .hbm, ⟨65, _⟩ => ⟨S_, .f32⟩
  | .hbm, ⟨66, _⟩ => ⟨S16x2048x512, .f32⟩
  | .hbm, ⟨67, _⟩ => ⟨S16x2048x512, .f32⟩
  | .hbm, ⟨68, _⟩ => ⟨S_, .f32⟩
  | .hbm, ⟨69, _⟩ => ⟨S16x2048x512, .f32⟩
  | .hbm, ⟨70, _⟩ => ⟨S16x2048x512, .f32⟩
  | .hbm, ⟨71, _⟩ => ⟨S16x2048x512, .f32⟩
  | .hbm, ⟨72, _⟩ => ⟨S16x2048x512, .bf16⟩
  | .hbm, ⟨73, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Proof.FfnBody.lean ====
module

public import proofs.«01_k».proof.Proof.Gen.Kernel2Ideal.Value
public import Idealize.ShloMosaic.Lib.Pipeline.Value
public import Idealize.ShloMosaic.Lib.Tactic
public import Idealize.ShloMosaic.Lib.VecWindow
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable {F : FTy → Type} [FloatOps F]

theorem hz : (![0, 0] : Fin 2 → Nat) = fun _ => 0 := funext fun a => by fin_cases a <;> rfl

/-- One turn of the loop over the hidden slices, as a function of the accumulator: slice `k` of the three feed-forward weights is read. -/
def turn (v0 : Vec F S512x1024 .f32) (v2 : Vec F S512x512 .bf16) (v3 : Vec F S512x1024 .bf16) (v7 : Vec F S512x512 .bf16) (v8 : Vec F S512x1024 .bf16) (v12 : Vec F S1x1024 .f32)
    (x5 : Vec F S11x1024x256 .bf16) (x6 : Vec F S11x1024x256 .bf16) (x7 : Vec F S11x256x1024 .bf16) (k : Fin k0_t1_loop.trips) (a : Vec F S512x1024 .f32) : Vec F S512x1024 .f32 :=
  k0_pay4 v0 v2 v3 v7 v8 v12 (View.ld x5 (Rect.unit (k0_off1 k) ![1, 1024, 256] (k0_off1_inb k)))
    (View.ld x6 (Rect.unit (k0_off1 k) ![1, 1024, 256] (k0_off1_inb k))) a
    (View.ld x7 (Rect.unit (k0_off2 k) ![1, 256, 1024] (k0_off2_inb k)))

/-- The accumulator after `k` turns. -/
def acc (v0 : Vec F S512x1024 .f32) (v2 : Vec F S512x512 .bf16) (v3 : Vec F S512x1024 .bf16) (v7 : Vec F S512x512 .bf16) (v8 : Vec F S512x1024 .bf16) (v12 : Vec F S1x1024 .f32)
    (x5 : Vec F S11x1024x256 .bf16) (x6 : Vec F S11x1024x256 .bf16) (x7 : Vec F S11x256x1024 .bf16) : ℕ → Vec F S512x1024 .f32
  | 0 => k0_pay3
  | k + 1 => if h : k < k0_t1_loop.trips then turn v0 v2 v3 v7 v8 v12 x5 x6 x7 ⟨k, h⟩ (acc v0 v2 v3 v7 v8 v12 x5 x6 x7 k)
      else acc v0 v2 v3 v7 v8 v12 x5 x6 x7 k

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)

/-- One turn of the loop over the hidden slices stores the accumulator it read plus that slice's contribution. -/
theorem trip_eq (v0 : Vec F S512x1024 .f32) (v2 : Vec F S512x512 .bf16) (v3 : Vec F S512x1024 .bf16) (v7 : Vec F S512x512 .bf16) (v8 : Vec F S512x1024 .bf16) (v12 : Vec F S1x1024 .f32)
    (x5 : Vec F S11x1024x256 .bf16) (x6 : Vec F S11x1024x256 .bf16) (x7 : Vec F S11x256x1024 .bf16) (k : Fin k0_t1_loop.trips) (f : BufTy.Contents (Elt F) arg11.view.ty) (a : Vec F S512x1024 .f32)
    (ha : View.read (Elt F) arg11.view f = a) :
    tripL_k0_t1 Variants.none c none i arg1 harg1 arg2 harg2 arg3 harg3 arg4 harg4 arg5 harg5 arg6 harg6 arg7 harg7 arg8 harg8 arg9 harg9 arg10 harg10 arg11 harg11 v0 v2 v3 v7 v8 v12 (harg6.unread x5) (harg7.unread x6) (harg8.unread x7) k f
      = [⟨Rect.unit ![0, 0] ![512, 1024] inb_S512x1024_S512x1024_0_0, turn v0 v2 v3 v7 v8 v12 x5 x6 x7 k a⟩] := by
  subst ha
  unfold tripL_k0_t1 trip_k0_t1
  dsimp only
  sl_unfold_words
  simp only [View.readAt_eq_ld, harg6.read_unread, harg7.read_unread, harg8.read_unread]
  rw [View.ld_unit_zero (S := S512x1024) hz]
  rfl

/-- What the accumulator holds after the first `k` turns. -/
theorem acc_read (v0 : Vec F S512x1024 .f32) (v2 : Vec F S512x512 .bf16) (v3 : Vec F S512x1024 .bf16) (v7 : Vec F S512x512 .bf16) (v8 : Vec F S512x1024 .bf16) (v12 : Vec F S1x1024 .f32)
    (x5 : Vec F S11x1024x256 .bf16) (x6 : Vec F S11x1024x256 .bf16) (x7 : Vec F S11x256x1024 .bf16) (G : BufTy.Contents (Elt F) arg11.view.ty)
    (hG : View.read (Elt F) arg11.view G = k0_pay3) (k : ℕ) (hk : k ≤ k0_t1_loop.trips) :
    View.read (Elt F) arg11.view (arg11.view.writes (Elt F) G
      (pb_k0_t1 Variants.none c none i arg1 harg1 arg2 harg2 arg3 harg3 arg4 harg4 arg5 harg5 arg6 harg6 arg7 harg7 arg8 harg8 arg9 harg9 arg10 harg10 arg11 harg11 v0 v2 v3 v7 v8 v12 (harg6.unread x5) (harg7.unread x6) (harg8.unread x7) G k)) = acc v0 v2 v3 v7 v8 v12 x5 x6 x7 k := by
  induction k with
  | zero => exact hG
  | succ n ih =>
    have ih := ih (by omega)
    rw [show n + 1 = (⟨n, by omega⟩ : Fin k0_t1_loop.trips).val + 1 from rfl, pb_k0_t1_succ,
      trip_eq (a := acc v0 v2 v3 v7 v8 v12 x5 x6 x7 n) (ha := ih)]
    rw [List.singleton_append]
    rw [View.read_writes_full (s := S512x1024)]
    rw [acc, dif_pos (show n < k0_t1_loop.trips by omega)]

/-- The two halves of the projection weight, as the body loads them. -/
def woA (x3 : Vec F S1024x1024 .bf16) : Vec F S512x1024 .bf16 := View.ld x3 (Rect.unit ![0, 0] ![512, 1024] inb_S1024x1024_S512x1024_0_0)
def woB (x3 : Vec F S1024x1024 .bf16) : Vec F S512x1024 .bf16 := View.ld x3 (Rect.unit ![512, 0] ![512, 1024] inb_S1024x1024_S512x1024_512_0)

/-- The block the body leaves: the final normalization of the residual stream plus the whole accumulator. -/
theorem out_eq (x0 : Vec F S512x1024 .f32) (x1 : Vec F S512x512 .bf16) (x2 : Vec F S512x512 .bf16) (x3 : Vec F S1024x1024 .bf16)
    (x4 : Vec F S1x1024 .f32) (x5 : Vec F S11x1024x256 .bf16) (x6 : Vec F S11x1024x256 .bf16) (x7 : Vec F S11x256x1024 .bf16) (x8 : Vec F S1x1024 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8
      = k0_pay1 (k0_pay2 x0 x1 (woA x3) x2 (woB x3)) (acc x0 x1 (woA x3) x2 (woB x3) x4 x5 x6 x7 k0_t1_loop.trips) x8 := by
  have hc := cover0_A_9 c i arg1 harg1 arg2 harg2 arg3 harg3 arg4 harg4 arg5 harg5 arg6 harg6 arg7 harg7 arg8 harg8 arg9 harg9 arg10 harg10 arg11 harg11 x0 x1 x2 x3 x4 x5 x6 x7 x8
  unfold out0_A_9
  rw [View.read_writes_eq_canon _ _ _ hc]
  unfold kernelRun0_A
  dsimp only
  sl_unfold_words
  rw [View.canon_unit_zero (S := S512x1024) hz]
  simp only [View.readAt_eq_ld, harg1.read_unread, harg2.read_unread, harg3.read_unread, harg4.read_unread, harg5.read_unread, harg9.read_unread, View.ld_unit_zero (S := S512x1024) hz, View.ld_unit_zero (S := S512x512) hz, View.ld_unit_zero (S := S1x1024) hz]
  refine congrArg (fun a => k0_pay1 _ a x8) ?_
  have h0 : View.read (Elt F) arg11.view (arg11.view.writes (Elt F) arg11.view.junk [⟨Rect.unit ![0, 0] ![512, 1024] inb_S512x1024_S512x1024_0_0, k0_pay3⟩]) = k0_pay3 :=
    View.read_writes_full (s := S512x1024) _ _ _ _ _
  refine Eq.trans ?_ (acc_read c i arg1 harg1 arg2 harg2 arg3 harg3 arg4 harg4 arg5 harg5 arg6 harg6 arg7 harg7 arg8 harg8 arg9 harg9 arg10 harg10 arg11 harg11 x0 x1 (woA x3) x2 (woB x3) x4 x5 x6 x7 _ h0 k0_t1_loop.trips le_rfl)
  unfold View.readCov
  rw [View.writes_append, View.readAt_full (s := S512x1024)]
  rfl
end

end Cert.Kernel2Ideal.Ffn
end
-- ==== Proof.FfnMath.lean ====
module

public import proofs.«01_k».proof.Proof.Gen.Kernel2Ideal.Skeleton
public import proofs.«01_k».proof.Proof.Gen.Reference2Ideal.Read
public import Idealize.ShloMosaic.Lib.Pointwise

/-! # The projection and feed-forward call on one token

The functions below are one token's arithmetic over the extended reals. The kernel's payloads and the reference's values are both
read at an index as these functions of the rows they load. -/

@[expose] public section

set_option maxRecDepth 16384

noncomputable section

open Idealize.ShloMosaic Idealize.ShloMosaic.TcCoe Idealize.SL.Sem

namespace Cert.Ffn

/-- The residual stream: a token's row plus its attention and convolution halves times the two halves of the weight. -/
def resid (x : Fin 1024 → EReal) (a b : Fin 512 → EReal) (wa wb : Fin 512 → Fin 1024 → EReal) (c : Fin 1024) : EReal :=
  x c + ∑ k, a k * wa k c + ∑ k, b k * wb k c

/-- Root-mean-square normalization of a row with a gain. -/
def nrm (h g : Fin 1024 → EReal) (c : Fin 1024) : EReal :=
  h c * Ideal.rsqrt (Ideal.div (∑ x, h x * h x) (Ideal.ofBits FTy.f32 1149239296#32) + Ideal.ofBits FTy.f32 897988541#32) * g c

/-- One hidden unit: the gate's `silu` times the up projection. -/
def hid (u wg wu : Fin 1024 → EReal) : EReal :=
  (∑ x, u x * wg x) * Ideal.logistic (∑ x, u x * wg x) * ∑ x, u x * wu x

end Cert.Ffn

namespace Cert.Kernel2Ideal.Ffn

open Cert.Kernel2Ideal Cert.Kernel2Ideal.Gen Cert.Ffn

theorem pay2_at (v0 : Vec Ideal S512x1024 .f32) (v2 : Vec Ideal S512x512 .bf16) (v3 : Vec Ideal S512x1024 .bf16) (v7 : Vec Ideal S512x512 .bf16) (v8 : Vec Ideal S512x1024 .bf16) (r : Fin 512) (c : Fin 1024) :
    k0_pay2 (F := Ideal) v0 v2 v3 v7 v8 (ix2 r c)
      = resid (fun x => v0 (ix2 r x)) (fun k => v2 (ix2 r k)) (fun k => v7 (ix2 r k)) (fun k x => v3 (ix2 k x)) (fun k x => v8 (ix2 k x)) c := by
  pointwise [k0_pay2]
  rfl

theorem pay1_at (h a : Vec Ideal S512x1024 .f32) (g : Vec Ideal S1x1024 .f32) (r : Fin 512) (c : Fin 1024) :
    k0_pay1 (F := Ideal) h a g (ix2 r c) = nrm (fun x => (h (ix2 r x) + a (ix2 r x) : EReal)) (fun x => g (ix2 0 x)) c := by
  pointwise [k0_pay1]
  rfl

theorem pay3_at (r : Fin 512) (c : Fin 1024) : k0_pay3 (F := Ideal) (ix2 r c) = (0 : EReal) := by
  pointwise [k0_pay3]

theorem pay4_at (v0 : Vec Ideal S512x1024 .f32) (v2 : Vec Ideal S512x512 .bf16) (v3 : Vec Ideal S512x1024 .bf16) (v7 : Vec Ideal S512x512 .bf16) (v8 : Vec Ideal S512x1024 .bf16) (g : Vec Ideal S1x1024 .f32)
   (wg wu : Vec Ideal S1x1024x256 .bf16) (a : Vec Ideal S512x1024 .f32) (wd : Vec Ideal S1x256x1024 .bf16) (r : Fin 512) (c : Fin 1024) :
    k0_pay4 (F := Ideal) v0 v2 v3 v7 v8 g wg wu a wd (ix2 r c)
      = (a (ix2 r c) + ∑ j : Fin 256, hid (nrm (fun x => k0_pay2 (F := Ideal) v0 v2 v3 v7 v8 (ix2 r x)) (fun x => g (ix2 0 x)))
          (fun x => wg (ix3 0 x j)) (fun x => wu (ix3 0 x j)) * wd (ix3 0 j c) : EReal) := by
  pointwise [k0_pay4]
  rfl

end Cert.Kernel2Ideal.Ffn

namespace Cert.Reference2Ideal.Ffn

open Cert.Reference2Ideal Cert.Reference2Ideal.Gen Cert.Reference2Ideal.Read Cert.Ffn

section
variable (x0 : (⟨S16x2048x1024, .f32⟩ : BufTy).Contents (Elt Ideal)) (x1 x2 : (⟨S32768x512, .bf16⟩ : BufTy).Contents (Elt Ideal)) (x3 : (⟨S1024x1024, .f32⟩ : BufTy).Contents (Elt Ideal)) (x4 : (⟨S1024, .f32⟩ : BufTy).Contents (Elt Ideal)) (x5 x6 : (⟨S1024x2816, .f32⟩ : BufTy).Contents (Elt Ideal)) (x7 : (⟨S2816x1024, .f32⟩ : BufTy).Contents (Elt Ideal)) (x8 : (⟨S1024, .f32⟩ : BufTy).Contents (Elt Ideal))

/-- The row of the token `(b, s)` in the flattened arrays. -/
abbrev tok (b : Fin 16) (s : Fin 2048) : Fin 32768 := ⟨b.val * 2048 + s.val, by omega⟩

theorem v6_at (b : Fin 16) (s : Fin 2048) (c : Fin 1024) :
    val_main_v6 (F := Ideal) x0 x1 x2 x3 (ix3 b s c)
      = resid (fun x => x0 (ix3 b s x)) (fun k => x1 (ix2 (tok b s) k)) (fun k => x2 (ix2 (tok b s) k))
          (fun k x => x3 (ix2 ⟨k.val, by omega⟩ x)) (fun k x => x3 (ix2 ⟨512 + k.val, by omega⟩ x)) c := by
  pointwise [val_main_v6, val_main_v5, val_main_v4, val_main_v3, val_main_v2, val_main_v1, val_main_v0]
  unfold resid
  rw [add_assoc]

theorem v19_at (b : Fin 16) (s : Fin 2048) (c : Fin 1024) :
    val_main_v19 (F := Ideal) x0 x1 x2 x3 x4 (ix3 b s c)
      = nrm (fun x => val_main_v6 (F := Ideal) x0 x1 x2 x3 (ix3 b s x)) (fun x => x4 (ix1 x)) c := by
  pointwise [val_main_v19, val_main_v18, val_main_v17, val_main_v16, val_main_v15, val_main_v14, val_main_v13, val_main_v12, val_main_v11, val_main_v10, val_main_v9, val_main_v8, val_main_v7, val_main_cst, val_main_cst_0, val_main_cst_1]
  unfold nrm
  first | rfl | (rw [zero_add]; rfl)

theorem v23_at (b : Fin 16) (s : Fin 2048) (j : Fin 2816) :
    val_main_v23 (F := Ideal) x0 x1 x2 x3 x4 x5 x6 (ix3 b s j)
      = hid (fun x => val_main_v19 (F := Ideal) x0 x1 x2 x3 x4 (ix3 b s x)) (fun x => x5 (ix2 x j)) (fun x => x6 (ix2 x j)) := by
  pointwise [val_main_v23, val_main_v22, val_main_v21, val_main_v20, val_main_call0_v5, val_main_call0_v4, val_main_call0_v3, val_main_call0_v2, val_main_call0_v1, val_main_call0_v0, val_main_call0_cst, val_main_call0_cst_0]
  rfl

theorem v25_at (b : Fin 16) (s : Fin 2048) (c : Fin 1024) :
    val_main_v25 (F := Ideal) x0 x1 x2 x3 x4 x5 x6 x7 (ix3 b s c)
      = (val_main_v6 (F := Ideal) x0 x1 x2 x3 (ix3 b s c) + ∑ j : Fin 2816, val_main_v23 (F := Ideal) x0 x1 x2 x3 x4 x5 x6 (ix3 b s j) * x7 (ix2 j c) : EReal) := by
  pointwise [val_main_v25, val_main_v24]

theorem v38_at (b : Fin 16) (s : Fin 2048) (c : Fin 1024) :
    val_main_v38 (F := Ideal) x0 x1 x2 x3 x4 x5 x6 x7 x8 (ix3 b s c)
      = nrm (fun x => val_main_v25 (F := Ideal) x0 x1 x2 x3 x4 x5 x6 x7 (ix3 b s x)) (fun x => x8 (ix1 x)) c := by
  pointwise [val_main_v38, val_main_v37, val_main_v36, val_main_v35, val_main_v34, val_main_v33, val_main_v32, val_main_v31, val_main_v30, val_main_v29, val_main_v28, val_main_v27, val_main_v26, val_main_cst_2, val_main_cst_3, val_main_cst_4]
  unfold nrm
  first | rfl | (rw [zero_add]; rfl)

theorem v39_at (b : Fin 16) (s : Fin 2048) (c : Fin 1024) :
    val_main_v39 (F := Ideal) x0 x1 x2 x3 x4 x5 x6 x7 x8 (ix2 (tok b s) c) = val_main_v38 (F := Ideal) x0 x1 x2 x3 x4 x5 x6 x7 x8 (ix3 b s c) := by
  rw [val_main_v39_apply]
  refine congrArg _ (funext fun a => Fin.ext ?_)
  match a with
  | ⟨0, _⟩ => show ((b.val * 2048 + s.val) * 1024 + c.val) / 2097152 = b.val; omega
  | ⟨1, _⟩ => show ((b.val * 2048 + s.val) * 1024 + c.val) / 1024 % 2048 = s.val; omega
  | ⟨2, _⟩ => show ((b.val * 2048 + s.val) * 1024 + c.val) % 1024 = c.val; omega

end

end Cert.Reference2Ideal.Ffn
end
-- ==== Proof.FfnValue.lean ====
module

public import proofs.«01_k».proof.Proof.FfnBody
public import proofs.«01_k».proof.Proof.FfnMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen Cert.Ffn

/-! ## The accumulator as one sum -/

section
variable (v0 : Vec Ideal S512x1024 .f32) (v2 : Vec Ideal S512x512 .bf16) (v3 : Vec Ideal S512x1024 .bf16) (v7 : Vec Ideal S512x512 .bf16) (v8 : Vec Ideal S512x1024 .bf16) (v12 : Vec Ideal S1x1024 .f32)
    (x5 : Vec Ideal S11x1024x256 .bf16) (x6 : Vec Ideal S11x1024x256 .bf16) (x7 : Vec Ideal S11x256x1024 .bf16)

/-- The normalized row the hidden units read. -/
abbrev urow (r : Fin 512) : Fin 1024 → EReal := nrm (fun x => k0_pay2 (F := Ideal) v0 v2 v3 v7 v8 (ix2 r x)) (fun x => v12 (ix2 0 x))

/-- Slice `k`'s contribution to the accumulator. -/
abbrev part (r : Fin 512) (c : Fin 1024) (k : Fin 11) : EReal :=
  ∑ j : Fin 256, hid (urow v0 v2 v3 v7 v8 v12 r) (fun x => x5 (ix3 k x j)) (fun x => x6 (ix3 k x j)) * x7 (ix3 k j c)

theorem turn_at (k : Fin k0_t1_loop.trips) (a : Vec Ideal S512x1024 .f32) (r : Fin 512) (c : Fin 1024) :
    turn v0 v2 v3 v7 v8 v12 x5 x6 x7 k a (ix2 r c) = (a (ix2 r c) + part v0 v2 v3 v7 v8 v12 x5 x6 x7 r c ⟨k.val, k.isLt⟩ : EReal) := by
  unfold turn
  rw [pay4_at]
  pointwise [part, k0_off1_eq, k0_off2_eq]

theorem acc_at (r : Fin 512) (c : Fin 1024) (n : ℕ) (hn : n ≤ 11) :
    acc v0 v2 v3 v7 v8 v12 x5 x6 x7 n (ix2 r c) = ∑ k : Fin n, part v0 v2 v3 v7 v8 v12 x5 x6 x7 r c ⟨k.val, by omega⟩ := by
  induction n with
  | zero => exact pay3_at r c
  | succ n ih =>
    rw [acc, dif_pos (show n < k0_t1_loop.trips from hn), turn_at, ih (by omega), Fin.sum_univ_castSucc]
    rfl

end

/-! ## The blocks and the host's prefix -/

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0, 0] ∧ win0_6.index t = ![0, 0, 0] ∧ win0_7.index t = ![0, 0, 0] ∧ win0_8.index t = ![0, 0] ∧ win0_9.index t = ![t.val, 0] :=
  (by decide +kernel : ∀ t : Fin grid0.N, _)

theorem blk0_at (c : Dev nD) (t : Fin cfg0.N) (r : Fin 512) (x : Fin 1024) (b : Fin 16) (s : Fin 2048) (h : b.val * 2048 + s.val = t.val * 512 + r.val) :
    iblk m c 0 t (ix2 r x) = m ((c : Thread nD τ).loc main_arg0) (ix3 b s x) := by
  blk_simp [iblk, idx t]
  entry_read
  pointwise
  have hb := b.isLt
  have hs := s.isLt
  blk_ext [idx t]

theorem blk1_at (c : Dev nD) (t : Fin cfg0.N) (r : Fin 512) (x : Fin 512) (b : Fin 16) (s : Fin 2048) (h : b.val * 2048 + s.val = t.val * 512 + r.val) :
    iblk m c 1 t (ix2 r x) = m ((c : Thread nD τ).loc main_arg1) (ix2 (Cert.Reference2Ideal.Ffn.tok b s) x) := by
  blk_ext [iblk, V, idx t]

theorem blk2_at (c : Dev nD) (t : Fin cfg0.N) (r : Fin 512) (x : Fin 512) (b : Fin 16) (s : Fin 2048) (h : b.val * 2048 + s.val = t.val * 512 + r.val) :
    iblk m c 2 t (ix2 r x) = m ((c : Thread nD τ).loc main_arg2) (ix2 (Cert.Reference2Ideal.Ffn.tok b s) x) := by
  blk_ext [iblk, V, idx t]

theorem blk3_at (c : Dev nD) (t : Fin cfg0.N) (r : Fin 1024) (x : Fin 1024) :
    iblk m c 3 t (ix2 r x) = m ((c : Thread nD τ).loc main_arg3) (ix2 r x) := by
  blk_simp [iblk, idx t]
  entry_read
  pointwise
  blk_ext [idx t]

theorem blk4_at (c : Dev nD) (t : Fin cfg0.N) (x : Fin 1024) :
    iblk m c 4 t (ix2 0 x) = m ((c : Thread nD τ).loc main_arg4) (ix1 x) := by
  blk_simp [iblk, idx t]
  entry_read
  pointwise
  blk_ext [idx t]

theorem blk5_at (c : Dev nD) (t : Fin cfg0.N) (k : Fin 11) (x : Fin 1024) (j : Fin 256) :
    iblk m c 5 t (ix3 k x j) = m ((c : Thread nD τ).loc main_arg5) (ix2 x ⟨k.val * 256 + j.val, by omega⟩) := by
  blk_simp [iblk, idx t]
  entry_read
  pointwise
  blk_ext [idx t]

theorem blk6_at (c : Dev nD) (t : Fin cfg0.N) (k : Fin 11) (x : Fin 1024) (j : Fin 256) :
    iblk m c 6 t (ix3 k x j) = m ((c : Thread nD τ).loc main_arg6) (ix2 x ⟨k.val * 256 + j.val, by omega⟩) := by
  blk_simp [iblk, idx t]
  entry_read
  pointwise
  blk_ext [idx t]

theorem blk7_at (c : Dev nD) (t : Fin cfg0.N) (k : Fin 11) (j : Fin 256) (x : Fin 1024) :
    iblk m c 7 t (ix3 k j x) = m ((c : Thread nD τ).loc main_arg7) (ix2 ⟨k.val * 256 + j.val, by omega⟩ x) := by
  blk_simp [iblk, idx t]
  entry_read
  pointwise
  blk_ext [idx t]

theorem blk8_at (c : Dev nD) (t : Fin cfg0.N) (x : Fin 1024) :
    iblk m c 8 t (ix2 0 x) = m ((c : Thread nD τ).loc main_arg8) (ix1 x) := by
  blk_simp [iblk, idx t]
  entry_read
  pointwise
  blk_ext [idx t]

theorem woA_at (w : Vec Ideal S1024x1024 .bf16) (k : Fin 512) (x : Fin 1024) : woA w (ix2 k x) = w (ix2 ⟨k.val, by omega⟩ x) := by
  pointwise [woA]
theorem woB_at (w : Vec Ideal S1024x1024 .bf16) (k : Fin 512) (x : Fin 1024) : woB w (ix2 k x) = w (ix2 ⟨512 + k.val, by omega⟩ x) := by
  pointwise [woB]

/-! ## The block of a point and the reference's rows -/

section
variable (c : Dev nD) (t : Fin cfg0.N) (r : Fin 512) (b : Fin 16) (s : Fin 2048) (h : b.val * 2048 + s.val = t.val * 512 + r.val)

/-- The reference's value over the kernel's arguments. -/
abbrev REF (c : Dev nD) : (⟨Cert.Reference2Ideal.S32768x1024, .f32⟩ : BufTy).Contents (Elt Ideal) :=
  Cert.Reference2Ideal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

include h in
theorem resid_eq (x : Fin 1024) :
    k0_pay2 (F := Ideal) (iblk m c 0 t) (iblk m c 1 t) (woA (iblk m c 3 t)) (iblk m c 2 t) (woB (iblk m c 3 t)) (ix2 r x)
      = Cert.Reference2Ideal.Read.val_main_v6 (F := Ideal) (m ((c : Thread nD τ).loc main_arg0)) (m ((c : Thread nD τ).loc main_arg1)) (m ((c : Thread nD τ).loc main_arg2)) (m ((c : Thread nD τ).loc main_arg3)) (ix3 b s x) := by
  rw [pay2_at]
  refine Eq.trans ?_ (Cert.Reference2Ideal.Ffn.v6_at _ _ _ _ b s x).symm
  have e0 : (fun x => iblk m c 0 t (ix2 r x)) = fun x => m ((c : Thread nD τ).loc main_arg0) (ix3 b s x) := funext fun x => blk0_at m c t r x b s h
  have e1 : (fun x => iblk m c 1 t (ix2 r x)) = fun x => m ((c : Thread nD τ).loc main_arg1) (ix2 (Cert.Reference2Ideal.Ffn.tok b s) x) := funext fun x => blk1_at m c t r x b s h
  have e2 : (fun x => iblk m c 2 t (ix2 r x)) = fun x => m ((c : Thread nD τ).loc main_arg2) (ix2 (Cert.Reference2Ideal.Ffn.tok b s) x) := funext fun x => blk2_at m c t r x b s h
  have eA : (fun k x => woA (iblk m c 3 t) (ix2 k x)) = fun (k : Fin 512) (x : Fin 1024) => m ((c : Thread nD τ).loc main_arg3) (ix2 ⟨k.val, by omega⟩ x) :=
    funext fun k => funext fun x => (woA_at _ k x).trans (blk3_at m c t _ x)
  have eB : (fun k x => woB (iblk m c 3 t) (ix2 k x)) = fun (k : Fin 512) (x : Fin 1024) => m ((c : Thread nD τ).loc main_arg3) (ix2 ⟨512 + k.val, by omega⟩ x) :=
    funext fun k => funext fun x => (woB_at _ k x).trans (blk3_at m c t _ x)
  exact congr (congr (congr (congr (congr (congrArg resid e0) e1) e2) eA) eB) rfl

include h in
theorem urow_eq :
    urow (iblk m c 0 t) (iblk m c 1 t) (woA (iblk m c 3 t)) (iblk m c 2 t) (woB (iblk m c 3 t)) (iblk m c 4 t) r
      = fun x => Cert.Reference2Ideal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 b s x) := by
  funext x
  refine Eq.trans ?_ (Cert.Reference2Ideal.Ffn.v19_at _ _ _ _ _ b s x).symm
  exact congr (congr (congrArg nrm (funext fun x => resid_eq m c t r b s h x)) (funext fun x => blk4_at m c t x)) rfl

include h in
theorem acc_eq (q : Fin 1024) :
    acc (iblk m c 0 t) (iblk m c 1 t) (woA (iblk m c 3 t)) (iblk m c 2 t) (woB (iblk m c 3 t)) (iblk m c 4 t) (iblk m c 5 t) (iblk m c 6 t) (iblk m c 7 t) k0_t1_loop.trips (ix2 r q)
      = (∑ j : Fin 2816, Cert.Reference2Ideal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s j)
          * m ((c : Thread nD τ).loc main_arg7) (ix2 j q) : EReal) := by
  refine (acc_at _ _ _ _ _ _ _ _ _ r q 11 le_rfl).trans ?_
  refine Eq.trans ?_ (Fin.sum_univ_tiles 11 256 rfl _).symm
  refine Finset.sum_congr rfl fun k _ => Finset.sum_congr rfl fun j _ => ?_
  refine Ideal.mul_congr ?_ (blk7_at m c t k j q)
  refine Eq.trans ?_ (Cert.Reference2Ideal.Ffn.v23_at _ _ _ _ _ _ _ b s _).symm
  exact congr (congr (congrArg hid (urow_eq m c t r b s h)) (funext fun x => blk5_at m c t k x j)) (funext fun x => blk6_at m c t k x j)

include h in
theorem point (q : Fin 1024) :
    k0_pay1 (F := Ideal) (k0_pay2 (F := Ideal) (iblk m c 0 t) (iblk m c 1 t) (woA (iblk m c 3 t)) (iblk m c 2 t) (woB (iblk m c 3 t)))
        (acc (iblk m c 0 t) (iblk m c 1 t) (woA (iblk m c 3 t)) (iblk m c 2 t) (woB (iblk m c 3 t)) (iblk m c 4 t) (iblk m c 5 t) (iblk m c 6 t) (iblk m c 7 t) k0_t1_loop.trips)
        (iblk m c 8 t) (ix2 r q)
      = REF m c (ix2 (Cert.Reference2Ideal.Ffn.tok b s) q) := by
  rw [pay1_at]
  refine Eq.trans ?_ ((Cert.Reference2Ideal.Ffn.v39_at _ _ _ _ _ _ _ _ _ b s q).trans (Cert.Reference2Ideal.Ffn.v38_at _ _ _ _ _ _ _ _ _ b s q)).symm
  refine congr (congr (congrArg nrm (funext fun x => ?_)) (funext fun x => blk8_at m c t x)) rfl
  refine Eq.trans ?_ (Cert.Reference2Ideal.Ffn.v25_at _ _ _ _ _ _ _ _ b s x).symm
  exact Ideal.add_congr (resid_eq m c t r b s h x) (acc_eq m c t r b s h x)
end

/-- The result array after the run is the reference's. -/
theorem final (c : Dev nD) : (dats m 0 c).arrAt 9 (cfgs 0).N = REF m c := by
  refine (dats m 0 c).arrAt_eq_of_covers 9 _ (by decide +kernel) fun t _ y => ?_
  blk_simp
  rw [after0_9]
  unfold outsAt0
  rw [out_eq]
  obtain ⟨r, q, rfl⟩ : ∃ (r : Fin 512) (q : Fin 1024), y = (ix2 r q : S512x1024.Idx) := ⟨y 0, y 1, eq_ix2 y⟩
  have ht : t.val < 64 := t.isLt
  refine (point m c t r ⟨(t.val * 512 + r.val) / 2048, by omega⟩ ⟨(t.val * 512 + r.val) % 2048, by omega⟩ (by simp only; omega) q).trans ?_
  refine congrArg _ ?_
  blk_ext [idx t]

end Cert.Kernel2Ideal.Ffn
end
-- ==== Proof.FfnClaims.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.FfnValue
public import Idealize.ShloMosaic.Adequacy
public import Idealize.ShloMosaic.Init

@[expose] public section

noncomputable section

/-! The claims about the projection and feed-forward call. -/

namespace Cert.Proof.Ffn

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ hag
  refine ⟨fun c => (Cert.Kernel2Ideal.Gen.dats m 0 c).arrAt 9 Cert.Kernel2Ideal.cfg0.N, Cert.Kernel2Ideal.Value.run_blocks m g, ?_⟩
  refine (θ_run Cert.Reference2Ideal.defs _ _).mono (fun r h c => ⟨(h c).1.trans ?_, (h c).2⟩)
    (Cert.Reference2Ideal.Value.run (F := Ideal) m' g')
  obtain ⟨h0, h1, h2, h3, h4, h5, h6, h7, h8⟩ := hag c
  rw [Cert.Reference2Ideal.Read.val_main_v39_eq, h0, h1, h2, h3, h4, h5, h6, h7, h8]
  exact (Cert.Kernel2Ideal.Ffn.final m c).symm

end Cert.Proof.Ffn

end
-- ==== Proof.InprojMath.lean ====
module

public import proofs.«01_k».proof.Proof.Gen.Kernel3Ideal.Value
public import proofs.«01_k».proof.Proof.Gen.Reference3Ideal.Read
public import proofs.«01_k».proof.Proof.FfnMath

/-! # The input projection on one token

The normalized row of a token times one column of the weight is what every result of this call is made of. The kernel's payloads and
the reference's values are both read at an index as that product. -/

@[expose] public section

set_option maxRecDepth 16384

noncomputable section

open Idealize.ShloMosaic Idealize.ShloMosaic.TcCoe Idealize.SL.Sem

namespace Cert.Inproj

/-- A token's normalized row times one column of the weight. -/
def proj (x g w : Fin 1024 → EReal) : EReal := ∑ j, Cert.Ffn.nrm x g j * w j

/-- The scale the queries are multiplied by. -/
abbrev scale : EReal := Ideal.ofBits FTy.f32 1040187392#32

/-- The number of keys a mean is taken over. -/
abbrev count : EReal := Ideal.ofBits FTy.f32 1132462080#32

/-- The row of the token `(b, s)` in the flattened arrays. -/
abbrev tok (b : Fin 16) (s : Fin 2048) : Fin 32768 := ⟨b.val * 2048 + s.val, by omega⟩

end Cert.Inproj

namespace Cert.Kernel3Ideal.Inproj

open Cert.Kernel3Ideal Cert.Kernel3Ideal.Gen Cert.Inproj

section
variable (v0 : Vec Ideal S512x1024 .f32) (v2 : Vec Ideal S1x1024 .f32)

theorem pay6_at (r : Fin 512) (c : Fin 1024) :
    k0_pay6 (F := Ideal) v0 v2 (ix2 r c) = Cert.Ffn.nrm (fun x => v0 (ix2 r x)) (fun x => v2 (ix2 0 x)) c := by
  pointwise [k0_pay6]
  rfl

theorem pay7_at (w : Vec Ideal S1024x512 .bf16) (r : Fin 512) (c : Fin 512) :
    k0_pay7 (F := Ideal) v0 v2 w (ix2 r c) = (proj (fun x => v0 (ix2 r x)) (fun x => v2 (ix2 0 x)) (fun x => w (ix2 x c)) * scale : EReal) := by
  unfold proj
  simp only [← pay6_at]
  pointwise [k0_pay7]

theorem pay8_at (w : Vec Ideal S1024x512 .bf16) (r : Fin 512) (c : Fin 512) :
    k0_pay8 (F := Ideal) v0 v2 w (ix2 r c) = proj (fun x => v0 (ix2 r x)) (fun x => v2 (ix2 0 x)) (fun x => w (ix2 x c)) := by
  unfold proj
  simp only [← pay6_at]
  pointwise [k0_pay8]

theorem pay9_at (w : Vec Ideal S1024x512 .bf16) (r : Fin 512) (c : Fin 512) :
    k0_pay9 (F := Ideal) v0 v2 w (ix2 r c) = proj (fun x => v0 (ix2 r x)) (fun x => v2 (ix2 0 x)) (fun x => w (ix2 x c)) := by
  rw [← pay8_at]
  rfl

theorem pay1_at (w : Vec Ideal S1024x512 .bf16) (e : Fin 2) (c : Fin 512) :
    k0_pay1 (F := Ideal) (k0_pay10 v0 v2 w) (ix3 0 e c)
      = Ideal.div (∑ j : Fin 256, proj (fun x => v0 (ix2 ⟨e.val * 256 + j.val, by omega⟩ x)) (fun x => v2 (ix2 0 x)) (fun x => w (ix2 x c))) count := by
  simp only [← pay8_at]
  pointwise [k0_pay1, k0_pay10]

theorem pay5_at (w z : Vec Ideal S1024x512 .bf16) (r : Fin 512) (c : Fin 512) :
    k0_pay5 (F := Ideal) (k0_pay6 v0 v2) w z (ix2 r c)
      = (proj (fun x => v0 (ix2 r x)) (fun x => v2 (ix2 0 x)) (fun x => w (ix2 x c))
          * Ideal.logistic (proj (fun x => v0 (ix2 r x)) (fun x => v2 (ix2 0 x)) (fun x => z (ix2 x c))) : EReal) := by
  unfold proj
  simp only [← pay6_at]
  pointwise [k0_pay5]

theorem pay3_at (w : Vec Ideal S512x1024 .bf16) (d : Fin 512) (j : Fin 256) :
    k0_pay3 (F := Ideal) (k0_pay6 v0 v2) w (ix4 0 0 d j)
      = proj (fun x => v0 (ix2 ⟨j.val, by omega⟩ x)) (fun x => v2 (ix2 0 x)) (fun x => w (ix2 d x)) := by
  unfold proj
  simp only [← pay6_at]
  pointwise [k0_pay3, k0_pay2]
  exact Finset.sum_congr rfl fun x _ => mul_comm _ _

theorem pay4_at (w : Vec Ideal S512x1024 .bf16) (d : Fin 512) (j : Fin 256) :
    k0_pay4 (F := Ideal) (k0_pay6 v0 v2) w (ix4 0 0 d j)
      = proj (fun x => v0 (ix2 ⟨256 + j.val, by omega⟩ x)) (fun x => v2 (ix2 0 x)) (fun x => w (ix2 d x)) := by
  unfold proj
  simp only [← pay6_at]
  pointwise [k0_pay4, k0_pay2]
  exact Finset.sum_congr rfl fun x _ => mul_comm _ _

end

end Cert.Kernel3Ideal.Inproj

namespace Cert.Reference3Ideal.Inproj

open Cert.Reference3Ideal Cert.Reference3Ideal.Gen Cert.Reference3Ideal.Read Cert.Inproj

section
variable (x0 : (⟨S16x2048x1024, .f32⟩ : BufTy).Contents (Elt Ideal)) (x1 : (⟨S1024, .f32⟩ : BufTy).Contents (Elt Ideal)) (x2 : (⟨S1024x2560, .f32⟩ : BufTy).Contents (Elt Ideal))

theorem tdiv (b : Fin 16) (s : Fin 2048) : (b.val * 2048 + s.val) / 2048 = b.val := by omega
theorem tmod (b : Fin 16) (s : Fin 2048) : (b.val * 2048 + s.val) % 2048 = s.val := by omega

/-- The projection of token `(b, s)` at column `c`. -/
abbrev P (b : Fin 16) (s : Fin 2048) (c : Fin 2560) : EReal :=
  proj (fun x => x0 (ix3 b s x)) (fun x => x1 (ix1 x)) (fun x => x2 (ix2 x c))

theorem v12_at (b : Fin 16) (s : Fin 2048) (c : Fin 1024) :
    val_main_v12 (F := Ideal) x0 x1 (ix3 b s c) = Cert.Ffn.nrm (fun x => x0 (ix3 b s x)) (fun x => x1 (ix1 x)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  unfold Cert.Ffn.nrm
  first | rfl | (rw [zero_add]; rfl)

theorem v13_at (b : Fin 16) (s : Fin 2048) (c : Fin 2560) :
    val_main_v13 (F := Ideal) x0 x1 x2 (ix3 b s c) = P x0 x1 x2 b s c := by
  unfold P proj
  simp only [← v12_at]
  pointwise [val_main_v13]

theorem v35_at (b : Fin 16) (s : Fin 2048) (c : Fin 512) :
    val_main_v35 (F := Ideal) x0 x1 x2 (ix2 (tok b s) c) = (P x0 x1 x2 b s ⟨c.val, by omega⟩ * scale : EReal) := by
  simp only [← v13_at]
  pointwise [val_main_v35, val_main_v34, val_main_v20, val_main_v19, val_main_cst_2, val_main_v14]
  simp only [tdiv, tmod, Fin.eta]

theorem v37_at (b : Fin 16) (s : Fin 2048) (c : Fin 512) :
    val_main_v37 (F := Ideal) x0 x1 x2 (ix2 (tok b s) c) = P x0 x1 x2 b s ⟨512 + c.val, by omega⟩ := by
  simp only [← v13_at]
  pointwise [val_main_v37, val_main_v36, val_main_v15]
  simp only [tdiv, tmod, Fin.eta]

theorem v38_at (b : Fin 16) (n : Fin 8) (d : Fin 512) (j : Fin 256) :
    val_main_v38 (F := Ideal) x0 x1 x2 (ix4 b n d j) = P x0 x1 x2 b ⟨n.val * 256 + j.val, by omega⟩ ⟨1024 + d.val, by omega⟩ := by
  simp only [← v13_at]
  pointwise [val_main_v38, val_main_v26, val_main_v25, val_main_v16]

theorem v40_at (b : Fin 16) (s : Fin 2048) (c : Fin 512) :
    val_main_v40 (F := Ideal) x0 x1 x2 (ix2 (tok b s) c)
      = (P x0 x1 x2 b s ⟨1536 + c.val, by omega⟩ * Ideal.logistic (P x0 x1 x2 b s ⟨2048 + c.val, by omega⟩) : EReal) := by
  simp only [← v13_at]
  pointwise [val_main_v40, val_main_v39, val_main_v33, val_main_v32, val_main_v31, val_main_v30, val_main_v29, val_main_v28, val_main_v27, val_main_v17, val_main_v18, val_main_cst_5, val_main_cst_6]
  simp only [tdiv, tmod, Fin.eta]
  rfl

theorem v24_at (b : Fin 16) (n : Fin 8) (c : Fin 512) :
    val_main_v24 (F := Ideal) x0 x1 x2 (ix3 b n c)
      = Ideal.div (∑ j : Fin 256, P x0 x1 x2 b ⟨n.val * 256 + j.val, by omega⟩ ⟨512 + c.val, by omega⟩) count := by
  simp only [← v13_at]
  pointwise [val_main_v24, val_main_v23, val_main_v22, val_main_v21, val_main_v15, val_main_cst_3, val_main_cst_4]

theorem v41_at (b : Fin 16) (n : Fin 8) (g : Fin 64) (e : Fin 2) (h : b.val * 8 + n.val = g.val * 2 + e.val) (c : Fin 512) :
    val_main_v41 (F := Ideal) x0 x1 x2 (ix3 g e c)
      = Ideal.div (∑ j : Fin 256, P x0 x1 x2 b ⟨n.val * 256 + j.val, by omega⟩ ⟨512 + c.val, by omega⟩) count := by
  rw [← v24_at]
  pointwise [val_main_v41]
  have eb : (⟨g.val / 4, by omega⟩ : Fin 16) = b := Fin.ext (by dsimp only; omega)
  have en : (⟨g.val % 4 * 2 + e.val, by omega⟩ : Fin 8) = n := Fin.ext (by dsimp only; omega)
  rw [eb, en]

end

end Cert.Reference3Ideal.Inproj
end
-- ==== Proof.InprojValue.lean ====
module

public import proofs.«01_k».proof.Proof.InprojMath
public import Idealize.ShloMosaic.Lib.Pipeline.ValueKit
public import Idealize.ShloMosaic.Lib.Claim
public import Idealize.ShloMosaic.Lib.VecWindow

@[expose] public section

set_option maxRecDepth 16384

noncomputable section

open Idealize.ShloMosaic Idealize.ShloMosaic.TcCoe Idealize.SL.Sem
open Idealize.ShloMosaic.Pipeline (Dat)

/-! # The input projection's five arrays -/

namespace Cert.Kernel3Ideal.Inproj

open Cert.Kernel3Ideal Cert.Kernel3Ideal.Gen Cert.Inproj

theorem hz : (![0, 0] : Fin 2 → Nat) = fun _ => 0 := funext fun a => by fin_cases a <;> rfl
theorem hz3 : (![0, 0, 0] : Fin 3 → Nat) = fun _ => 0 := funext fun a => by fin_cases a <;> rfl

theorem ix2_congr {a b : ℕ} {i i' : Fin a} {j j' : Fin b} (h : i.val = i'.val) (h' : j.val = j'.val) : ix2 i j = ix2 i' j' := by
  rw [Fin.ext h, Fin.ext h']

/-! ## What one point stores -/

section
variable (x0 : Vec Ideal S512x1024 .f32) (x1 : Vec Ideal S1x1024 .f32) (x2 : Vec Ideal S1024x2560 .bf16) (x3 : Vec Ideal S512x1024 .bf16)

/-- A row of the block times a column of the weight. -/
abbrev B (r : Fin 512) (w : Fin 1024 → EReal) : EReal := proj (fun x => x0 (ix2 r x)) (fun x => x1 (ix2 0 x)) w

theorem out4_at (r c : Fin 512) :
    out0_4 (F := Ideal) x0 x1 x2 x3 (ix2 r c) = (B x0 x1 r (fun x => x2 (ix2 x ⟨c.val, by omega⟩)) * scale : EReal) := by
  unfold out0_4
  rw [View.canon_unit_zero (S := S512x512) hz, View.ld_unit_zero (S := S512x1024) hz, View.ld_unit_zero (S := S1x1024) hz, pay7_at]
  pointwise

theorem out5_at (r c : Fin 512) :
    out0_5 (F := Ideal) x0 x1 x2 x3 (ix2 r c) = B x0 x1 r (fun x => x2 (ix2 x ⟨512 + c.val, by omega⟩)) := by
  unfold out0_5
  rw [View.canon_unit_zero (S := S512x512) hz, View.ld_unit_zero (S := S512x1024) hz, View.ld_unit_zero (S := S1x1024) hz, pay9_at]
  pointwise

theorem out7_at (r c : Fin 512) :
    out0_7 (F := Ideal) x0 x1 x2 x3 (ix2 r c)
      = (B x0 x1 r (fun x => x2 (ix2 x ⟨1536 + c.val, by omega⟩)) * Ideal.logistic (B x0 x1 r (fun x => x2 (ix2 x ⟨2048 + c.val, by omega⟩))) : EReal) := by
  unfold out0_7 k0_pay11
  rw [View.canon_unit_zero (S := S512x512) hz, View.ld_unit_zero (S := S512x1024) hz, View.ld_unit_zero (S := S1x1024) hz, pay5_at]
  pointwise

theorem out8_at (e : Fin 2) (c : Fin 512) :
    out0_8 (F := Ideal) x0 x1 x2 x3 (ix3 0 e c)
      = Ideal.div (∑ j : Fin 256, B x0 x1 ⟨e.val * 256 + j.val, by omega⟩ (fun x => x2 (ix2 x ⟨512 + c.val, by omega⟩))) count := by
  unfold out0_8
  rw [View.canon_unit_zero (S := S1x2x512) hz3, View.ld_unit_zero (S := S512x1024) hz, View.ld_unit_zero (S := S1x1024) hz, pay1_at]
  pointwise

theorem out6_at (e : Fin 2) (d : Fin 512) (j : Fin 256) :
    out0_6 (F := Ideal) x0 x1 x2 x3 (ix4 0 e d j) = B x0 x1 ⟨e.val * 256 + j.val, by omega⟩ (fun x => x3 (ix2 d x)) := by
  unfold out0_6 k0_pay11
  rw [View.ld_unit_zero (S := S512x1024) hz, View.ld_unit_zero (S := S1x1024) hz, View.ld_unit_zero (S := S512x1024) hz]
  refine (View.canon_apply_of_pieces
    (fun y => B x0 x1 ⟨(y 1).val * 256 + (y 3).val, by have h1 : (y 1).val < 2 := (y 1).isLt; have h3 : (y 3).val < 256 := (y 3).isLt; omega⟩ (fun x => x3 (ix2 (y 2) x)))
    _ ?_ _ (cover0_6 _ _ _)).trans rfl
  intro p hp x
  simp only [List.mem_cons, List.not_mem_nil, or_false] at hp
  rcases hp with rfl | rfl
  · obtain ⟨z, z', d, j, rfl⟩ : ∃ z z' d j, x = (ix4 z z' d j : S1x1x512x256.Idx) := ⟨x 0, x 1, x 2, x 3, eq_ix4 x⟩
    obtain rfl : z = 0 := Subsingleton.elim _ _
    obtain rfl : z' = 0 := Subsingleton.elim _ _
    refine (pay4_at _ _ _ d j).trans ?_
    refine congr (congrArg (fun f => proj f _) (funext fun k => congrArg x0 ?_)) (funext fun k => congrArg x3 ?_)
    · exact ix2_congr (by show 256 + j.val = (1 + 1 * 0) * 256 + (0 + 1 * j.val); omega) rfl
    · exact ix2_congr (by show d.val = 0 + 1 * d.val; omega) rfl
  · obtain ⟨z, z', d, j, rfl⟩ : ∃ z z' d j, x = (ix4 z z' d j : S1x1x512x256.Idx) := ⟨x 0, x 1, x 2, x 3, eq_ix4 x⟩
    obtain rfl : z = 0 := Subsingleton.elim _ _
    obtain rfl : z' = 0 := Subsingleton.elim _ _
    refine (pay3_at _ _ _ d j).trans ?_
    refine congr (congrArg (fun f => proj f _) (funext fun k => congrArg x0 ?_)) (funext fun k => congrArg x3 ?_)
    · exact ix2_congr (by show j.val = (0 + 1 * 0) * 256 + (0 + 1 * j.val); omega) rfl
    · exact ix2_congr (by show d.val = 0 + 1 * d.val; omega) rfl

end

/-! ## The blocks and the host's prefix -/

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val / 4, t.val % 4, 0, 0] ∧ win0_7.index t = ![t.val, 0] ∧ win0_8.index t = ![t.val, 0, 0] :=
  (by decide +kernel : ∀ t : Fin grid0.N, _)

theorem blk0_at (c : Dev nD) (t : Fin cfg0.N) (r : Fin 512) (x : Fin 1024) (b : Fin 16) (s : Fin 2048) (h : b.val * 2048 + s.val = t.val * 512 + r.val) :
    iblk m c 0 t (ix2 r x) = m ((c : Thread nD τ).loc main_arg0) (ix3 b s x) := by
  blk_simp [iblk, idx t]
  entry_read
  pointwise
  have hb := b.isLt
  have hs := s.isLt
  blk_ext [idx t]

theorem blk1_at (c : Dev nD) (t : Fin cfg0.N) (x : Fin 1024) :
    iblk m c 1 t (ix2 0 x) = m ((c : Thread nD τ).loc main_arg1) (ix1 x) := by
  blk_simp [iblk, idx t]
  entry_read
  pointwise
  blk_ext [idx t]

theorem blk2_at (c : Dev nD) (t : Fin cfg0.N) (r : Fin 1024) (x : Fin 2560) :
    iblk m c 2 t (ix2 r x) = m ((c : Thread nD τ).loc main_arg2) (ix2 r x) := by
  blk_simp [iblk, idx t]
  entry_read
  pointwise
  blk_ext [idx t]

theorem blk3_at (c : Dev nD) (t : Fin cfg0.N) (d : Fin 512) (x : Fin 1024) :
    iblk m c 3 t (ix2 d x) = m ((c : Thread nD τ).loc main_arg2) (ix2 x ⟨1024 + d.val, by omega⟩) := by
  blk_simp [iblk, idx t]
  entry_read
  pointwise
  blk_ext [idx t]

section
variable (c : Dev nD) (t : Fin cfg0.N) (r : Fin 512) (b : Fin 16) (s : Fin 2048) (h : b.val * 2048 + s.val = t.val * 512 + r.val)

/-- The reference's projection over the kernel's arguments. -/
abbrev RP (b : Fin 16) (s : Fin 2048) (k : Fin 2560) : EReal :=
  Cert.Reference3Ideal.Inproj.P (m ((c : Thread nD τ).loc main_arg0)) (m ((c : Thread nD τ).loc main_arg1)) (m ((c : Thread nD τ).loc main_arg2)) b s k

include h in
theorem B_eq (k : Fin 2560) (w : Fin 1024 → EReal) (hw : w = fun x => m ((c : Thread nD τ).loc main_arg2) (ix2 x k)) :
    B (iblk m c 0 t) (iblk m c 1 t) r w = RP m c b s k := by
  subst hw
  have e0 : (fun x => iblk m c 0 t (ix2 r x)) = fun x => m ((c : Thread nD τ).loc main_arg0) (ix3 b s x) := funext fun x => blk0_at m c t r x b s h
  have e1 : (fun x => iblk m c 1 t (ix2 0 x)) = fun x => m ((c : Thread nD τ).loc main_arg1) (ix1 x) := funext fun x => blk1_at m c t x
  exact congr (congr (congrArg proj e0) e1) rfl

end

theorem tokdiv (t : Fin cfg0.N) (r : Fin 512) : (t.val * 512 + r.val) / 2048 * 2048 + (t.val * 512 + r.val) % 2048 = t.val * 512 + r.val := by omega

/-- The batch and the position of row `r` of point `t`'s block. -/
abbrev bb (t : Fin cfg0.N) (r : Fin 512) : Fin 16 := ⟨(t.val * 512 + r.val) / 2048, by have h : t.val < 64 := t.isLt; omega⟩
abbrev ss (t : Fin cfg0.N) (r : Fin 512) : Fin 2048 := ⟨(t.val * 512 + r.val) % 2048, by omega⟩

open Cert.Reference3Ideal.Read Cert.Reference3Ideal.Inproj in
theorem final4 (c : Dev nD) : (dats m 0 c).arrAt 4 cfg0.N
    = val_main_v35 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨r, q, rfl⟩ : ∃ r q, y = (ix2 r q : S512x512.Idx) := ⟨y 0, y 1, eq_ix2 y⟩
  blk_simp
  rw [after0_4]
  refine (out4_at _ _ _ _ r q).trans ?_
  rw [B_eq m c t r (bb t r) (ss t r) (tokdiv t r) _ _ (funext fun x => blk2_at m c t x _)]
  refine (v35_at _ _ _ (bb t r) (ss t r) q).symm.trans ?_
  blk_ext [idx t]

open Cert.Reference3Ideal.Read Cert.Reference3Ideal.Inproj in
theorem final5 (c : Dev nD) : (dats m 0 c).arrAt 5 cfg0.N
    = val_main_v37 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨r, q, rfl⟩ : ∃ r q, y = (ix2 r q : S512x512.Idx) := ⟨y 0, y 1, eq_ix2 y⟩
  blk_simp
  rw [after0_5]
  refine (out5_at _ _ _ _ r q).trans ?_
  rw [B_eq m c t r (bb t r) (ss t r) (tokdiv t r) _ _ (funext fun x => blk2_at m c t x _)]
  refine (v37_at _ _ _ (bb t r) (ss t r) q).symm.trans ?_
  blk_ext [idx t]

open Cert.Reference3Ideal.Read Cert.Reference3Ideal.Inproj in
theorem final7 (c : Dev nD) : (dats m 0 c).arrAt 7 cfg0.N
    = val_main_v40 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨r, q, rfl⟩ : ∃ r q, y = (ix2 r q : S512x512.Idx) := ⟨y 0, y 1, eq_ix2 y⟩
  blk_simp
  rw [after0_7]
  refine (out7_at _ _ _ _ r q).trans ?_
  rw [B_eq m c t r (bb t r) (ss t r) (tokdiv t r) _ _ (funext fun x => blk2_at m c t x _),
    B_eq m c t r (bb t r) (ss t r) (tokdiv t r) _ _ (funext fun x => blk2_at m c t x _)]
  refine (v40_at _ _ _ (bb t r) (ss t r) q).symm.trans ?_
  blk_ext [idx t]

open Cert.Reference3Ideal.Read Cert.Reference3Ideal.Inproj in
theorem final8 (c : Dev nD) : (dats m 0 c).arrAt 8 cfg0.N
    = val_main_v41 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  obtain ⟨z, e, q, rfl⟩ : ∃ z e q, y = (ix3 z e q : S1x2x512.Idx) := ⟨y 0, y 1, y 2, eq_ix3 y⟩
  obtain rfl : z = 0 := Subsingleton.elim _ _
  have ht : t.val < 64 := t.isLt
  blk_simp
  rw [after0_8]
  refine (out8_at _ _ _ _ e q).trans ?_
  refine (congrArg (fun f => Ideal.div f count) (Finset.sum_congr rfl fun j _ =>
    B_eq m c t ⟨e.val * 256 + j.val, by omega⟩ ⟨t.val / 4, by omega⟩ ⟨(t.val % 4 * 2 + e.val) * 256 + j.val, by omega⟩ (by dsimp only; omega) _ _ (funext fun x => blk2_at m c t x _))).trans ?_
  refine (v41_at _ _ _ ⟨t.val / 4, by omega⟩ ⟨t.val % 4 * 2 + e.val, by omega⟩ ⟨t.val, ht⟩ e (by dsimp only; omega) q).symm.trans ?_
  blk_ext [idx t]

open Cert.Reference3Ideal.Read Cert.Reference3Ideal.Inproj in
theorem final6 (c : Dev nD) : (dats m 0 c).arrAt 6 cfg0.N
    = val_main_v38 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  obtain ⟨z, e, d, j, rfl⟩ : ∃ z e d j, y = (ix4 z e d j : S1x2x512x256.Idx) := ⟨y 0, y 1, y 2, y 3, eq_ix4 y⟩
  obtain rfl : z = 0 := Subsingleton.elim _ _
  have ht : t.val < 64 := t.isLt
  blk_simp
  rw [after0_6]
  refine (out6_at _ _ _ _ e d j).trans ?_
  rw [B_eq m c t ⟨e.val * 256 + j.val, by omega⟩ ⟨t.val / 4, by omega⟩ ⟨(t.val % 4 * 2 + e.val) * 256 + j.val, by omega⟩ (by dsimp only; omega) _ _ (funext fun x => blk3_at m c t d x)]
  refine (v38_at _ _ _ ⟨t.val / 4, by omega⟩ ⟨t.val % 4 * 2 + e.val, by omega⟩ d j).symm.trans ?_
  blk_ext [idx t]

end Cert.Kernel3Ideal.Inproj
end
-- ==== Proof.InprojClaims.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.InprojValue
public import Idealize.ShloMosaic.Adequacy
public import Idealize.ShloMosaic.Init

@[expose] public section

noncomputable section

/-! The claims about the input projection. -/

namespace Cert.Proof.Inproj

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hag
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.Reference3Ideal.Value.run (F := Ideal) m' g')
  all_goals obtain ⟨h0, h1, h2⟩ := hag c
  · rw [Cert.Reference3Ideal.Read.val_main_v35_eq, h0, h1, h2]
    exact (Cert.Kernel3Ideal.Inproj.final4 m c).symm
  · rw [Cert.Reference3Ideal.Read.val_main_v37_eq, h0, h1, h2]
    exact (Cert.Kernel3Ideal.Inproj.final5 m c).symm
  · rw [Cert.Reference3Ideal.Read.val_main_v38_eq, h0, h1, h2]
    exact (Cert.Kernel3Ideal.Inproj.final6 m c).symm
  · rw [Cert.Reference3Ideal.Read.val_main_v40_eq, h0, h1, h2]
    exact (Cert.Kernel3Ideal.Inproj.final7 m c).symm
  · rw [Cert.Reference3Ideal.Read.val_main_v41_eq, h0, h1, h2]
    exact (Cert.Kernel3Ideal.Inproj.final8 m c).symm

end Cert.Proof.Inproj

end
-- ==== Proof.AttnRun.lean ====
/-
  Hand-written, untrusted. The attention kernel's body run once, at any grid point, from any contents of the mask scratch.
-/
module

public import proofs.«01_k».proof.Proof.Gen.KernelIdeal.Frame
public import proofs.«01_k».proof.Proof.Gen.KernelIdeal.Loops
public import proofs.«01_k».proof.Proof.Gen.KernelIdeal.Points
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output block, with the proof that the body runs: the six inputs keep their
    contents, the mask scratch goes from the contents `fs` to some contents, the output ends with the pieces written. -/
noncomputable def run (c : Dev nD) (i : grid0.Coords) (arg2 : Memref sig .tc .vmem S256x512 .bf16) (harg2 : arg2.IsWhole) (arg3 : Memref sig .tc .vmem S1x8x256x512 .bf16) (harg3 : arg3.IsWhole) (arg4 : Memref sig .tc .vmem S1x8x512x256 .bf16) (harg4 : arg4.IsWhole) (arg5 : Memref sig .tc .vmem S1x8x512 .f32) (harg5 : arg5.IsWhole) (arg6 : Memref sig .tc .vmem S8x256x256 .f32) (harg6 : arg6.IsWhole) (arg7 : Memref sig .tc .vmem S8x2x256x256 .f32) (harg7 : arg7.IsWhole) (arg8 : Memref sig .tc .vmem S256x512 .bf16) (harg8 : arg8.IsWhole) (arg9 : Memref sig .tc .vmem S8x8x8x256 .f32) (harg9 : arg9.IsWhole)
    (x0 : Vec F S256x512 .bf16) (x1 : Vec F S1x8x256x512 .bf16) (x2 : Vec F S1x8x512x256 .bf16) (x3 : Vec F S1x8x512 .f32) (x4 : Vec F S8x256x256 .f32) (x5 : Vec F S8x2x256x256 .f32) (fs : BufTy.Contents (Elt F) arg9.view.ty) :
    { L6 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (arg9.view.loc (c : Thread nD τ) ↦[arg9.view.set]{fullShare} fs)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d)) -∗ K ⟨⟩))
          ⊢ wp frame (wpE (defs₀ (F := F)) Variants.none c none) E (cc0_moba_attn i arg2 harg2 arg3 harg3 arg4 harg4 arg5 harg5 arg6 harg6 arg7 harg7 arg8 harg8 arg9 harg9) K } := by
  refine ⟨?_, fun E K => ?run⟩
  case run =>
    simp only [cc0_moba_attn_eq_skeleton]; unfold cc0_moba_attn_skel
    rw [k0_part37_eq_skeleton]; unfold k0_part37_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HS0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _, _; isplitr; swap; · iexact HS0
    ipureintro; rfl

end Cert.KernelIdeal.Attn

end
-- ==== Proof.AttnStage.lean ====
/-
  Hand-written, untrusted. One head's computation of the attention kernel in the kernel's own vector operations, the same
  for all eight heads: the masked queries, the gate, the rank count, the additive mask, the own block's first step, one
  past block's step, the normalization, and the two heads' slab.
-/
module

public import proofs.«01_k».proof.Proof.AttnRun
public import Idealize.ShloMosaic.Lib.Pointwise
public import Idealize.ShloMosaic.Lib.WholeRead
public import Idealize.ShloMosaic.Lib.WritesUnit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- The carried state of the online softmax: row maxima, row sums, unnormalized output. -/
abbrev St (F : FTy → Type) := FVec F S1x256 .f32 × FVec F S1x256 .f32 × FVec F S64x256 .f32

/-- The queries of a pair of heads, zero outside the lanes from `lo` to `hi`. -/
def qmV (lo hi : BitVec 32) (q : Vec F S256x128 .bf16) : Vec F S256x128 .bf16 :=
  select (andi (cmpi .sge (iota .tc S256x128 32 [1] iota_S256x128_d1_w32) (broadcast S256x128 lo))
    (cmpi .slt (iota .tc S256x128 32 [1] iota_S256x128_d1_w32) (broadcast S256x128 hi))) q
    (broadcast S256x128 (Scalar.ofBits .bf16 0x0000#16 : F .bf16))

/-- The block numbers down the rows. -/
abbrev rowIota : IVec S8x256 32 := iota .tc S8x256 32 [0] iota_S8x256_d0_w32

/-- The gate of each block for each query, the blocks from `iv` on at the named negative infinity. -/
def gateV (iv : BitVec 32) (qm : Vec F S256x128 .bf16) (km : Vec F S1x8x128 .f32) : FVec F S8x256 .f32 :=
  select (cmpi .slt rowIota (broadcast S8x256 iv))
    (addf (matmul dot_S8x128_S256x128_S8x256_1_1_0_0_n_n none (k0_pay15 km) (extf .f32 qm bitsLt_bf16_f32) (constant S8x256 .f32 0x00000000#32))
      (matmul dot_S8x128_S256x128_S8x256_1_1_0_0_n_n none (k0_pay16 km) (extf .f32 qm bitsLt_bf16_f32) (constant S8x256 .f32 0x00000000#32)))
    (broadcast S8x256 (Named.named κ "neg_inf" 0xF149F2CA#32 : F .f32))

theorem slRow : ∀ r : Fin 8, S8x256.Slices ![(r : ℕ), 0] S1x256 := by decide

/-- Row `r` of an 8-row array. -/
abbrev rowV {α : Type} (r : Fin 8) (g : S8x256.Idx → α) : S1x256.Idx → α :=
  extractStridedSlice S1x256 ![(r : ℕ), 0] g (slRow r)

/-- One where block `r` is ahead of the row's block: a larger gate, or the same gate and a smaller number. -/
def beatV (r : Fin 8) (g : FVec F S8x256 .f32) : IVec S8x256 32 :=
  extui 32 (ori (cmpf .ogt (broadcastTo S8x256 (rowV r g) broadcasts_S1x256_S8x256) g)
    (andi (cmpf .oeq (broadcastTo S8x256 (rowV r g) broadcasts_S1x256_S8x256) g)
      (cmpi .sgt rowIota (broadcast S8x256 (BitVec.ofNat 32 (r : ℕ)))))) natLt_1_32

/-- The number of blocks ahead of each block. -/
def rankV (g : FVec F S8x256 .f32) : IVec S8x256 32 :=
  addi (addi (addi (addi (addi (addi (addi (addi (broadcast S8x256 0#32) (beatV 0 g)) (beatV 1 g)) (beatV 2 g)) (beatV 3 g))
    (beatV 4 g)) (beatV 5 g)) (beatV 6 g)) (beatV 7 g)

/-- The additive mask: zero for the chosen past blocks, the named negative infinity for the others. -/
def maskV (iv v0 : BitVec 32) (g : FVec F S8x256 .f32) : FVec F S8x256 .f32 :=
  select (andi (cmpi .slt (rankV g) (broadcast S8x256 v0)) (cmpi .slt rowIota (broadcast S8x256 iv)))
    (broadcast S8x256 (Scalar.ofBits .f32 0x00000000#32 : F .f32))
    (broadcast S8x256 (Named.named κ "neg_inf" 0xF149F2CA#32 : F .f32))

/-- Row `r` of the mask as it is stored. -/
def rowB (m : FVec F S8x256 .f32) (r : Fin 8) : FVec F S1x1x8x256 .f32 :=
  shapeCast S1x1x8x256 (broadcastTo S8x256 (shapeCast S1x256 (rowV r m) shapeCasts_S1x256_S1x256) broadcasts_S1x256_S8x256)
    shapeCasts_S8x256_S1x1x8x256

/-- The mask of a head, from the pair's queries and block means. -/
def headMask (lo hi iv v0 : BitVec 32) (q : Vec F S256x128 .bf16) (km : Vec F S1x8x128 .f32) : FVec F S8x256 .f32 :=
  maskV iv v0 (gateV iv (qmV lo hi q) km)

/-- The state after the own block. -/
def ownV (qm : Vec F S256x128 .bf16) (k : Vec F S1x1x256x128 .bf16) (b : Vec F S1x256x256 .f32) (v : Vec F S1x1x64x256 .bf16) : St F :=
  (k0_pay37 qm k b, k0_pay39 qm k b, k0_pay40 qm k b v)

/-- The state after one more past block. -/
def tripV (qm : Vec F S256x128 .bf16) (k : Vec F S1x1x256x128 .bf16) (b : Vec F S1x1x256x256 .f32) (m : Vec F S1x1x8x256 .f32)
    (v : Vec F S1x1x64x256 .bf16) (x : St F) : St F :=
  (k0_pay42 qm x.1 k b m, k0_pay45 qm x.1 x.2.1 k b m, k0_pay46 qm x.1 x.2.2 k b m v)

/-- The state after the first `n` past blocks. -/
def loopV (qm : Vec F S256x128 .bf16) (k : ℕ → Vec F S1x1x256x128 .bf16) (b : ℕ → Vec F S1x1x256x256 .f32)
    (m : ℕ → Vec F S1x1x8x256 .f32) (v : ℕ → Vec F S1x1x64x256 .bf16) (x : St F) : ℕ → St F
  | 0 => x
  | n + 1 => tripV qm (k n) (b n) (m n) (v n) (loopV qm k b m v x n)

/-- A state sequence that starts and steps like `loopV` is `loopV`. -/
theorem loopV_eq {qm : Vec F S256x128 .bf16} {k : ℕ → Vec F S1x1x256x128 .bf16} {b : ℕ → Vec F S1x1x256x256 .f32}
    {m : ℕ → Vec F S1x1x8x256 .f32} {v : ℕ → Vec F S1x1x64x256 .bf16} {x : St F} (st : ℕ → St F) (N n : ℕ) (hN : N = n)
    (h0 : st 0 = x) (hs : ∀ j : Fin N, st (j.val + 1) = tripV qm (k j) (b j) (m j) (v j) (st j)) : st N = loopV qm k b m v x n := by
  subst hN
  have : ∀ j ≤ N, st j = loopV qm k b m v x j := by
    intro j
    induction j with
    | zero => exact fun _ => h0
    | succ j ih => exact fun hj => (hs ⟨j, hj⟩).trans (by rw [ih (by omega)]; rfl)
  exact this N le_rfl

/-- The pair's slab: the two heads' normalized outputs side by side, queries down the rows. -/
def slabV (x y : St F) : FVec F S256x128 .bf16 := k0_pay89 (k0_pay53 x.2.1 x.2.2) y.2.1 y.2.2

/-! ## What the blocks' loads read -/

/-- Past block `n`'s keys of the pair whose lanes start at `p`. -/
def kRd (x1 : Vec F S1x8x256x512 .bf16) (p n : ℕ) : Vec F S1x1x256x128 .bf16 :=
  fun y => x1 (ix4 0 (Fin.ofNat 8 n) (y 2) (Fin.ofNat 512 (p + (y 3).val)))

/-- Past block `n`'s values of the head whose rows start at `p`. -/
def vRd (x2 : Vec F S1x8x512x256 .bf16) (p n : ℕ) : Vec F S1x1x64x256 .bf16 :=
  fun y => x2 (ix4 0 (Fin.ofNat 8 n) (Fin.ofNat 512 (p + (y 2).val)) (y 3))

/-- Head `h`'s bias tile for past block `n`, seen from block `i`: the near tile for the block just before, else the far one. -/
def bRd (x5 : Vec F S8x2x256x256 .f32) (h : Fin 8) (i n : ℕ) : Vec F S1x1x256x256 .f32 :=
  fun y => x5 (ix4 h (if n + 1 = i then 0 else 1) (y 2) (y 3))

theorem rd_k (a : Memref sig .tc .vmem S1x8x256x512 .bf16) (ha : a.IsWhole) (x1 : Vec F S1x8x256x512 .bf16)
    (off : Fin 4 → ℕ) (inb) (p n : ℕ) (h : off = ![0, n, 0, p]) :
    a.view.readAt (Elt F) (Rect.unit (s := S1x8x256x512) off S1x1x256x128.size inb).toLoadRect (ha.unread x1) = kRd x1 p n := by
  subst h
  refine funext fun y => (ha.readAt_unread x1 _ y).trans (congrArg x1 ?_)
  have h1 : n + 1 ≤ 8 := inb 1
  have h3 : p + 128 ≤ 512 := inb 3
  have y0 : (y 0).val < 1 := (y 0).isLt
  have y1 : (y 1).val < 1 := (y 1).isLt
  have y3 : (y 3).val < 128 := (y 3).isLt
  funext c; fin_cases c <;> refine Fin.ext ?_ <;> simp [ix4, Rect.unit, LoadRect.idx, Rect.toLoadRect]
  all_goals first | omega | (rw [Nat.mod_eq_of_lt] <;> omega)

theorem rd_v (a : Memref sig .tc .vmem S1x8x512x256 .bf16) (ha : a.IsWhole) (x2 : Vec F S1x8x512x256 .bf16)
    (off : Fin 4 → ℕ) (inb) (p n : ℕ) (h : off = ![0, n, p, 0]) :
    a.view.readAt (Elt F) (Rect.unit (s := S1x8x512x256) off S1x1x64x256.size inb).toLoadRect (ha.unread x2) = vRd x2 p n := by
  subst h
  refine funext fun y => (ha.readAt_unread x2 _ y).trans (congrArg x2 ?_)
  have h1 : n + 1 ≤ 8 := inb 1
  have h3 : p + 64 ≤ 512 := inb 2
  have y0 : (y 0).val < 1 := (y 0).isLt
  have y1 : (y 1).val < 1 := (y 1).isLt
  have y2 : (y 2).val < 64 := (y 2).isLt
  funext c; fin_cases c <;> refine Fin.ext ?_ <;> simp [ix4, Rect.unit, LoadRect.idx, Rect.toLoadRect]
  all_goals first | omega | (rw [Nat.mod_eq_of_lt] <;> omega)

theorem rd_b (a : Memref sig .tc .vmem S8x2x256x256 .f32) (ha : a.IsWhole) (x5 : Vec F S8x2x256x256 .f32)
    (off : Fin 4 → ℕ) (inb) (hd : Fin 8) (i n : ℕ) (h : off = ![hd.val, if n + 1 = i then 0 else 1, 0, 0]) :
    a.view.readAt (Elt F) (Rect.unit (s := S8x2x256x256) off S1x1x256x256.size inb).toLoadRect (ha.unread x5) = bRd x5 hd i n := by
  subst h
  refine funext fun y => (ha.readAt_unread x5 _ y).trans (congrArg x5 ?_)
  have y0 : (y 0).val < 1 := (y 0).isLt
  have y1 : (y 1).val < 1 := (y 1).isLt
  funext c; fin_cases c <;> refine Fin.ext ?_ <;> simp [ix4, Rect.unit, LoadRect.idx, Rect.toLoadRect]
  · omega
  · split <;> simp <;> omega

/-! ## The mask scratch -/

theorem rowInb : ∀ h r : Fin 8, ∀ a : Fin 4, (![h.val, r.val, 0, 0] : Fin 4 → ℕ) a + S1x1x8x256.size a ≤ S8x8x8x256.size a := by
  decide

/-- The store of row `r` of head `h`'s mask. -/
abbrev rowP (h : Fin 8) (m : FVec F S8x256 .f32) (r : Fin 8) : View.Piece (Elt F) S8x8x8x256 .f32 :=
  ⟨Rect.unit ![h.val, r.val, 0, 0] S1x1x8x256.size (rowInb h r), rowB m r⟩

/-- The stores of a head's mask, last first. -/
def rowsOf (h : Fin 8) (m : FVec F S8x256 .f32) (L : List (View.Piece (Elt F) S8x8x8x256 .f32)) :
    List (View.Piece (Elt F) S8x8x8x256 .f32) :=
  rowP h m 7 :: rowP h m 6 :: rowP h m 5 :: rowP h m 4 :: rowP h m 3 :: rowP h m 2 :: rowP h m 1 :: rowP h m 0 :: L

/-- A load of row `n` of head `h`'s mask after its stores reads that row. -/
theorem rd_m (a : Memref sig .tc .vmem S8x8x8x256 .f32) (fs : BufTy.Contents (Elt F) a.view.ty) (h : Fin 8)
    (m : FVec F S8x256 .f32) (L : List (View.Piece (Elt F) S8x8x8x256 .f32)) (off : Fin 4 → ℕ) (inb) (n : ℕ)
    (hoff : off = ![h.val, n, 0, 0]) :
    a.view.readAt (Elt F) (Rect.unit (s := S8x8x8x256) off S1x1x8x256.size inb).toLoadRect (a.view.writes (Elt F) fs (rowsOf h m L))
      = rowB m (Fin.ofNat 8 n) := by
  subst hoff
  have h1 : n + 1 ≤ 8 := inb 1
  obtain ⟨r, rfl⟩ : ∃ r : Fin 8, n = r.val := ⟨⟨n, by omega⟩, rfl⟩
  have hr : Fin.ofNat 8 r.val = r := Fin.ext (Nat.mod_eq_of_lt r.isLt)
  rw [hr]
  refine funext fun y => ?_
  change a.view.read (Elt F) (a.view.writes (Elt F) fs (rowsOf h m L)) ((Rect.unit (s := S8x8x8x256) ![h.val, r.val, 0, 0] S1x1x8x256.size inb).toLoadRect.idx y) = _
  have hit : ∀ L', a.view.read (Elt F) (a.view.writes (Elt F) fs (rowP h m r :: L'))
      ((Rect.unit (s := S8x8x8x256) ![h.val, r.val, 0, 0] S1x1x8x256.size inb).toLoadRect.idx y) = rowB m r y := fun L' =>
    View.read_writes_cons_unit_of_mem _ _ (rowInb h r) _ L' _ y rfl fun c => by
      show _ + 1 * _ = _
      rw [Nat.one_mul]; rfl
  have miss : ∀ r' : Fin 8, r' ≠ r → ∀ L', a.view.read (Elt F) (a.view.writes (Elt F) fs (rowP h m r' :: L'))
      ((Rect.unit (s := S8x8x8x256) ![h.val, r.val, 0, 0] S1x1x8x256.size inb).toLoadRect.idx y)
        = a.view.read (Elt F) (a.view.writes (Elt F) fs L')
      ((Rect.unit (s := S8x8x8x256) ![h.val, r.val, 0, 0] S1x1x8x256.size inb).toLoadRect.idx y) := fun r' hne L' =>
    View.read_writes_cons_unit_of_not_mem _ _ (rowInb h r') _ L' _ rfl 1 (by
      have y1 : (y 1).val < 1 := (y 1).isLt
      have : r'.val ≠ r.val := fun e => hne (Fin.ext e)
      show r.val + 1 * (y 1).val < r'.val ∨ r'.val + 1 ≤ r.val + 1 * (y 1).val
      omega)
  unfold rowsOf
  fin_cases r
  · rw [miss 7 (by decide), miss 6 (by decide), miss 5 (by decide), miss 4 (by decide), miss 3 (by decide), miss 2 (by decide), miss 1 (by decide)]; exact hit _
  · rw [miss 7 (by decide), miss 6 (by decide), miss 5 (by decide), miss 4 (by decide), miss 3 (by decide), miss 2 (by decide)]; exact hit _
  · rw [miss 7 (by decide), miss 6 (by decide), miss 5 (by decide), miss 4 (by decide), miss 3 (by decide)]; exact hit _
  · rw [miss 7 (by decide), miss 6 (by decide), miss 5 (by decide), miss 4 (by decide)]; exact hit _
  · rw [miss 7 (by decide), miss 6 (by decide), miss 5 (by decide)]; exact hit _
  · rw [miss 7 (by decide), miss 6 (by decide)]; exact hit _
  · rw [miss 7 (by decide)]; exact hit _
  · exact hit _

end Cert.KernelIdeal.Attn
-- ==== Proof.AttnLoop.lean ====
/-
  Hand-written, untrusted. The eight loops over the past blocks, each the common step from the loads it makes, and the eight
  remainder loops, which make no trip.
-/
module

public import proofs.«01_k».proof.Proof.AttnStage

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]
variable (c : Dev nD) (i : grid0.Coords) (arg2 : Memref sig .tc .vmem S256x512 .bf16) (harg2 : arg2.IsWhole)
  (arg3 : Memref sig .tc .vmem S1x8x256x512 .bf16) (harg3 : arg3.IsWhole) (arg4 : Memref sig .tc .vmem S1x8x512x256 .bf16)
  (harg4 : arg4.IsWhole) (arg5 : Memref sig .tc .vmem S1x8x512 .f32) (harg5 : arg5.IsWhole)
  (arg6 : Memref sig .tc .vmem S8x256x256 .f32) (harg6 : arg6.IsWhole) (arg7 : Memref sig .tc .vmem S8x2x256x256 .f32)
  (harg7 : arg7.IsWhole) (arg8 : Memref sig .tc .vmem S256x512 .bf16) (harg8 : arg8.IsWhole)
  (arg9 : Memref sig .tc .vmem S8x8x8x256 .f32) (harg9 : arg9.IsWhole)
  (x1 : Vec F S1x8x256x512 .bf16) (x2 : Vec F S1x8x512x256 .bf16) (x5 : Vec F S8x2x256x256 .f32)
  (fs : BufTy.Contents (Elt F) arg9.view.ty) (m : FVec F S8x256 .f32) (L : List (View.Piece (Elt F) S8x8x8x256 .f32)) (x : St F)

/-- The loop of a head over the past blocks. -/
abbrev headLoop (h : Fin 8) (pv pk : ℕ) (i : ℕ) (qm : Vec F S256x128 .bf16) (x1 : Vec F S1x8x256x512 .bf16)
    (x2 : Vec F S1x8x512x256 .bf16) (x5 : Vec F S8x2x256x256 .f32) (m : FVec F S8x256 .f32) (x : St F) : St F :=
  loopV qm (kRd x1 pk) (bRd x5 h i) (fun n => rowB m (Fin.ofNat 8 n)) (vRd x2 pv) x i

/-! ## Head 0 -/

theorem off4_eq : ∀ (i : grid0.Coords) (t : Fin (k0_t1_loop i).trips),
    k0_off4 i t = ![0, if t.val + 1 = (i 1).val then 0 else 1, 0, 0] := by decide +kernel
theorem trips1 : ∀ i : grid0.Coords, (k0_t1_loop i).trips = (i 1).val := by decide +kernel
theorem trips2 : ∀ i : grid0.Coords, (k0_t2_loop i).trips = 0 := by decide +kernel

theorem loop1 (arg1 : BitVec 32) (v2 : IVec S256x128 32) (v3 : Vec F S256x128 .bf16) (v7 : FVec F S8x128 .f32) (v10 : FVec F S8x128 .f32) (qm : Vec F S256x128 .bf16) :
    st_k0_t1 Variants.none c none i arg2 harg2 arg3 harg3 arg4 harg4 arg5 harg5 arg6 harg6 arg7 harg7 arg8 harg8 arg9 harg9 arg1 v2 v3 v7 v10 qm
      (harg3.unread x1) (harg4.unread x2) (harg7.unread x5) (arg9.view.writes (Elt F) fs (rowsOf 0 m L)) x (k0_t1_loop i).trips
      = headLoop 0 0 0 (i 1).val qm x1 x2 x5 m x := by
  refine loopV_eq _ _ _ (trips1 i) rfl fun j => (st_k0_t1_succ ..).trans ?_
  unfold tripR_k0_t1 trip_k0_t1
  show tripV qm _ _ _ _ _ = _
  rw [rd_k arg3 harg3 x1 _ _ _ _ (k0_off3_eq i j), rd_b arg7 harg7 x5 _ _ 0 _ _ (off4_eq i j),
    rd_m arg9 fs 0 m L _ _ _ (k0_off5_eq i j), rd_v arg4 harg4 x2 _ _ _ _ (k0_off6_eq i j)]

theorem loop2 (arg1 : BitVec 32) (v2 : IVec S256x128 32) (v3 : Vec F S256x128 .bf16) (v7 : FVec F S8x128 .f32) (v10 : FVec F S8x128 .f32) (qm : Vec F S256x128 .bf16) :
    st_k0_t2 Variants.none c none i arg2 harg2 arg3 harg3 arg4 harg4 arg5 harg5 arg6 harg6 arg7 harg7 arg8 harg8 arg9 harg9 arg1 v2 v3 v7 v10 qm
      (harg3.unread x1) (harg4.unread x2) (harg7.unread x5) (arg9.view.writes (Elt F) fs (rowsOf 0 m L))
      (st_k0_t1 Variants.none c none i arg2 harg2 arg3 harg3 arg4 harg4 arg5 harg5 arg6 harg6 arg7 harg7 arg8 harg8 arg9 harg9 arg1 v2 v3 v7 v10 qm
        (harg3.unread x1) (harg4.unread x2) (harg7.unread x5) (arg9.view.writes (Elt F) fs (rowsOf 0 m L)) x (k0_t1_loop i).trips) (k0_t2_loop i).trips
      = headLoop 0 0 0 (i 1).val qm x1 x2 x5 m x := by
  rw [trips2]; exact loop1 ..

/-! ## Head 1 -/

theorem off13_eq : ∀ (i : grid0.Coords) (t : Fin (k0_t3_loop i).trips),
    k0_off13 i t = ![1, if t.val + 1 = (i 1).val then 0 else 1, 0, 0] := by decide +kernel
theorem trips3 : ∀ i : grid0.Coords, (k0_t3_loop i).trips = (i 1).val := by decide +kernel
theorem trips4 : ∀ i : grid0.Coords, (k0_t4_loop i).trips = 0 := by decide +kernel

theorem loop3 (arg1 : BitVec 32) (v1 : IVec S8x256 32) (v2 : IVec S256x128 32) (v200 : FVec F S64x256 .f32) (qm : Vec F S256x128 .bf16) (v369 : FVec F S1x256 .f32) (v374 : FVec F S1x256 .f32) (v379 : FVec F S64x256 .f32) (c0 : BitVec 32) (v384 : BitVec 32) :
    st_k0_t3 Variants.none c none i arg2 harg2 arg3 harg3 arg4 harg4 arg5 harg5 arg6 harg6 arg7 harg7 arg8 harg8 arg9 harg9 arg1 v1 v2 v200 qm v369 v374 v379 c0 v384
      (harg3.unread x1) (harg4.unread x2) (harg7.unread x5) (arg9.view.writes (Elt F) fs (rowsOf 1 m L)) x (k0_t3_loop i).trips
      = headLoop 1 64 0 (i 1).val qm x1 x2 x5 m x := by
  refine loopV_eq _ _ _ (trips3 i) rfl fun j => (st_k0_t3_succ ..).trans ?_
  unfold tripR_k0_t3 trip_k0_t3
  show tripV qm _ _ _ _ _ = _
  rw [rd_k arg3 harg3 x1 _ _ _ _ (k0_off12_eq i j), rd_b arg7 harg7 x5 _ _ 1 _ _ (off13_eq i j),
    rd_m arg9 fs 1 m L _ _ _ (k0_off14_eq i j), rd_v arg4 harg4 x2 _ _ _ _ (k0_off15_eq i j)]

theorem loop4 (arg1 : BitVec 32) (v1 : IVec S8x256 32) (v2 : IVec S256x128 32) (v200 : FVec F S64x256 .f32) (qm : Vec F S256x128 .bf16) (v369 : FVec F S1x256 .f32) (v374 : FVec F S1x256 .f32) (v379 : FVec F S64x256 .f32) (c0 : BitVec 32) (v384 : BitVec 32) :
    st_k0_t4 Variants.none c none i arg2 harg2 arg3 harg3 arg4 harg4 arg5 harg5 arg6 harg6 arg7 harg7 arg8 harg8 arg9 harg9 arg1 v1 v2 v200 qm v369 v374 v379 c0 v384
      (harg3.unread x1) (harg4.unread x2) (harg7.unread x5) (arg9.view.writes (Elt F) fs (rowsOf 1 m L))
      (st_k0_t3 Variants.none c none i arg2 harg2 arg3 harg3 arg4 harg4 arg5 harg5 arg6 harg6 arg7 harg7 arg8 harg8 arg9 harg9 arg1 v1 v2 v200 qm v369 v374 v379 c0 v384
        (harg3.unread x1) (harg4.unread x2) (harg7.unread x5) (arg9.view.writes (Elt F) fs (rowsOf 1 m L)) x (k0_t3_loop i).trips) (k0_t4_loop i).trips
      = headLoop 1 64 0 (i 1).val qm x1 x2 x5 m x := by
  rw [trips4]; exact loop3 ..

/-! ## Head 2 -/

theorem off23_eq : ∀ (i : grid0.Coords) (t : Fin (k0_t5_loop i).trips),
    k0_off23 i t = ![2, if t.val + 1 = (i 1).val then 0 else 1, 0, 0] := by decide +kernel
theorem trips5 : ∀ i : grid0.Coords, (k0_t5_loop i).trips = (i 1).val := by decide +kernel
theorem trips6 : ∀ i : grid0.Coords, (k0_t6_loop i).trips = 0 := by decide +kernel

theorem loop5 (arg1 : BitVec 32) (v2 : IVec S256x128 32) (qm : Vec F S256x128 .bf16) (v559 : FVec F S8x256 .f32) :
    st_k0_t5 Variants.none c none i arg2 harg2 arg3 harg3 arg4 harg4 arg5 harg5 arg6 harg6 arg7 harg7 arg8 harg8 arg9 harg9 arg1 v2 qm v559
      (harg3.unread x1) (harg4.unread x2) (harg7.unread x5) (arg9.view.writes (Elt F) fs (rowsOf 2 m L)) x (k0_t5_loop i).trips
      = headLoop 2 128 128 (i 1).val qm x1 x2 x5 m x := by
  refine loopV_eq _ _ _ (trips5 i) rfl fun j => (st_k0_t5_succ ..).trans ?_
  unfold tripR_k0_t5 trip_k0_t5
  show tripV qm _ _ _ _ _ = _
  rw [rd_k arg3 harg3 x1 _ _ _ _ (k0_off22_eq i j), rd_b arg7 harg7 x5 _ _ 2 _ _ (off23_eq i j),
    rd_m arg9 fs 2 m L _ _ _ (k0_off24_eq i j), rd_v arg4 harg4 x2 _ _ _ _ (k0_off25_eq i j)]

theorem loop6 (arg1 : BitVec 32) (v2 : IVec S256x128 32) (qm : Vec F S256x128 .bf16) (v559 : FVec F S8x256 .f32) :
    st_k0_t6 Variants.none c none i arg2 harg2 arg3 harg3 arg4 harg4 arg5 harg5 arg6 harg6 arg7 harg7 arg8 harg8 arg9 harg9 arg1 v2 qm v559
      (harg3.unread x1) (harg4.unread x2) (harg7.unread x5) (arg9.view.writes (Elt F) fs (rowsOf 2 m L))
      (st_k0_t5 Variants.none c none i arg2 harg2 arg3 harg3 arg4 harg4 arg5 harg5 arg6 harg6 arg7 harg7 arg8 harg8 arg9 harg9 arg1 v2 qm v559
        (harg3.unread x1) (harg4.unread x2) (harg7.unread x5) (arg9.view.writes (Elt F) fs (rowsOf 2 m L)) x (k0_t5_loop i).trips) (k0_t6_loop i).trips
      = headLoop 2 128 128 (i 1).val qm x1 x2 x5 m x := by
  rw [trips6]; exact loop5 ..

/-! ## Head 3 -/

theorem off32_eq : ∀ (i : grid0.Coords) (t : Fin (k0_t7_loop i).trips),
    k0_off32 i t = ![3, if t.val + 1 = (i 1).val then 0 else 1, 0, 0] := by decide +kernel
theorem trips7 : ∀ i : grid0.Coords, (k0_t7_loop i).trips = (i 1).val := by decide +kernel
theorem trips8 : ∀ i : grid0.Coords, (k0_t8_loop i).trips = 0 := by decide +kernel

theorem loop7 (arg1 : BitVec 32) (v1 : IVec S8x256 32) (v2 : IVec S256x128 32) (v592 : FVec F S64x256 .f32) (qm : Vec F S256x128 .bf16) (v761 : FVec F S1x256 .f32) (v764 : FVec F S256x256 .f32) (v766 : FVec F S1x256 .f32) (v769 : FVec F S64x256 .bf16) :
    st_k0_t7 Variants.none c none i arg2 harg2 arg3 harg3 arg4 harg4 arg5 harg5 arg6 harg6 arg7 harg7 arg8 harg8 arg9 harg9 arg1 v1 v2 v592 qm v761 v764 v766 v769
      (harg3.unread x1) (harg4.unread x2) (harg7.unread x5) (arg9.view.writes (Elt F) fs (rowsOf 3 m L)) x (k0_t7_loop i).trips
      = headLoop 3 192 128 (i 1).val qm x1 x2 x5 m x := by
  refine loopV_eq _ _ _ (trips7 i) rfl fun j => (st_k0_t7_succ ..).trans ?_
  unfold tripR_k0_t7 trip_k0_t7
  show tripV qm _ _ _ _ _ = _
  rw [rd_k arg3 harg3 x1 _ _ _ _ (k0_off31_eq i j), rd_b arg7 harg7 x5 _ _ 3 _ _ (off32_eq i j),
    rd_m arg9 fs 3 m L _ _ _ (k0_off33_eq i j), rd_v arg4 harg4 x2 _ _ _ _ (k0_off34_eq i j)]

theorem loop8 (arg1 : BitVec 32) (v1 : IVec S8x256 32) (v2 : IVec S256x128 32) (v592 : FVec F S64x256 .f32) (qm : Vec F S256x128 .bf16) (v761 : FVec F S1x256 .f32) (v764 : FVec F S256x256 .f32) (v766 : FVec F S1x256 .f32) (v769 : FVec F S64x256 .bf16) :
    st_k0_t8 Variants.none c none i arg2 harg2 arg3 harg3 arg4 harg4 arg5 harg5 arg6 harg6 arg7 harg7 arg8 harg8 arg9 harg9 arg1 v1 v2 v592 qm v761 v764 v766 v769
      (harg3.unread x1) (harg4.unread x2) (harg7.unread x5) (arg9.view.writes (Elt F) fs (rowsOf 3 m L))
      (st_k0_t7 Variants.none c none i arg2 harg2 arg3 harg3 arg4 harg4 arg5 harg5 arg6 harg6 arg7 harg7 arg8 harg8 arg9 harg9 arg1 v1 v2 v592 qm v761 v764 v766 v769
        (harg3.unread x1) (harg4.unread x2) (harg7.unread x5) (arg9.view.writes (Elt F) fs (rowsOf 3 m L)) x (k0_t7_loop i).trips) (k0_t8_loop i).trips
      = headLoop 3 192 128 (i 1).val qm x1 x2 x5 m x := by
  rw [trips8]; exact loop7 ..

/-! ## Head 4 -/

theorem off42_eq : ∀ (i : grid0.Coords) (t : Fin (k0_t9_loop i).trips),
    k0_off42 i t = ![4, if t.val + 1 = (i 1).val then 0 else 1, 0, 0] := by decide +kernel
theorem trips9 : ∀ i : grid0.Coords, (k0_t9_loop i).trips = (i 1).val := by decide +kernel
theorem trips10 : ∀ i : grid0.Coords, (k0_t10_loop i).trips = 0 := by decide +kernel

theorem loop9 (arg1 : BitVec 32) (qm : Vec F S256x128 .bf16) (v906 : FVec F S8x256 .f32) (v945 : FVec F S8x256 .f32) :
    st_k0_t9 Variants.none c none i arg2 harg2 arg3 harg3 arg4 harg4 arg5 harg5 arg6 harg6 arg7 harg7 arg8 harg8 arg9 harg9 arg1 qm v906 v945
      (harg3.unread x1) (harg4.unread x2) (harg7.unread x5) (arg9.view.writes (Elt F) fs (rowsOf 4 m L)) x (k0_t9_loop i).trips
      = headLoop 4 256 256 (i 1).val qm x1 x2 x5 m x := by
  refine loopV_eq _ _ _ (trips9 i) rfl fun j => (st_k0_t9_succ ..).trans ?_
  unfold tripR_k0_t9 trip_k0_t9
  show tripV qm _ _ _ _ _ = _
  rw [rd_k arg3 harg3 x1 _ _ _ _ (k0_off41_eq i j), rd_b arg7 harg7 x5 _ _ 4 _ _ (off42_eq i j),
    rd_m arg9 fs 4 m L _ _ _ (k0_off43_eq i j), rd_v arg4 harg4 x2 _ _ _ _ (k0_off44_eq i j)]

theorem loop10 (arg1 : BitVec 32) (qm : Vec F S256x128 .bf16) (v906 : FVec F S8x256 .f32) (v945 : FVec F S8x256 .f32) :
    st_k0_t10 Variants.none c none i arg2 harg2 arg3 harg3 arg4 harg4 arg5 harg5 arg6 harg6 arg7 harg7 arg8 harg8 arg9 harg9 arg1 qm v906 v945
      (harg3.unread x1) (harg4.unread x2) (harg7.unread x5) (arg9.view.writes (Elt F) fs (rowsOf 4 m L))
      (st_k0_t9 Variants.none c none i arg2 harg2 arg3 harg3 arg4 harg4 arg5 harg5 arg6 harg6 arg7 harg7 arg8 harg8 arg9 harg9 arg1 qm v906 v945
        (harg3.unread x1) (harg4.unread x2) (harg7.unread x5) (arg9.view.writes (Elt F) fs (rowsOf 4 m L)) x (k0_t9_loop i).trips) (k0_t10_loop i).trips
      = headLoop 4 256 256 (i 1).val qm x1 x2 x5 m x := by
  rw [trips10]; exact loop9 ..

/-! ## Head 5 -/

theorem off51_eq : ∀ (i : grid0.Coords) (t : Fin (k0_t11_loop i).trips),
    k0_off51 i t = ![5, if t.val + 1 = (i 1).val then 0 else 1, 0, 0] := by decide +kernel
theorem trips11 : ∀ i : grid0.Coords, (k0_t11_loop i).trips = (i 1).val := by decide +kernel
theorem trips12 : ∀ i : grid0.Coords, (k0_t12_loop i).trips = 0 := by decide +kernel

theorem loop11 (arg1 : BitVec 32) (v2 : IVec S256x128 32) (v984 : FVec F S64x256 .f32) (qm : Vec F S256x128 .bf16) (v1153 : FVec F S1x256 .f32) (v1155 : FVec F S256x256 .f32) :
    st_k0_t11 Variants.none c none i arg2 harg2 arg3 harg3 arg4 harg4 arg5 harg5 arg6 harg6 arg7 harg7 arg8 harg8 arg9 harg9 arg1 v2 v984 qm v1153 v1155
      (harg3.unread x1) (harg4.unread x2) (harg7.unread x5) (arg9.view.writes (Elt F) fs (rowsOf 5 m L)) x (k0_t11_loop i).trips
      = headLoop 5 320 256 (i 1).val qm x1 x2 x5 m x := by
  refine loopV_eq _ _ _ (trips11 i) rfl fun j => (st_k0_t11_succ ..).trans ?_
  unfold tripR_k0_t11 trip_k0_t11
  show tripV qm _ _ _ _ _ = _
  rw [rd_k arg3 harg3 x1 _ _ _ _ (k0_off50_eq i j), rd_b arg7 harg7 x5 _ _ 5 _ _ (off51_eq i j),
    rd_m arg9 fs 5 m L _ _ _ (k0_off52_eq i j), rd_v arg4 harg4 x2 _ _ _ _ (k0_off53_eq i j)]

theorem loop12 (arg1 : BitVec 32) (v2 : IVec S256x128 32) (v984 : FVec F S64x256 .f32) (qm : Vec F S256x128 .bf16) (v1153 : FVec F S1x256 .f32) (v1155 : FVec F S256x256 .f32) :
    st_k0_t12 Variants.none c none i arg2 harg2 arg3 harg3 arg4 harg4 arg5 harg5 arg6 harg6 arg7 harg7 arg8 harg8 arg9 harg9 arg1 v2 v984 qm v1153 v1155
      (harg3.unread x1) (harg4.unread x2) (harg7.unread x5) (arg9.view.writes (Elt F) fs (rowsOf 5 m L))
      (st_k0_t11 Variants.none c none i arg2 harg2 arg3 harg3 arg4 harg4 arg5 harg5 arg6 harg6 arg7 harg7 arg8 harg8 arg9 harg9 arg1 v2 v984 qm v1153 v1155
        (harg3.unread x1) (harg4.unread x2) (harg7.unread x5) (arg9.view.writes (Elt F) fs (rowsOf 5 m L)) x (k0_t11_loop i).trips) (k0_t12_loop i).trips
      = headLoop 5 320 256 (i 1).val qm x1 x2 x5 m x := by
  rw [trips12]; exact loop11 ..

/-! ## Head 6 -/

theorem off61_eq : ∀ (i : grid0.Coords) (t : Fin (k0_t13_loop i).trips),
    k0_off61 i t = ![6, if t.val + 1 = (i 1).val then 0 else 1, 0, 0] := by decide +kernel
theorem trips13 : ∀ i : grid0.Coords, (k0_t13_loop i).trips = (i 1).val := by decide +kernel
theorem trips14 : ∀ i : grid0.Coords, (k0_t14_loop i).trips = 0 := by decide +kernel

theorem loop13 (arg1 : BitVec 32) (v1 : IVec S8x256 32) (v2 : IVec S256x128 32) (v1179 : Vec F S256x128 .bf16) (v1183 : FVec F S8x128 .f32) (v1186 : FVec F S8x128 .f32) (qm : Vec F S256x128 .bf16) (v1355 : FVec F S1x256 .f32) (v1360 : FVec F S1x256 .f32) (v1365 : FVec F S64x256 .f32) (c0 : BitVec 32) (v1366 : BitVec 32) :
    st_k0_t13 Variants.none c none i arg2 harg2 arg3 harg3 arg4 harg4 arg5 harg5 arg6 harg6 arg7 harg7 arg8 harg8 arg9 harg9 arg1 v1 v2 v1179 v1183 v1186 qm v1355 v1360 v1365 c0 v1366
      (harg3.unread x1) (harg4.unread x2) (harg7.unread x5) (arg9.view.writes (Elt F) fs (rowsOf 6 m L)) x (k0_t13_loop i).trips
      = headLoop 6 384 384 (i 1).val qm x1 x2 x5 m x := by
  refine loopV_eq _ _ _ (trips13 i) rfl fun j => (st_k0_t13_succ ..).trans ?_
  unfold tripR_k0_t13 trip_k0_t13
  show tripV qm _ _ _ _ _ = _
  rw [rd_k arg3 harg3 x1 _ _ _ _ (k0_off60_eq i j), rd_b arg7 harg7 x5 _ _ 6 _ _ (off61_eq i j),
    rd_m arg9 fs 6 m L _ _ _ (k0_off62_eq i j), rd_v arg4 harg4 x2 _ _ _ _ (k0_off63_eq i j)]

theorem loop14 (arg1 : BitVec 32) (v1 : IVec S8x256 32) (v2 : IVec S256x128 32) (v1179 : Vec F S256x128 .bf16) (v1183 : FVec F S8x128 .f32) (v1186 : FVec F S8x128 .f32) (qm : Vec F S256x128 .bf16) (v1355 : FVec F S1x256 .f32) (v1360 : FVec F S1x256 .f32) (v1365 : FVec F S64x256 .f32) (c0 : BitVec 32) (v1366 : BitVec 32) :
    st_k0_t14 Variants.none c none i arg2 harg2 arg3 harg3 arg4 harg4 arg5 harg5 arg6 harg6 arg7 harg7 arg8 harg8 arg9 harg9 arg1 v1 v2 v1179 v1183 v1186 qm v1355 v1360 v1365 c0 v1366
      (harg3.unread x1) (harg4.unread x2) (harg7.unread x5) (arg9.view.writes (Elt F) fs (rowsOf 6 m L))
      (st_k0_t13 Variants.none c none i arg2 harg2 arg3 harg3 arg4 harg4 arg5 harg5 arg6 harg6 arg7 harg7 arg8 harg8 arg9 harg9 arg1 v1 v2 v1179 v1183 v1186 qm v1355 v1360 v1365 c0 v1366
        (harg3.unread x1) (harg4.unread x2) (harg7.unread x5) (arg9.view.writes (Elt F) fs (rowsOf 6 m L)) x (k0_t13_loop i).trips) (k0_t14_loop i).trips
      = headLoop 6 384 384 (i 1).val qm x1 x2 x5 m x := by
  rw [trips14]; exact loop13 ..

/-! ## Head 7 -/

theorem off70_eq : ∀ (i : grid0.Coords) (t : Fin (k0_t15_loop i).trips),
    k0_off70 i t = ![7, if t.val + 1 = (i 1).val then 0 else 1, 0, 0] := by decide +kernel
theorem trips15 : ∀ i : grid0.Coords, (k0_t15_loop i).trips = (i 1).val := by decide +kernel
theorem trips16 : ∀ i : grid0.Coords, (k0_t16_loop i).trips = 0 := by decide +kernel

theorem loop15 (qm : Vec F S256x128 .bf16) :
    st_k0_t15 Variants.none c none i arg2 harg2 arg3 harg3 arg4 harg4 arg5 harg5 arg6 harg6 arg7 harg7 arg8 harg8 arg9 harg9 qm
      (harg3.unread x1) (harg4.unread x2) (harg7.unread x5) (arg9.view.writes (Elt F) fs (rowsOf 7 m L)) x (k0_t15_loop i).trips
      = headLoop 7 448 384 (i 1).val qm x1 x2 x5 m x := by
  refine loopV_eq _ _ _ (trips15 i) rfl fun j => (st_k0_t15_succ ..).trans ?_
  unfold tripR_k0_t15 trip_k0_t15
  show tripV qm _ _ _ _ _ = _
  rw [rd_k arg3 harg3 x1 _ _ _ _ (k0_off69_eq i j), rd_b arg7 harg7 x5 _ _ 7 _ _ (off70_eq i j),
    rd_m arg9 fs 7 m L _ _ _ (k0_off71_eq i j), rd_v arg4 harg4 x2 _ _ _ _ (k0_off72_eq i j)]

theorem loop16 (qm : Vec F S256x128 .bf16) :
    st_k0_t16 Variants.none c none i arg2 harg2 arg3 harg3 arg4 harg4 arg5 harg5 arg6 harg6 arg7 harg7 arg8 harg8 arg9 harg9 qm
      (harg3.unread x1) (harg4.unread x2) (harg7.unread x5) (arg9.view.writes (Elt F) fs (rowsOf 7 m L))
      (st_k0_t15 Variants.none c none i arg2 harg2 arg3 harg3 arg4 harg4 arg5 harg5 arg6 harg6 arg7 harg7 arg8 harg8 arg9 harg9 qm
        (harg3.unread x1) (harg4.unread x2) (harg7.unread x5) (arg9.view.writes (Elt F) fs (rowsOf 7 m L)) x (k0_t15_loop i).trips) (k0_t16_loop i).trips
      = headLoop 7 448 384 (i 1).val qm x1 x2 x5 m x := by
  rw [trips16]; exact loop15 ..

end Cert.KernelIdeal.Attn
-- ==== Proof.AttnHeads.lean ====
/-
  Hand-written, untrusted. The body's stores to the output block: four slabs, each of two heads' common computation.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]
variable (c : Dev nD) (i : grid0.Coords) (arg2 : Memref sig .tc .vmem S256x512 .bf16) (harg2 : arg2.IsWhole)
  (arg3 : Memref sig .tc .vmem S1x8x256x512 .bf16) (harg3 : arg3.IsWhole) (arg4 : Memref sig .tc .vmem S1x8x512x256 .bf16)
  (harg4 : arg4.IsWhole) (arg5 : Memref sig .tc .vmem S1x8x512 .f32) (harg5 : arg5.IsWhole)
  (arg6 : Memref sig .tc .vmem S8x256x256 .f32) (harg6 : arg6.IsWhole) (arg7 : Memref sig .tc .vmem S8x2x256x256 .f32)
  (harg7 : arg7.IsWhole) (arg8 : Memref sig .tc .vmem S256x512 .bf16) (harg8 : arg8.IsWhole)
  (arg9 : Memref sig .tc .vmem S8x8x8x256 .f32) (harg9 : arg9.IsWhole)
  (x0 : Vec F S256x512 .bf16) (x1 : Vec F S1x8x256x512 .bf16) (x2 : Vec F S1x8x512x256 .bf16) (x3 : Vec F S1x8x512 .f32)
  (x4 : Vec F S8x256x256 .f32) (x5 : Vec F S8x2x256x256 .f32) (fs : BufTy.Contents (Elt F) arg9.view.ty)

theorem qInb : ∀ p : Fin 4, ∀ a : Fin 2, (![0, 128 * p.val] : Fin 2 → ℕ) a + S256x128.size a ≤ S256x512.size a := by decide
theorem kmInb : ∀ p : Fin 4, ∀ a : Fin 3, (![0, 0, 128 * p.val] : Fin 3 → ℕ) a + S1x8x128.size a ≤ S1x8x512.size a := by decide
theorem bInb : ∀ h : Fin 8, ∀ a : Fin 3, (![h.val, 0, 0] : Fin 3 → ℕ) a + S1x256x256.size a ≤ S8x256x256.size a := by decide

/-- The loaded queries of pair `p`. -/
def qL (p : Fin 4) : Vec F S256x128 .bf16 :=
  arg2.view.readAt (Elt F) (Rect.unit (s := S256x512) ![0, 128 * p.val] S256x128.size (qInb p)).toLoadRect (harg2.unread x0)

/-- The loaded block means of pair `p`. -/
def kmL (p : Fin 4) : Vec F S1x8x128 .f32 :=
  arg5.view.readAt (Elt F) (Rect.unit (s := S1x8x512) ![0, 0, 128 * p.val] S1x8x128.size (kmInb p)).toLoadRect (harg5.unread x3)

/-- The loaded own bias tile of head `h`. -/
def bL (h : Fin 8) : Vec F S1x256x256 .f32 :=
  arg6.view.readAt (Elt F) (Rect.unit (s := S8x256x256) ![h.val, 0, 0] S1x256x256.size (bInb h)).toLoadRect (harg6.unread x4)

/-- The pair a head belongs to. -/
abbrev pr (h : Fin 8) : Fin 4 := ⟨h.val / 2, by omega⟩

/-- Head `h`'s queries. -/
def qmH (h : Fin 8) : Vec F S256x128 .bf16 :=
  qmV (BitVec.ofNat 32 (64 * (h.val % 2))) (BitVec.ofNat 32 (64 * (h.val % 2) + 64)) (qL arg2 harg2 x0 (pr h))

/-- Head `h`'s mask. -/
def maskH (h : Fin 8) : FVec F S8x256 .f32 :=
  maskV (BitVec.ofNat 32 (i 1).val) (Scalar.minsi (BitVec.ofNat 32 (i 1).val) 3#32)
    (gateV (BitVec.ofNat 32 (i 1).val) (qmH arg2 harg2 x0 h) (kmL arg5 harg5 x3 (pr h)))

/-- The stores of the first `n` heads' masks, last first. -/
def rowsTo : (n : ℕ) → n ≤ 8 → List (View.Piece (Elt F) S8x8x8x256 .f32)
  | 0, _ => []
  | n + 1, hn => rowsOf ⟨n, hn⟩ (maskH i arg2 harg2 arg5 harg5 x0 x3 ⟨n, hn⟩) (rowsTo n (by omega))

/-- Head `h`'s last state. -/
def finH (h : Fin 8) (ko : Vec F S1x1x256x128 .bf16) (vo : Vec F S1x1x64x256 .bf16) : St F :=
  headLoop h (64 * h.val) (128 * (h.val / 2)) (i 1).val (qmH arg2 harg2 x0 h) x1 x2 x5 (maskH i arg2 harg2 arg5 harg5 x0 x3 h)
    (ownV (qmH arg2 harg2 x0 h) ko (bL arg6 harg6 x4 h) vo)

/-- A loaded own block of keys. -/
abbrev kO (off : Fin 4 → ℕ) (inb : ∀ a, off a + S1x1x256x128.size a ≤ S1x8x256x512.size a) : Vec F S1x1x256x128 .bf16 :=
  arg3.view.readAt (Elt F) (Rect.unit (s := S1x8x256x512) off S1x1x256x128.size inb).toLoadRect (harg3.unread x1)

/-- A loaded own block of values. -/
abbrev vO (off : Fin 4 → ℕ) (inb : ∀ a, off a + S1x1x64x256.size a ≤ S1x8x512x256.size a) : Vec F S1x1x64x256 .bf16 :=
  arg4.view.readAt (Elt F) (Rect.unit (s := S1x8x512x256) off S1x1x64x256.size inb).toLoadRect (harg4.unread x2)

theorem head0 : run.sl.r_13 c i arg2 harg2 arg3 harg3 arg4 harg4 arg5 harg5 arg6 harg6 arg7 harg7 arg8 harg8 arg9 harg9 x0 x1 x2 x3 x4 x5 fs
    = k0_pay53 (finH i arg2 harg2 arg5 harg5 arg6 harg6 x0 x1 x2 x3 x4 x5 0 (kO arg3 harg3 x1 (k0_off1 i) (k0_off1_inb i)) (vO arg4 harg4 x2 (k0_off2 i) (k0_off2_inb i))).2.1 (finH i arg2 harg2 arg5 harg5 arg6 harg6 x0 x1 x2 x3 x4 x5 0 (kO arg3 harg3 x1 (k0_off1 i) (k0_off1_inb i)) (vO arg4 harg4 x2 (k0_off2 i) (k0_off2_inb i))).2.2 := by
  have e : _ = (finH i arg2 harg2 arg5 harg5 arg6 harg6 x0 x1 x2 x3 x4 x5 0 (kO arg3 harg3 x1 (k0_off1 i) (k0_off1_inb i)) (vO arg4 harg4 x2 (k0_off2 i) (k0_off2_inb i))) := loop2 c i arg2 harg2 arg3 harg3 arg4 harg4 arg5 harg5 arg6 harg6 arg7 harg7 arg8 harg8 arg9 harg9 x1 x2 x5 fs (maskH i arg2 harg2 arg5 harg5 x0 x3 0)
    (rowsTo i arg2 harg2 arg5 harg5 x0 x3 0 (by decide)) (ownV (qmH arg2 harg2 x0 0) (kO arg3 harg3 x1 (k0_off1 i) (k0_off1_inb i)) (bL arg6 harg6 x4 0) (vO arg4 harg4 x2 (k0_off2 i) (k0_off2_inb i)))
    (BitVec.ofNat 32 (i 1).val) run.sl.v2 (qL arg2 harg2 x0 0) (run.sl.r_1 c arg5 harg5 x3) (run.sl.r_2 c arg5 harg5 x3) (qmH arg2 harg2 x0 0)
  rw [← e]
  sl_kernel_rfl

theorem head2 : run.sl.r_38 c i arg2 harg2 arg3 harg3 arg4 harg4 arg5 harg5 arg6 harg6 arg7 harg7 arg8 harg8 arg9 harg9 x0 x1 x2 x3 x4 x5 fs
    = k0_pay53 (finH i arg2 harg2 arg5 harg5 arg6 harg6 x0 x1 x2 x3 x4 x5 2 (kO arg3 harg3 x1 (k0_off20 i) (k0_off20_inb i)) (vO arg4 harg4 x2 (k0_off21 i) (k0_off21_inb i))).2.1 (finH i arg2 harg2 arg5 harg5 arg6 harg6 x0 x1 x2 x3 x4 x5 2 (kO arg3 harg3 x1 (k0_off20 i) (k0_off20_inb i)) (vO arg4 harg4 x2 (k0_off21 i) (k0_off21_inb i))).2.2 := by
  have e : _ = (finH i arg2 harg2 arg5 harg5 arg6 harg6 x0 x1 x2 x3 x4 x5 2 (kO arg3 harg3 x1 (k0_off20 i) (k0_off20_inb i)) (vO arg4 harg4 x2 (k0_off21 i) (k0_off21_inb i))) := loop6 c i arg2 harg2 arg3 harg3 arg4 harg4 arg5 harg5 arg6 harg6 arg7 harg7 arg8 harg8 arg9 harg9 x1 x2 x5 fs (maskH i arg2 harg2 arg5 harg5 x0 x3 2)
    (rowsTo i arg2 harg2 arg5 harg5 x0 x3 2 (by decide)) (ownV (qmH arg2 harg2 x0 2) (kO arg3 harg3 x1 (k0_off20 i) (k0_off20_inb i)) (bL arg6 harg6 x4 2) (vO arg4 harg4 x2 (k0_off21 i) (k0_off21_inb i)))
    (BitVec.ofNat 32 (i 1).val) run.sl.v2 (qmH arg2 harg2 x0 2) (run.sl.r_37 c i arg2 harg2 arg5 harg5 x0 x3)
  rw [← e]
  sl_kernel_rfl

theorem head4 : run.sl.r_63 c i arg2 harg2 arg3 harg3 arg4 harg4 arg5 harg5 arg6 harg6 arg7 harg7 arg8 harg8 arg9 harg9 x0 x1 x2 x3 x4 x5 fs
    = k0_pay53 (finH i arg2 harg2 arg5 harg5 arg6 harg6 x0 x1 x2 x3 x4 x5 4 (kO arg3 harg3 x1 (k0_off39 i) (k0_off39_inb i)) (vO arg4 harg4 x2 (k0_off40 i) (k0_off40_inb i))).2.1 (finH i arg2 harg2 arg5 harg5 arg6 harg6 x0 x1 x2 x3 x4 x5 4 (kO arg3 harg3 x1 (k0_off39 i) (k0_off39_inb i)) (vO arg4 harg4 x2 (k0_off40 i) (k0_off40_inb i))).2.2 := by
  have e : _ = (finH i arg2 harg2 arg5 harg5 arg6 harg6 x0 x1 x2 x3 x4 x5 4 (kO arg3 harg3 x1 (k0_off39 i) (k0_off39_inb i)) (vO arg4 harg4 x2 (k0_off40 i) (k0_off40_inb i))) := loop10 c i arg2 harg2 arg3 harg3 arg4 harg4 arg5 harg5 arg6 harg6 arg7 harg7 arg8 harg8 arg9 harg9 x1 x2 x5 fs (maskH i arg2 harg2 arg5 harg5 x0 x3 4)
    (rowsTo i arg2 harg2 arg5 harg5 x0 x3 4 (by decide)) (ownV (qmH arg2 harg2 x0 4) (kO arg3 harg3 x1 (k0_off39 i) (k0_off39_inb i)) (bL arg6 harg6 x4 4) (vO arg4 harg4 x2 (k0_off40 i) (k0_off40_inb i)))
    (BitVec.ofNat 32 (i 1).val) (qmH arg2 harg2 x0 4) (run.sl.r_58 c i arg2 harg2 arg5 harg5 x0 x3) (run.sl.r_60 c i arg2 harg2 arg5 harg5 x0 x3)
  rw [← e]
  sl_kernel_rfl

theorem head6 : run.sl.r_89 c i arg2 harg2 arg3 harg3 arg4 harg4 arg5 harg5 arg6 harg6 arg7 harg7 arg8 harg8 arg9 harg9 x0 x1 x2 x3 x4 x5 fs
    = k0_pay53 (finH i arg2 harg2 arg5 harg5 arg6 harg6 x0 x1 x2 x3 x4 x5 6 (kO arg3 harg3 x1 (k0_off58 i) (k0_off58_inb i)) (vO arg4 harg4 x2 (k0_off59 i) (k0_off59_inb i))).2.1 (finH i arg2 harg2 arg5 harg5 arg6 harg6 x0 x1 x2 x3 x4 x5 6 (kO arg3 harg3 x1 (k0_off58 i) (k0_off58_inb i)) (vO arg4 harg4 x2 (k0_off59 i) (k0_off59_inb i))).2.2 := by
  have e : _ = (finH i arg2 harg2 arg5 harg5 arg6 harg6 x0 x1 x2 x3 x4 x5 6 (kO arg3 harg3 x1 (k0_off58 i) (k0_off58_inb i)) (vO arg4 harg4 x2 (k0_off59 i) (k0_off59_inb i))) := loop14 c i arg2 harg2 arg3 harg3 arg4 harg4 arg5 harg5 arg6 harg6 arg7 harg7 arg8 harg8 arg9 harg9 x1 x2 x5 fs (maskH i arg2 harg2 arg5 harg5 x0 x3 6)
    (rowsTo i arg2 harg2 arg5 harg5 x0 x3 6 (by decide)) (ownV (qmH arg2 harg2 x0 6) (kO arg3 harg3 x1 (k0_off58 i) (k0_off58_inb i)) (bL arg6 harg6 x4 6) (vO arg4 harg4 x2 (k0_off59 i) (k0_off59_inb i)))
    (BitVec.ofNat 32 (i 1).val) run.sl.v1 run.sl.v2 (qL arg2 harg2 x0 3) (run.sl.r_77 c arg5 harg5 x3) (run.sl.r_78 c arg5 harg5 x3) (qmH arg2 harg2 x0 6) (run.sl.r_86 c i arg2 harg2 arg3 harg3 arg6 harg6 x0 x1 x4) (run.sl.r_87 c i arg2 harg2 arg3 harg3 arg6 harg6 x0 x1 x4) (run.sl.r_88 c i arg2 harg2 arg3 harg3 arg4 harg4 arg6 harg6 x0 x1 x2 x4) 0#32 (run.sl.v1366 i)
  rw [← e]
  sl_kernel_rfl

/-- The body's stores to the output block, last first: the four pairs' slabs. -/
theorem run_pieces : (run c i arg2 harg2 arg3 harg3 arg4 harg4 arg5 harg5 arg6 harg6 arg7 harg7 arg8 harg8 arg9 harg9 x0 x1 x2 x3 x4 x5 fs).1
    = [⟨(Rect.unit (s := S256x512) ![0, 384] S256x128.size (qInb 3)), slabV (finH i arg2 harg2 arg5 harg5 arg6 harg6 x0 x1 x2 x3 x4 x5 6 (kO arg3 harg3 x1 (k0_off58 i) (k0_off58_inb i)) (vO arg4 harg4 x2 (k0_off59 i) (k0_off59_inb i)))
        (finH i arg2 harg2 arg5 harg5 arg6 harg6 x0 x1 x2 x3 x4 x5 7 (kO arg3 harg3 x1 (k0_off58 i) (k0_off58_inb i)) (vO arg4 harg4 x2 (k0_off68 i) (k0_off68_inb i)))⟩,
      ⟨(Rect.unit (s := S256x512) ![0, 256] S256x128.size (qInb 2)), slabV (finH i arg2 harg2 arg5 harg5 arg6 harg6 x0 x1 x2 x3 x4 x5 4 (kO arg3 harg3 x1 (k0_off39 i) (k0_off39_inb i)) (vO arg4 harg4 x2 (k0_off40 i) (k0_off40_inb i)))
        (finH i arg2 harg2 arg5 harg5 arg6 harg6 x0 x1 x2 x3 x4 x5 5 (kO arg3 harg3 x1 (k0_off39 i) (k0_off39_inb i)) (vO arg4 harg4 x2 (k0_off49 i) (k0_off49_inb i)))⟩,
      ⟨(Rect.unit (s := S256x512) ![0, 128] S256x128.size (qInb 1)), slabV (finH i arg2 harg2 arg5 harg5 arg6 harg6 x0 x1 x2 x3 x4 x5 2 (kO arg3 harg3 x1 (k0_off20 i) (k0_off20_inb i)) (vO arg4 harg4 x2 (k0_off21 i) (k0_off21_inb i)))
        (finH i arg2 harg2 arg5 harg5 arg6 harg6 x0 x1 x2 x3 x4 x5 3 (kO arg3 harg3 x1 (k0_off20 i) (k0_off20_inb i)) (vO arg4 harg4 x2 (k0_off30 i) (k0_off30_inb i)))⟩,
      ⟨(Rect.unit (s := S256x512) ![0, 0] S256x128.size (qInb 0)), slabV (finH i arg2 harg2 arg5 harg5 arg6 harg6 x0 x1 x2 x3 x4 x5 0 (kO arg3 harg3 x1 (k0_off1 i) (k0_off1_inb i)) (vO arg4 harg4 x2 (k0_off2 i) (k0_off2_inb i)))
        (finH i arg2 harg2 arg5 harg5 arg6 harg6 x0 x1 x2 x3 x4 x5 1 (kO arg3 harg3 x1 (k0_off1 i) (k0_off1_inb i)) (vO arg4 harg4 x2 (k0_off11 i) (k0_off11_inb i)))⟩] := by
  have e1 : _ = (finH i arg2 harg2 arg5 harg5 arg6 harg6 x0 x1 x2 x3 x4 x5 1 (kO arg3 harg3 x1 (k0_off1 i) (k0_off1_inb i)) (vO arg4 harg4 x2 (k0_off11 i) (k0_off11_inb i))) := loop4 c i arg2 harg2 arg3 harg3 arg4 harg4 arg5 harg5 arg6 harg6 arg7 harg7 arg8 harg8 arg9 harg9 x1 x2 x5 fs (maskH i arg2 harg2 arg5 harg5 x0 x3 1)
    (rowsTo i arg2 harg2 arg5 harg5 x0 x3 1 (by decide)) (ownV (qmH arg2 harg2 x0 1) (kO arg3 harg3 x1 (k0_off1 i) (k0_off1_inb i)) (bL arg6 harg6 x4 1) (vO arg4 harg4 x2 (k0_off11 i) (k0_off11_inb i)))
    (BitVec.ofNat 32 (i 1).val) run.sl.v1 run.sl.v2 (run.sl.r_13 c i arg2 harg2 arg3 harg3 arg4 harg4 arg5 harg5 arg6 harg6 arg7 harg7 arg8 harg8 arg9 harg9 x0 x1 x2 x3 x4 x5 fs) (qmH arg2 harg2 x0 1) (run.sl.r_23 c i arg2 harg2 arg3 harg3 arg6 harg6 x0 x1 x4) (run.sl.r_24 c i arg2 harg2 arg3 harg3 arg6 harg6 x0 x1 x4) (run.sl.r_25 c i arg2 harg2 arg3 harg3 arg4 harg4 arg6 harg6 x0 x1 x2 x4) 0#32 (run.sl.v384 i)
  have e3 : _ = (finH i arg2 harg2 arg5 harg5 arg6 harg6 x0 x1 x2 x3 x4 x5 3 (kO arg3 harg3 x1 (k0_off20 i) (k0_off20_inb i)) (vO arg4 harg4 x2 (k0_off30 i) (k0_off30_inb i))) := loop8 c i arg2 harg2 arg3 harg3 arg4 harg4 arg5 harg5 arg6 harg6 arg7 harg7 arg8 harg8 arg9 harg9 x1 x2 x5 fs (maskH i arg2 harg2 arg5 harg5 x0 x3 3)
    (rowsTo i arg2 harg2 arg5 harg5 x0 x3 3 (by decide)) (ownV (qmH arg2 harg2 x0 3) (kO arg3 harg3 x1 (k0_off20 i) (k0_off20_inb i)) (bL arg6 harg6 x4 3) (vO arg4 harg4 x2 (k0_off30 i) (k0_off30_inb i)))
    (BitVec.ofNat 32 (i 1).val) run.sl.v1 run.sl.v2 (run.sl.r_38 c i arg2 harg2 arg3 harg3 arg4 harg4 arg5 harg5 arg6 harg6 arg7 harg7 arg8 harg8 arg9 harg9 x0 x1 x2 x3 x4 x5 fs) (qmH arg2 harg2 x0 3) (run.sl.r_47 c i arg2 harg2 arg3 harg3 arg6 harg6 x0 x1 x4) (run.sl.r_48 c i arg2 harg2 arg3 harg3 arg6 harg6 x0 x1 x4) (run.sl.r_49 c i arg2 harg2 arg3 harg3 arg6 harg6 x0 x1 x4) (run.sl.r_50 i arg4 harg4 x2)
  have e5 : _ = (finH i arg2 harg2 arg5 harg5 arg6 harg6 x0 x1 x2 x3 x4 x5 5 (kO arg3 harg3 x1 (k0_off39 i) (k0_off39_inb i)) (vO arg4 harg4 x2 (k0_off49 i) (k0_off49_inb i))) := loop12 c i arg2 harg2 arg3 harg3 arg4 harg4 arg5 harg5 arg6 harg6 arg7 harg7 arg8 harg8 arg9 harg9 x1 x2 x5 fs (maskH i arg2 harg2 arg5 harg5 x0 x3 5)
    (rowsTo i arg2 harg2 arg5 harg5 x0 x3 5 (by decide)) (ownV (qmH arg2 harg2 x0 5) (kO arg3 harg3 x1 (k0_off39 i) (k0_off39_inb i)) (bL arg6 harg6 x4 5) (vO arg4 harg4 x2 (k0_off49 i) (k0_off49_inb i)))
    (BitVec.ofNat 32 (i 1).val) run.sl.v2 (run.sl.r_63 c i arg2 harg2 arg3 harg3 arg4 harg4 arg5 harg5 arg6 harg6 arg7 harg7 arg8 harg8 arg9 harg9 x0 x1 x2 x3 x4 x5 fs) (qmH arg2 harg2 x0 5) (run.sl.r_74 c i arg2 harg2 arg3 harg3 arg6 harg6 x0 x1 x4) (run.sl.r_75 c i arg2 harg2 arg3 harg3 arg6 harg6 x0 x1 x4)
  have e7 : _ = (finH i arg2 harg2 arg5 harg5 arg6 harg6 x0 x1 x2 x3 x4 x5 7 (kO arg3 harg3 x1 (k0_off58 i) (k0_off58_inb i)) (vO arg4 harg4 x2 (k0_off68 i) (k0_off68_inb i))) := loop16 c i arg2 harg2 arg3 harg3 arg4 harg4 arg5 harg5 arg6 harg6 arg7 harg7 arg8 harg8 arg9 harg9 x1 x2 x5 arg9.view.junk (maskH i arg2 harg2 arg5 harg5 x0 x3 7)
    (rowsTo i arg2 harg2 arg5 harg5 x0 x3 7 (by decide)) (ownV (qmH arg2 harg2 x0 7) (kO arg3 harg3 x1 (k0_off58 i) (k0_off58_inb i)) (bL arg6 harg6 x4 7) (vO arg4 harg4 x2 (k0_off68 i) (k0_off68_inb i)))
    (qmH arg2 harg2 x0 7)
  unfold slabV
  rw [← head0 c i arg2 harg2 arg3 harg3 arg4 harg4 arg5 harg5 arg6 harg6 arg7 harg7 arg8 harg8 arg9 harg9 x0 x1 x2 x3 x4 x5 fs]
  rw [← head2 c i arg2 harg2 arg3 harg3 arg4 harg4 arg5 harg5 arg6 harg6 arg7 harg7 arg8 harg8 arg9 harg9 x0 x1 x2 x3 x4 x5 fs]
  rw [← head4 c i arg2 harg2 arg3 harg3 arg4 harg4 arg5 harg5 arg6 harg6 arg7 harg7 arg8 harg8 arg9 harg9 x0 x1 x2 x3 x4 x5 fs]
  rw [← head6 c i arg2 harg2 arg3 harg3 arg4 harg4 arg5 harg5 arg6 harg6 arg7 harg7 arg8 harg8 arg9 harg9 x0 x1 x2 x3 x4 x5 fs]
  rw [← e1]
  rw [← e3]
  rw [← e5]
  rw [← e7]
  sl_kernel_rfl

end Cert.KernelIdeal.Attn
-- ==== Proof.AttnFrame.lean ====
/-
  Hand-written, untrusted. The frame of the attention call: the body run at a generic point, what it leaves in the output block
  named as the four pairs' slabs.
-/
module

public import proofs.«01_k».proof.Proof.AttnHeads
public import Idealize.ShloMosaic.Lib.Pipeline.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S256x512 .bf16 := win0_0.stage (cfg0.slots t 0)
abbrev ms1 (t : Fin cfg0.N) : Memref sig .tc .vmem S1x8x256x512 .bf16 := win0_1.stage (cfg0.slots t 1)
abbrev ms2 (t : Fin cfg0.N) : Memref sig .tc .vmem S1x8x512x256 .bf16 := win0_2.stage (cfg0.slots t 2)
abbrev ms3 (t : Fin cfg0.N) : Memref sig .tc .vmem S1x8x512 .f32 := win0_3.stage (cfg0.slots t 3)
abbrev ms4 (t : Fin cfg0.N) : Memref sig .tc .vmem S8x256x256 .f32 := win0_4.stage (cfg0.slots t 4)
abbrev ms5 (t : Fin cfg0.N) : Memref sig .tc .vmem S8x2x256x256 .f32 := win0_5.stage (cfg0.slots t 5)
abbrev ms6 (t : Fin cfg0.N) : Memref sig .tc .vmem S256x512 .bf16 := win0_6.stage (cfg0.slots t 6)
abbrev scM : Memref sig .tc .vmem S8x8x8x256 .f32 := Memref.whole cc0_scratch0

/-- The invariant between points: the mask scratch at some contents and the generator register. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## What the body leaves in its output block -/

section
variable (c : Dev nD) (i : grid0.Coords) (arg2 : Memref sig .tc .vmem S256x512 .bf16) (harg2 : arg2.IsWhole)
  (arg3 : Memref sig .tc .vmem S1x8x256x512 .bf16) (harg3 : arg3.IsWhole) (arg4 : Memref sig .tc .vmem S1x8x512x256 .bf16)
  (harg4 : arg4.IsWhole) (arg5 : Memref sig .tc .vmem S1x8x512 .f32) (harg5 : arg5.IsWhole)
  (arg6 : Memref sig .tc .vmem S8x256x256 .f32) (harg6 : arg6.IsWhole) (arg7 : Memref sig .tc .vmem S8x2x256x256 .f32)
  (harg7 : arg7.IsWhole) (arg8 : Memref sig .tc .vmem S256x512 .bf16) (harg8 : arg8.IsWhole)
  (arg9 : Memref sig .tc .vmem S8x8x8x256 .f32) (harg9 : arg9.IsWhole)
  (x0 : Vec F S256x512 .bf16) (x1 : Vec F S1x8x256x512 .bf16) (x2 : Vec F S1x8x512x256 .bf16) (x3 : Vec F S1x8x512 .f32)
  (x4 : Vec F S8x256x256 .f32) (x5 : Vec F S8x2x256x256 .f32) (fs : BufTy.Contents (Elt F) arg9.view.ty)

/-- Head `h`'s last state, its own blocks read off the key and value blocks. -/
def finC (h : Fin 8) : St F :=
  finH i arg2 harg2 arg5 harg5 arg6 harg6 x0 x1 x2 x3 x4 x5 h (kRd x1 (128 * (h.val / 2)) (i 1).val) (vRd x2 (64 * h.val) (i 1).val)

/-- Pair `p`'s slab. -/
def slabC (p : Fin 4) : Vec F S256x128 .bf16 :=
  slabV (finC i arg2 harg2 arg5 harg5 arg6 harg6 x0 x1 x2 x3 x4 x5 ⟨2 * p.val, by omega⟩)
    (finC i arg2 harg2 arg5 harg5 arg6 harg6 x0 x1 x2 x3 x4 x5 ⟨2 * p.val + 1, by omega⟩)

/-- Pair `p`'s store. -/
def pieceC (p : Fin 4) : View.Piece (Elt F) S256x512 .bf16 :=
  ⟨Rect.unit (s := S256x512) ![0, 128 * p.val] S256x128.size (qInb p), slabC i arg2 harg2 arg5 harg5 arg6 harg6 x0 x1 x2 x3 x4 x5 p⟩

/-- The stores of the four pairs, last first. -/
def pieces : List (View.Piece (Elt F) S256x512 .bf16) :=
  [pieceC i arg2 harg2 arg5 harg5 arg6 harg6 x0 x1 x2 x3 x4 x5 3, pieceC i arg2 harg2 arg5 harg5 arg6 harg6 x0 x1 x2 x3 x4 x5 2,
    pieceC i arg2 harg2 arg5 harg5 arg6 harg6 x0 x1 x2 x3 x4 x5 1, pieceC i arg2 harg2 arg5 harg5 arg6 harg6 x0 x1 x2 x3 x4 x5 0]

theorem run_eq_pieces : (run c i arg2 harg2 arg3 harg3 arg4 harg4 arg5 harg5 arg6 harg6 arg7 harg7 arg8 harg8 arg9 harg9 x0 x1 x2 x3 x4 x5 fs).1
    = pieces i arg2 harg2 arg5 harg5 arg6 harg6 x0 x1 x2 x3 x4 x5 := by
  rw [run_pieces]
  simp only [kO, vO]
  rw [rd_k arg3 harg3 x1 _ _ _ _ (k0_off1_eq i), rd_k arg3 harg3 x1 _ _ _ _ (k0_off20_eq i), rd_k arg3 harg3 x1 _ _ _ _ (k0_off39_eq i),
    rd_k arg3 harg3 x1 _ _ _ _ (k0_off58_eq i), rd_v arg4 harg4 x2 _ _ _ _ (k0_off2_eq i), rd_v arg4 harg4 x2 _ _ _ _ (k0_off11_eq i),
    rd_v arg4 harg4 x2 _ _ _ _ (k0_off21_eq i), rd_v arg4 harg4 x2 _ _ _ _ (k0_off30_eq i), rd_v arg4 harg4 x2 _ _ _ _ (k0_off40_eq i),
    rd_v arg4 harg4 x2 _ _ _ _ (k0_off49_eq i), rd_v arg4 harg4 x2 _ _ _ _ (k0_off59_eq i), rd_v arg4 harg4 x2 _ _ _ _ (k0_off68_eq i)]
  sl_kernel_rfl

/-- The four slabs cover the output block. -/
theorem pieces_cover : ∀ y : S256x512.Idx, ∃ p ∈ pieces i arg2 harg2 arg5 harg5 arg6 harg6 x0 x1 x2 x3 x4 x5, y ∈ p.1.set :=
  View.cover_of_tiledL _ S256x128.size (by sl_kernel_rfl)

end

/-- The output block after point `t`. -/
def outC (c : Dev nD) (t : Fin cfg0.N) : Vec F S256x512 .bf16 :=
  View.canon (pieces (grid0.coords t) (ms0 t) (hstage0_0 ((cfg0.slots t 0).cast nbuf0_0)) (ms3 t) (hstage0_3 ((cfg0.slots t 3).cast nbuf0_3))
    (ms4 t) (hstage0_4 ((cfg0.slots t 4).cast nbuf0_4)) (iblk m c 0 t) (iblk m c 1 t) (iblk m c 2 t) (iblk m c 3 t) (iblk m c 4 t) (iblk m c 5 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = outC m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

/-- The body at any point: its inputs hold their blocks, so the run applies; the mask scratch goes in at some contents and comes
    back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩⟩
  unfold owns
  icases HS0 with ⟨%fs, -, HS0⟩
  iapply ((run c (grid0.coords t) (ms0 t) _ (ms1 t) _ (ms2 t) _ (ms3 t) _ (ms4 t) _ (ms5 t) _ (ms6 t) _ scM (Memref.isWhole_whole _) (iblk m c 0 t) (iblk m c 1 t) (iblk m c 2 t) (iblk m c 3 t) (iblk m c 4 t) (iblk m c 5 t) fs).2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  rw [run_eq_pieces]
  exact View.read_writes_eq_canon _ _ _ (pieces_cover _ _ _ _ _ _ _ _ _ _ _ _ _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the argument staged by input window `w` is as launched. -/
theorem kept (r : PUnit × MemSt nD τ sig (Elt F)) (h : Pipeline.FramePost cfgs (dats m) 0 (V m) r) (c : Dev nD) (w : Fin cfg0.W)
    (ho : (cfg0.win w).isOut = false) : r.2.mem ((c : Thread nD τ).loc (Pipeline.arrRef spec0 w)) = V m c (Pipeline.arrRef spec0 w) :=
  ((h c).1 w).trans (((dats m 0 c).arrAt_in w ho _).trans (A_eq m c w))

/-- The frame: the six arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨kept m r h.1 c 0 rfl, kept m r h.1 c 1 rfl, kept m r h.1 c 2 rfl, kept m r h.1 c 3 rfl,
      kept m r h.1 c 4 rfl, kept m r h.1 c 5 rfl⟩, h.2⟩) (run_main m ρ)

/-- The run with the output array after it named. -/
theorem run_blocks : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1 6, kept m r h.1 c 0 rfl, kept m r h.1 c 1 rfl, kept m r h.1 c 2 rfl, kept m r h.1 c 3 rfl,
      kept m r h.1 c 4 rfl, kept m r h.1 c 5 rfl⟩) (run_main m ρ)

end Cert.KernelIdeal.Attn

end
-- ==== Proof.AttnFrameP.lean ====
/-
  Hand-written, untrusted. The frame of the attention call: the body run at a generic point, what it leaves in the output block
  not named.
-/
module

public import proofs.«01_k».proof.Proof.AttnRunP
public import Idealize.ShloMosaic.Lib.Pipeline.Frame

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S256x512 .bf16 := win0_0.stage (cfg0.slots t 0)
abbrev ms1 (t : Fin cfg0.N) : Memref sig .tc .vmem S1x8x256x512 .bf16 := win0_1.stage (cfg0.slots t 1)
abbrev ms2 (t : Fin cfg0.N) : Memref sig .tc .vmem S1x8x512x256 .bf16 := win0_2.stage (cfg0.slots t 2)
abbrev ms3 (t : Fin cfg0.N) : Memref sig .tc .vmem S1x8x512 .f32 := win0_3.stage (cfg0.slots t 3)
abbrev ms4 (t : Fin cfg0.N) : Memref sig .tc .vmem S8x256x256 .f32 := win0_4.stage (cfg0.slots t 4)
abbrev ms5 (t : Fin cfg0.N) : Memref sig .tc .vmem S8x2x256x256 .f32 := win0_5.stage (cfg0.slots t 5)
abbrev ms6 (t : Fin cfg0.N) : Memref sig .tc .vmem S256x512 .bf16 := win0_6.stage (cfg0.slots t 6)
abbrev scM : Memref sig .tc .vmem S8x8x8x256 .f32 := Memref.whole cc0_scratch0

/-- The invariant between points: the mask scratch at some contents and the generator register. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The output window is forgotten. -/
def forgets0 : Fin 7 → Bool := fun w => match w with
  | ⟨6, _⟩ => true
  | _ => false

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ d, owns (c : Thread nD τ) (ms6 t) fullShare d))

/-- The body at any point: its inputs hold their blocks, so the run applies; the mask scratch goes in at some contents and comes
    back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨%ds, HS0⟩, Hg⟩, Ho, ⟨%d0, H0⟩, ⟨%d1, H1⟩, ⟨%d2, H2⟩, ⟨%d3, H3⟩, ⟨%d4, H4⟩, ⟨%d5, H5⟩, H6⟩
  unfold owns
  icases HS0 with ⟨%fs, -, HS0⟩
  iapply ((run c (grid0.coords t) (ms0 t) _ (ms1 t) _ (ms2 t) _ (ms3 t) _ (ms4 t) _ (ms5 t) _ (ms6 t) _ scM (Memref.isWhole_whole _) (iblk m c 0 t) (iblk m c 1 t) (iblk m c 2 t) (iblk m c 3 t) (iblk m c 4 t) (iblk m c 5 t) fs).2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _, _; isplitr; swap; · iexact H6
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the six arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  have hin : ∀ c (w : Fin cfg0.W) v, forgets0 w = false → (cfg0.win w).isOut = false →
      ((dats m 0 c).toRForget forgets0).ArrAt w cfg0.N v → v = V m c (Pipeline.arrRef spec0 w) := fun c w v hf ho h =>
    (((dats m 0 c).toRForget_arrAt_iff hf _ _).mp h).trans (((dats m 0 c).arrAt_in w ho _).trans (A_eq m c w))
  exact (θ_run defs _ _).mono (fun r h => ⟨fun c => ⟨(hin c 0 _ rfl rfl ((h.1 c).1 0)).trans (V_main_arg0 m c),
      (hin c 1 _ rfl rfl ((h.1 c).1 1)).trans (V_main_arg1 m c),
      (hin c 2 _ rfl rfl ((h.1 c).1 2)).trans (V_main_arg2 m c),
      (hin c 3 _ rfl rfl ((h.1 c).1 3)).trans (V_main_arg3 m c),
      (hin c 4 _ rfl rfl ((h.1 c).1 4)).trans (V_main_arg4 m c),
      (hin c 5 _ rfl rfl ((h.1 c).1 5)).trans (V_main_arg5 m c)⟩, h.2⟩) (run_main m ρ)

end Cert.Kernel.Attn

end
-- ==== Proof.AttnMath.lean ====
/-
  Hand-written, untrusted. The arithmetic of one attention query over the extended reals, free of any program: the running softmax
  over blocks of keys, the softmax over one row of logits, and the choice of blocks by rank against the choice by sorting.
-/
module

public import Idealize.ShloMosaic.Lib.SortFacts
public import Idealize.ShloMosaic.Lib.Pointwise

@[expose] public section

noncomputable section

open Idealize.ShloMosaic

namespace Cert.Attn

/-! ### Coercions -/

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

/-- A score that is not `⊤`, as a weight: the real `exp s`, `0` at `⊥`. -/
def wt (s : EReal) : ℝ := (Ideal.exp s).toReal

theorem exp_bot : Ideal.exp ⊥ = 0 := rfl
theorem exp_top : Ideal.exp ⊤ = ⊤ := rfl
theorem wt_bot : wt ⊥ = 0 := by rw [wt, exp_bot, EReal.toReal_zero]
theorem wt_coe (x : ℝ) : wt (x : EReal) = Real.exp x := EReal.toReal_coe _
theorem wt_nonneg (s : EReal) : 0 ≤ wt s := by
  induction s with
  | bot => rw [wt_bot]
  | top => rw [wt, exp_top, EReal.toReal_top]
  | coe x => rw [wt_coe]; exact (Real.exp_pos x).le
theorem wt_pos {s : EReal} (h : s ≠ ⊤) (h' : s ≠ ⊥) : 0 < wt s := by
  lift s to ℝ using ⟨h, h'⟩
  rw [wt_coe]; exact Real.exp_pos s

theorem exp_sub {s : EReal} (h : s ≠ ⊤) (μ : ℝ) : Ideal.exp (s - (μ : EReal)) = ((wt s * Real.exp (-μ) : ℝ) : EReal) := by
  induction s with
  | bot => rw [wt_bot, EReal.bot_sub, exp_bot, zero_mul, EReal.coe_zero]
  | top => exact absurd rfl h
  | coe x => rw [wt_coe, ← EReal.coe_sub]; show ((Real.exp (x - μ) : ℝ) : EReal) = _; rw [← Real.exp_add, sub_eq_add_neg]

/-! ### The largest of a row of scores -/

/-- The largest of a row, from `⊥`. -/
def rowMax {n : ℕ} (s : Fin n → EReal) : EReal := Finset.univ.fold max ⊥ s

theorem le_rowMax {n : ℕ} (s : Fin n → EReal) (k : Fin n) : s k ≤ rowMax s :=
  (Finset.le_fold_max _).mpr (Or.inr ⟨k, Finset.mem_univ k, le_rfl⟩)

theorem rowMax_ne_top {n : ℕ} {s : Fin n → EReal} (h : ∀ k, s k ≠ ⊤) : rowMax s ≠ ⊤ :=
  ((Finset.fold_max_lt _).mpr ⟨bot_lt_top, fun k _ => lt_top_iff_ne_top.mpr (h k)⟩).ne

theorem rowMax_real {n : ℕ} {s : Fin n → EReal} (h : ∀ k, s k ≠ ⊤) (k : Fin n) (hk : s k ≠ ⊥) : ∃ μ : ℝ, rowMax s = (μ : EReal) := by
  have hb : rowMax s ≠ ⊥ := fun e => hk (le_bot_iff.mp (e ▸ le_rowMax s k))
  exact ⟨(rowMax s).toReal, (EReal.coe_toReal (rowMax_ne_top h) hb).symm⟩

/-! ### The running softmax -/

/-- One block of keys alone: the maximum, the sum of the exponentials, the exponentials times one column of values. -/
def ownStep (s v : Fin 256 → EReal) : EReal × EReal × EReal :=
  (rowMax s, ∑ k, Ideal.exp (s k - rowMax s), ∑ k, v k * Ideal.exp (s k - rowMax s))

/-- One further block of keys: the maximum goes up, the two sums are rescaled to it and extended. -/
def pastStep (s v : Fin 256 → EReal) (x : EReal × EReal × EReal) : EReal × EReal × EReal :=
  (max x.1 (rowMax s),
   Ideal.exp (x.1 - max x.1 (rowMax s)) * x.2.1 + ∑ k, Ideal.exp (s k - max x.1 (rowMax s)),
   Ideal.exp (x.1 - max x.1 (rowMax s)) * x.2.2 + ∑ k, v k * Ideal.exp (s k - max x.1 (rowMax s)))

/-- The last division. -/
def finish (x : EReal × EReal × EReal) : EReal := x.2.2 * Ideal.div 1 x.2.1

/-- A running triple stands for a denominator and a numerator, both scaled by the exponential of the maximum. -/
def Rep (x : EReal × EReal × EReal) (D N : ℝ) : Prop :=
  ∃ μ : ℝ, x.1 = (μ : EReal) ∧ x.2.1 = ((D * Real.exp (-μ) : ℝ) : EReal) ∧ x.2.2 = ((N * Real.exp (-μ) : ℝ) : EReal)

theorem sum_exp {n : ℕ} {s : Fin n → EReal} (h : ∀ k, s k ≠ ⊤) (μ : ℝ) :
    ∑ k, Ideal.exp (s k - (μ : EReal)) = (((∑ k, wt (s k)) * Real.exp (-μ) : ℝ) : EReal) := by
  rw [Finset.sum_mul, coe_sum]; exact Finset.sum_congr rfl fun k _ => exp_sub (h k) μ

theorem sum_mul_exp {n : ℕ} {s : Fin n → EReal} (h : ∀ k, s k ≠ ⊤) (v : Fin n → ℝ) (μ : ℝ) :
    ∑ k, (v k : EReal) * Ideal.exp (s k - (μ : EReal)) = (((∑ k, v k * wt (s k)) * Real.exp (-μ) : ℝ) : EReal) := by
  rw [Finset.sum_mul, coe_sum]
  refine Finset.sum_congr rfl fun k _ => ?_
  rw [exp_sub (h k) μ, ← EReal.coe_mul]; congr 1; ring

theorem rep_own {s : Fin 256 → EReal} (h : ∀ k, s k ≠ ⊤) (k : Fin 256) (hk : s k ≠ ⊥) (v : Fin 256 → ℝ) :
    Rep (ownStep s fun k => (v k : EReal)) (∑ k, wt (s k)) (∑ k, v k * wt (s k)) := by
  obtain ⟨μ, hμ⟩ := rowMax_real h k hk
  refine ⟨μ, hμ, ?_, ?_⟩
  · show ∑ k, Ideal.exp (s k - rowMax s) = _; rw [hμ]; exact sum_exp h μ
  · show ∑ k, (v k : EReal) * Ideal.exp (s k - rowMax s) = _; rw [hμ]; exact sum_mul_exp h v μ

theorem rep_past {s : Fin 256 → EReal} (h : ∀ k, s k ≠ ⊤) (v : Fin 256 → ℝ) {x : EReal × EReal × EReal} {D N : ℝ} (hx : Rep x D N) :
    Rep (pastStep s (fun k => (v k : EReal)) x) (D + ∑ k, wt (s k)) (N + ∑ k, v k * wt (s k)) := by
  obtain ⟨μ, h1, h2, h3⟩ := hx
  have hm : max x.1 (rowMax s) ≠ ⊤ := by
    rw [h1]; exact (max_lt (EReal.coe_lt_top μ) (lt_top_iff_ne_top.mpr (rowMax_ne_top h))).ne
  have hb : max x.1 (rowMax s) ≠ ⊥ := by
    rw [h1]; exact (lt_of_lt_of_le (EReal.bot_lt_coe μ) (le_max_left _ _)).ne'
  obtain ⟨ν, hν⟩ : ∃ ν : ℝ, max x.1 (rowMax s) = (ν : EReal) := ⟨_, (EReal.coe_toReal hm hb).symm⟩
  have e : Real.exp (μ) * Real.exp (-ν) * Real.exp (-μ) = Real.exp (-ν) := by
    rw [← Real.exp_add, ← Real.exp_add]; congr 1; ring
  refine ⟨ν, hν, ?_, ?_⟩
  · show Ideal.exp (x.1 - max x.1 (rowMax s)) * x.2.1 + ∑ k, Ideal.exp (s k - max x.1 (rowMax s)) = _
    rw [hν, sum_exp h ν, h1, h2, exp_sub (EReal.coe_ne_top μ) ν, wt_coe, ← EReal.coe_mul, ← EReal.coe_add]
    congr 1; linear_combination D * e
  · show Ideal.exp (x.1 - max x.1 (rowMax s)) * x.2.2 + ∑ k, (v k : EReal) * Ideal.exp (s k - max x.1 (rowMax s)) = _
    rw [hν, sum_mul_exp h v ν, h1, h3, exp_sub (EReal.coe_ne_top μ) ν, wt_coe, ← EReal.coe_mul, ← EReal.coe_add]
    congr 1; linear_combination N * e

theorem div_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

theorem finish_rep {x : EReal × EReal × EReal} {D N : ℝ} (hx : Rep x D N) (hD : 0 < D) : finish x = ((N / D : ℝ) : EReal) := by
  obtain ⟨μ, h1, h2, h3⟩ := hx
  have he := Real.exp_pos (-μ)
  unfold finish
  rw [h2, h3, show (1 : EReal) = ((1 : ℝ) : EReal) from rfl, div_coe _ _ (mul_pos hD he).ne', ← EReal.coe_mul]
  congr 1; field_simp

/-- All blocks before `n`, in order, after the own block. -/
def pastSteps (s v : ℕ → Fin 256 → EReal) (x : EReal × EReal × EReal) : ℕ → EReal × EReal × EReal
  | 0 => x
  | n + 1 => pastStep (s n) (v n) (pastSteps s v x n)

theorem rep_pastSteps {s : ℕ → Fin 256 → EReal} (v : ℕ → Fin 256 → ℝ) {x : EReal × EReal × EReal} {D N : ℝ} (hx : Rep x D N) (n : ℕ)
    (h : ∀ j, j < n → ∀ k, s j k ≠ ⊤) :
    Rep (pastSteps s (fun j k => (v j k : EReal)) x n) (D + ∑ j ∈ Finset.range n, ∑ k, wt (s j k))
      (N + ∑ j ∈ Finset.range n, ∑ k, v j k * wt (s j k)) := by
  induction n with
  | zero => simpa [pastSteps] using hx
  | succ n ih =>
    rw [Finset.sum_range_succ, Finset.sum_range_succ, ← add_assoc, ← add_assoc]
    exact rep_past (h n n.lt_succ_self) (v n) (ih fun j hj => h j (hj.trans n.lt_succ_self))

/-! ### The softmax over one row of logits -/

theorem softmax_at {n : ℕ} {x : Fin n → EReal} (h : ∀ k, x k ≠ ⊤) (k : Fin n) (hk : x k ≠ ⊥) (j : Fin n) :
    Ideal.div (Ideal.exp (x j - rowMax x)) (∑ i, Ideal.exp (x i - rowMax x)) = ((wt (x j) / ∑ i, wt (x i) : ℝ) : EReal) := by
  obtain ⟨μ, hμ⟩ := rowMax_real h k hk
  have hD : 0 < ∑ i, wt (x i) := Finset.sum_pos' (fun i _ => wt_nonneg _) ⟨k, Finset.mem_univ k, wt_pos (h k) hk⟩
  have he := Real.exp_pos (-μ)
  rw [hμ, sum_exp h μ, exp_sub (h j) μ, div_coe _ _ (mul_pos hD he).ne']
  congr 1; field_simp

/-! ### The choice of blocks -/

/-- Block `r` comes before block `n`: a greater gate, or the same gate and a lower index. -/
def beats (g : Fin 8 → EReal) (r n : Fin 8) : Bool := decide (g n < g r) || (decide (g r = g n) && decide (r < n))

/-- How many blocks come before block `n`. -/
def rank (g : Fin 8 → EReal) (n : Fin 8) : ℕ := (Finset.univ.filter fun r => beats g r n = true).card

/-- The block a stable sort by descending gate puts at position `s`. -/
def top (g : Fin 8 → EReal) (s : Fin 8) : Fin 8 := sortedFrom (fun a b => decide (g b < g a)) s

theorem beats_iff (g : Fin 8 → EReal) (r n : Fin 8) : beats g r n = true ↔ g n < g r ∨ (g r = g n ∧ r < n) := by
  simp [beats]

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

theorem stableSort_congr {ι : Type} (B B' : ι → ι → Bool) (l : List ι) (h : l.Pairwise fun a b => B b a = B' b a) :
    stableSort B l = stableSort B' l := by
  induction l with
  | nil => rfl
  | cons a l ih =>
    rw [List.pairwise_cons] at h
    unfold stableSort
    rw [← ih h.2]
    exact insertBefore_congr B B' a _ fun b hb => h.1 b ((perm_stableSort B l).mem_iff.mp hb)

theorem top_eq (g : Fin 8 → EReal) (s : Fin 8) : top g s = sortedFrom (beats g) s := by
  have e : sortPositions 8 (fun a b => decide (g b < g a)) = sortPositions 8 (beats g) := by
    unfold sortPositions
    refine stableSort_congr _ _ _ ((List.pairwise_lt_finRange 8).imp fun {a b} hab => ?_)
    rw [Bool.eq_iff_iff, beats_iff, decide_eq_true_iff]
    exact ⟨Or.inl, fun h => h.elim id fun h => absurd h.2 (not_lt.mpr hab.le)⟩
  unfold top sortedFrom
  simp only [List.get_eq_getElem, e, Fin.val_cast]

theorem top_bijective (g : Fin 8 → EReal) : Function.Bijective (top g) :=
  ⟨sortedFrom_injective _, sortedFrom_surjective _⟩

theorem beats_asymm (g : Fin 8 → EReal) (a b : Fin 8) (h : beats g a b = true) : beats g b a = false := by
  rw [← Bool.not_eq_true, beats_iff]
  rcases (beats_iff g a b).mp h with h | ⟨e, h⟩
  · rintro (h' | ⟨e', -⟩)
    · exact lt_asymm h h'
    · exact absurd e' h.ne
  · rintro (h' | ⟨-, h'⟩)
    · exact absurd e h'.ne
    · exact lt_asymm h h'

theorem beats_total (g : Fin 8 → EReal) {a b : Fin 8} (hab : a ≠ b) (h : beats g b a = false) : beats g a b = true := by
  rw [← Bool.not_eq_true, beats_iff, not_or, not_and] at h
  rw [beats_iff]
  rcases lt_trichotomy (g a) (g b) with h' | h' | h'
  · exact absurd h' h.1
  · exact Or.inr ⟨h', lt_of_le_of_ne (not_lt.mp (h.2 h'.symm)) hab⟩
  · exact Or.inl h'

theorem beats_neg (g : Fin 8 → EReal) (a b c : Fin 8) (hab : beats g a b = false) (hbc : beats g b c = false) : beats g a c = false := by
  rw [← Bool.not_eq_true, beats_iff, not_or, not_and, not_lt] at *
  refine ⟨hab.1.trans hbc.1, fun e => ?_⟩
  have e1 : g a = g b := le_antisymm hab.1 (e ▸ hbc.1)
  have := hab.2 e1
  have := hbc.2 (e1.symm.trans e)
  omega

theorem top_before (g : Fin 8 → EReal) {i j : Fin 8} (hij : i < j) : beats g (top g i) (top g j) = true := by
  refine beats_total g (fun e => hij.ne ((top_bijective g).1 e)) ?_
  rw [top_eq, top_eq]
  exact sortedFrom_noInversion (beats g) (beats g) (beats_asymm g) (fun _ _ h => h) (beats_neg g) i j hij

/-- The block at position `s` of the sort is the one of rank `s`. -/
theorem rank_top (g : Fin 8 → EReal) (s : Fin 8) : rank g (top g s) = s.val := by
  unfold rank
  rw [← Finset.card_map (Equiv.ofBijective _ (top_bijective g)).symm.toEmbedding]
  rw [show ((Finset.univ.filter fun r => beats g r (top g s) = true).map (Equiv.ofBijective _ (top_bijective g)).symm.toEmbedding)
      = Finset.Iio s from ?_, Fin.card_Iio]
  ext i
  rw [Finset.mem_map_equiv, Equiv.symm_symm, Finset.mem_filter, Finset.mem_Iio]
  show _ ∧ beats g (top g i) (top g s) = true ↔ _
  constructor
  · rintro ⟨-, h⟩
    by_contra hi
    rcases (not_lt.mp hi).lt_or_eq with h' | rfl
    · have := beats_asymm g _ _ (top_before g h'); rw [h] at this; exact Bool.noConfusion this
    · have := beats_asymm g _ _ h; rw [h] at this; exact Bool.noConfusion this
  · intro h; exact ⟨Finset.mem_univ _, top_before g h⟩

/-- The sum over the chosen positions is the sum over the blocks of low rank. -/
theorem sum_top (g : Fin 8 → EReal) (c : ℕ) (f : Fin 8 → ℝ) :
    ∑ s : Fin 8, (if s.val < c then f (top g s) else 0) = ∑ j : Fin 8, if rank g j < c then f j else 0 := by
  rw [← (top_bijective g).sum_comp (fun j => if rank g j < c then f j else 0)]
  exact Finset.sum_congr rfl fun s _ => by rw [rank_top]

/-- A block whose gate is `⊥` has at least as many blocks before it as there are gates above `⊥`. -/
theorem lt_of_rank_lt (g : Fin 8 → EReal) (i : ℕ) (hi : i ≤ 8) (h1 : ∀ n : Fin 8, n.val < i → g n ≠ ⊥) (h2 : ∀ n : Fin 8, i ≤ n.val → g n = ⊥)
    (j : Fin 8) (hj : rank g j < i) : j.val < i := by
  by_contra hc
  have hc := not_lt.mp hc
  have : (Finset.univ.filter fun r : Fin 8 => r.val < i) ⊆ Finset.univ.filter fun r => beats g r j = true := by
    intro r hr
    rw [Finset.mem_filter] at hr ⊢
    refine ⟨hr.1, (beats_iff g r j).mpr (Or.inl ?_)⟩
    rw [h2 j hc]; exact bot_lt_iff_ne_bot.mpr (h1 r hr.2)
  have hcard := Finset.card_le_card this
  have : (Finset.univ.filter fun r : Fin 8 => r.val < i).card = i := by
    rw [Fin.card_filter_val_lt]; omega
  unfold rank at hj
  omega

end Cert.Attn

end
-- ==== Proof.AttnRead.lean ====
/-
  Hand-written, untrusted. The attention kernel's common stages read at one entry over the extended reals.
-/
module

public import proofs.«01_k».proof.Proof.AttnStage
public import proofs.«01_k».proof.Proof.AttnMath
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

section
variable (qm : Vec Ideal S256x128 .bf16) (k : Vec Ideal S1x1x256x128 .bf16) (b : Vec Ideal S1x256x256 .f32)
  (b' : Vec Ideal S1x1x256x256 .f32) (m : Vec Ideal S1x1x8x256 .f32) (v : Vec Ideal S1x1x64x256 .bf16) (x : St Ideal)

theorem pay36_at (κ r : Fin 256) :
    k0_pay36 (F := Ideal) qm k b (ix2 κ r) = ((∑ l : Fin 128, k (ix4 0 0 κ l) * qm (ix2 r l)) + b (ix3 0 κ r) : EReal) := by
  pointwise [k0_pay36]

theorem pay37_at (r : Fin 256) : k0_pay37 (F := Ideal) qm k b (ix2 0 r) = rowMax fun κ => k0_pay36 (F := Ideal) qm k b (ix2 κ r) := by
  pointwise [k0_pay37]
  rfl

theorem pay38_at (κ r : Fin 256) : k0_pay38 (F := Ideal) qm k b (ix2 κ r)
    = (Ideal.exp (k0_pay36 (F := Ideal) qm k b (ix2 κ r) - k0_pay37 (F := Ideal) qm k b (ix2 0 r)) : EReal) := by
  pointwise [k0_pay38]

theorem pay39_at (r : Fin 256) : k0_pay39 (F := Ideal) qm k b (ix2 0 r)
    = ∑ κ : Fin 256, k0_pay38 (F := Ideal) qm k b (ix2 κ r) := by
  pointwise [k0_pay39]

theorem pay40_at (d : Fin 64) (r : Fin 256) : k0_pay40 (F := Ideal) qm k b v (ix2 d r)
    = (∑ κ : Fin 256, v (ix4 0 0 d κ) * k0_pay38 (F := Ideal) qm k b (ix2 κ r) : EReal) := by
  pointwise [k0_pay40]

/-- A state at one query and one output column. -/
def stAt (x : St Ideal) (d : Fin 64) (r : Fin 256) : EReal × EReal × EReal := (x.1 (ix2 0 r), x.2.1 (ix2 0 r), x.2.2 (ix2 d r))

theorem ownV_at (d : Fin 64) (r : Fin 256) :
    stAt (ownV qm k b v) d r = ownStep (fun κ => ((∑ l : Fin 128, k (ix4 0 0 κ l) * qm (ix2 r l)) + b (ix3 0 κ r) : EReal))
      (fun κ => v (ix4 0 0 d κ)) := by
  have hs : (fun κ : Fin 256 => ((∑ l : Fin 128, k (ix4 0 0 κ l) * qm (ix2 r l)) + b (ix3 0 κ r) : EReal))
      = fun κ => k0_pay36 (F := Ideal) qm k b (ix2 κ r) := funext fun κ => (pay36_at qm k b κ r).symm
  rw [hs]
  have hm := pay37_at qm k b r
  unfold stAt ownV ownStep
  dsimp only
  rw [pay39_at, pay40_at]
  simp only [pay38_at]
  rw [hm]

theorem pay41_at (κ r : Fin 256) :
    k0_pay41 (F := Ideal) qm k b' m (ix2 κ r)
      = ((∑ l : Fin 128, k (ix4 0 0 κ l) * qm (ix2 r l)) + b' (ix4 0 0 κ r) + m (ix4 0 0 0 r) : EReal) := by
  pointwise [k0_pay41]

theorem pay42_at (a : FVec Ideal S1x256 .f32) (r : Fin 256) : k0_pay42 (F := Ideal) qm a k b' m (ix2 0 r)
    = max (a (ix2 0 r)) (rowMax fun κ => k0_pay41 (F := Ideal) qm k b' m (ix2 κ r)) := by
  pointwise [k0_pay42]
  rfl

theorem pay43_at (a : FVec Ideal S1x256 .f32) (r : Fin 256) : k0_pay43 (F := Ideal) qm a k b' m (ix2 0 r)
    = (Ideal.exp (a (ix2 0 r) - k0_pay42 (F := Ideal) qm a k b' m (ix2 0 r)) : EReal) := by
  pointwise [k0_pay43]

theorem pay44_at (a : FVec Ideal S1x256 .f32) (κ r : Fin 256) : k0_pay44 (F := Ideal) qm a k b' m (ix2 κ r)
    = (Ideal.exp (k0_pay41 (F := Ideal) qm k b' m (ix2 κ r) - k0_pay42 (F := Ideal) qm a k b' m (ix2 0 r)) : EReal) := by
  pointwise [k0_pay44]

theorem pay45_at (a l : FVec Ideal S1x256 .f32) (r : Fin 256) : k0_pay45 (F := Ideal) qm a l k b' m (ix2 0 r)
    = (k0_pay43 (F := Ideal) qm a k b' m (ix2 0 r) * l (ix2 0 r) + ∑ κ : Fin 256, k0_pay44 (F := Ideal) qm a k b' m (ix2 κ r) : EReal) := by
  pointwise [k0_pay45]

theorem pay46_at (a : FVec Ideal S1x256 .f32) (o : FVec Ideal S64x256 .f32) (d : Fin 64) (r : Fin 256) :
    k0_pay46 (F := Ideal) qm a o k b' m v (ix2 d r)
    = (k0_pay43 (F := Ideal) qm a k b' m (ix2 0 r) * o (ix2 d r)
        + ∑ κ : Fin 256, v (ix4 0 0 d κ) * k0_pay44 (F := Ideal) qm a k b' m (ix2 κ r) : EReal) := by
  pointwise [k0_pay46]

theorem tripV_at (d : Fin 64) (r : Fin 256) :
    stAt (tripV qm k b' m v x) d r
      = pastStep (fun κ => ((∑ l : Fin 128, k (ix4 0 0 κ l) * qm (ix2 r l)) + b' (ix4 0 0 κ r) + m (ix4 0 0 0 r) : EReal))
        (fun κ => v (ix4 0 0 d κ)) (stAt x d r) := by
  show (k0_pay42 (F := Ideal) qm x.1 k b' m (ix2 0 r), k0_pay45 (F := Ideal) qm x.1 x.2.1 k b' m (ix2 0 r), k0_pay46 (F := Ideal) qm x.1 x.2.2 k b' m v (ix2 d r)) = _
  simp only [pay46_at, pay45_at, pay44_at, pay43_at, pay42_at, pay41_at, pastStep, stAt]

theorem pay53_at (l : FVec Ideal S1x256 .f32) (o : FVec Ideal S64x256 .f32) (d : Fin 64) (r : Fin 256) :
    k0_pay53 (F := Ideal) l o (ix2 d r) = (o (ix2 d r) * Ideal.div 1 (l (ix2 0 r)) : EReal) := by
  pointwise [k0_pay53]

theorem slabV_lo (x y : St Ideal) (r : Fin 256) (d : Fin 64) :
    slabV x y (ix2 r (⟨d.val, by omega⟩ : Fin 128)) = finish (stAt x d r) := by
  have h := d.isLt
  have e := pay53_at x.2.1 x.2.2 d r
  unfold slabV
  pointwise [k0_pay89]
  first | exact e | (simp only [Fin.eta]; exact e) | skip

theorem slabV_hi (x y : St Ideal) (r : Fin 256) (d : Fin 64) :
    slabV x y (ix2 r (⟨64 + d.val, by omega⟩ : Fin 128)) = finish (stAt y d r) := by
  have h := d.isLt
  unfold slabV
  pointwise [k0_pay89]
  first | rfl | (simp only [Nat.add_sub_cancel_left, Fin.eta]; rfl) | skip

end

/-- The lanes of one head of a pair. -/
theorem lane_lo : ∀ l : Fin 128, IntOp.andi (IntOp.cmpi .sge (BitVec.ofNat 32 l.val) 0#32) (IntOp.cmpi .slt (BitVec.ofNat 32 l.val) 64#32)
    = BitVec.ofBool (decide (l.val < 64)) := by decide +kernel

theorem lane_hi : ∀ l : Fin 128, IntOp.andi (IntOp.cmpi .sge (BitVec.ofNat 32 l.val) 64#32) (IntOp.cmpi .slt (BitVec.ofNat 32 l.val) 128#32)
    = BitVec.ofBool (decide (64 ≤ l.val)) := by decide +kernel

theorem select_ofBool {α : Type} (c : Bool) (x y : α) : Scalar.select (BitVec.ofBool c) x y = if c then x else y := by
  cases c <;> rfl

theorem qmV_lo (q : Vec Ideal S256x128 .bf16) (r : Fin 256) (l : Fin 128) :
    qmV 0#32 64#32 q (ix2 r l) = if l.val < 64 then q (ix2 r l) else (0 : EReal) := by
  pointwise [qmV]
  rw [lane_lo, select_ofBool]
  simp only [decide_eq_true_eq]

theorem qmV_hi (q : Vec Ideal S256x128 .bf16) (r : Fin 256) (l : Fin 128) :
    qmV 64#32 128#32 q (ix2 r l) = if 64 ≤ l.val then q (ix2 r l) else (0 : EReal) := by
  pointwise [qmV]
  rw [lane_hi, select_ofBool]
  simp only [decide_eq_true_eq]

theorem slt8 : ∀ n i : Fin 8, IntOp.cmpi .slt (BitVec.ofNat 32 n.val) (BitVec.ofNat 32 i.val) = BitVec.ofBool (decide (n < i)) := by
  decide +kernel

theorem sgt8 : ∀ n i : Fin 8, IntOp.cmpi .sgt (BitVec.ofNat 32 n.val) (BitVec.ofNat 32 i.val) = BitVec.ofBool (decide (i < n)) := by
  decide +kernel

theorem gateV_at (i : Fin 8) (qm : Vec Ideal S256x128 .bf16) (km : Vec Ideal S1x8x128 .f32) (n : Fin 8) (r : Fin 256) :
    gateV (BitVec.ofNat 32 i.val) qm km (ix2 n r) = (if n < i then
      (∑ l : Fin 128, km (ix3 0 n l) * qm (ix2 r l)) + ∑ l : Fin 128, (km (ix3 0 n l) - km (ix3 0 n l)) * qm (ix2 r l) else ⊥ : EReal) := by
  pointwise [gateV, k0_pay15, k0_pay16, k0_pay14]
  rw [slt8, select_ofBool]
  simp only [decide_eq_true_eq]
  rfl

theorem beatV_at (t : Fin 8) (g : FVec Ideal S8x256 .f32) (n : Fin 8) (r : Fin 256) :
    beatV t g (ix2 n r) = BitVec.ofNat 32 (if beats (fun n => g (ix2 n r)) t n = true then 1 else 0) := by
  pointwise [beatV]
  rw [sgt8]
  unfold beats
  cases decide (g (ix2 n r) < g (ix2 t r)) <;> cases decide (g (ix2 t r) = g (ix2 n r)) <;> cases decide (t < n) <;> rfl

theorem rankV_at (g : FVec Ideal S8x256 .f32) (n : Fin 8) (r : Fin 256) :
    rankV g (ix2 n r) = BitVec.ofNat 32 (rank (fun n => g (ix2 n r)) n) := by
  have h : rankV g (ix2 n r) = 0#32 + beatV 0 g (ix2 n r) + beatV 1 g (ix2 n r) + beatV 2 g (ix2 n r) + beatV 3 g (ix2 n r)
      + beatV 4 g (ix2 n r) + beatV 5 g (ix2 n r) + beatV 6 g (ix2 n r) + beatV 7 g (ix2 n r) := rfl
  rw [h]
  simp only [beatV_at, rank, Finset.card_filter, Fin.sum_univ_eight, BitVec.ofNat_add]
  simp only [BitVec.zero_add]

theorem rank_lt (g : Fin 8 → EReal) (n : Fin 8) : rank g n < 9 :=
  Nat.lt_succ_of_le ((Finset.card_le_univ _).trans_eq (by simp))

theorem sltMin : ∀ (k : Fin 9) (i : Fin 8), IntOp.cmpi .slt (BitVec.ofNat 32 k.val) (Scalar.minsi (BitVec.ofNat 32 i.val) 3#32)
    = BitVec.ofBool (decide (k.val < min i.val 3)) := by
  decide +kernel

theorem maskV_at (i : Fin 8) (g : FVec Ideal S8x256 .f32) (n : Fin 8) (r : Fin 256) :
    maskV (BitVec.ofNat 32 i.val) (Scalar.minsi (BitVec.ofNat 32 i.val) 3#32) g (ix2 n r)
      = (if rank (fun n => g (ix2 n r)) n < min i.val 3 ∧ n < i then 0 else ⊥ : EReal) := by
  pointwise [maskV]
  rw [rankV_at, slt8, sltMin ⟨_, rank_lt _ n⟩ i]
  dsimp only
  by_cases h1 : rank (fun n => g (ix2 n r)) n < min i.val 3 <;> by_cases h2 : n < i <;> simp only [h1, h2] <;> rfl

theorem rowB_at (m : FVec Ideal S8x256 .f32) (t : Fin 8) (r : Fin 256) :
    rowB m t (ix4 0 0 0 r) = m (ix2 t r) := by
  pointwise [rowB]

end Cert.KernelIdeal.Attn
-- ==== Proof.AttnSpec.lean ====
/-
  Hand-written, untrusted. One entry of the block attention as a real quotient, and the two ways to it: the running
  softmax over all past blocks with a mask, and the softmax over the chosen blocks' logits.
-/
module

public import proofs.«01_k».proof.Proof.AttnMath

@[expose] public section

noncomputable section

namespace Cert.Attn

open Idealize.ShloMosaic

/-- What one output entry is computed from: the query row of one head, the block means, keys and values of the head, the
    bias rows of the query, and the query's block. -/
structure Dat where
  i : Fin 8
  q : Fin 64 → ℝ
  km : Fin 8 → Fin 64 → ℝ
  K : Fin 8 → Fin 256 → Fin 64 → ℝ
  V : Fin 8 → Fin 256 → ℝ
  bo : Fin 256 → ℝ
  bp : Fin 2 → Fin 256 → ℝ

namespace Dat

variable (A : Dat)

/-- The gate of a block, `⊥` for the own and later blocks. -/
def gate (n : Fin 8) : EReal := if n < A.i then ((∑ e, A.q e * A.km n e : ℝ) : EReal) else ⊥

/-- The scores of the own block. -/
def sO (κ : Fin 256) : ℝ := (∑ e, A.q e * A.K A.i κ e) + A.bo κ

/-- The scores of a past block. -/
def sP (j : Fin 8) (κ : Fin 256) : ℝ := (∑ e, A.q e * A.K j κ e) + A.bp (if j.val + 1 = A.i.val then 0 else 1) κ

/-- The chosen blocks. -/
def Ok (j : Fin 8) : Prop := rank A.gate j < min A.i.val 3 ∧ j < A.i

instance (j : Fin 8) : Decidable (A.Ok j) := inferInstanceAs (Decidable (_ ∧ _))

/-- The weights' sum. -/
def den : ℝ := (∑ κ, Real.exp (A.sO κ)) + ∑ j, if A.Ok j then ∑ κ, Real.exp (A.sP j κ) else 0

/-- The weighted values' sum. -/
def num : ℝ := (∑ κ, A.V A.i κ * Real.exp (A.sO κ)) + ∑ j, if A.Ok j then ∑ κ, A.V j κ * Real.exp (A.sP j κ) else 0

theorem den_pos : 0 < A.den :=
  add_pos_of_pos_of_nonneg (Finset.sum_pos (fun κ _ => Real.exp_pos _) ⟨0, Finset.mem_univ _⟩)
    (Finset.sum_nonneg fun j _ => by
      split
      · exact Finset.sum_nonneg fun κ _ => (Real.exp_pos _).le
      · exact le_rfl)

/-- A sum over the blocks before `i` is one over all eight blocks. -/
theorem sum_before (i : Fin 8) (f : Fin 8 → ℝ) :
    ∑ j ∈ Finset.range i.val, f (Fin.ofNat 8 j) = ∑ j : Fin 8, if j < i then f j else 0 := by
  fin_cases i <;> simp [Finset.sum_range_succ, Fin.sum_univ_eight, Fin.lt_def] <;> rfl

/-- The running softmax over the own block and all past blocks, the others masked by `⊥`. -/
theorem online (s0 v0 : Fin 256 → EReal) (s v : ℕ → Fin 256 → EReal) (hs0 : ∀ κ, s0 κ = (A.sO κ : EReal))
    (hv0 : ∀ κ, v0 κ = (A.V A.i κ : EReal))
    (hs : ∀ j, j < A.i.val → ∀ κ, s j κ = if A.Ok (Fin.ofNat 8 j) then (A.sP (Fin.ofNat 8 j) κ : EReal) else ⊥)
    (hv : ∀ j κ, v j κ = (A.V (Fin.ofNat 8 j) κ : EReal)) :
    finish (pastSteps s v (ownStep s0 v0) A.i.val) = ((A.num / A.den : ℝ) : EReal) := by
  obtain rfl : s0 = fun κ => (A.sO κ : EReal) := funext hs0
  obtain rfl : v0 = fun κ => (A.V A.i κ : EReal) := funext hv0
  obtain rfl : v = fun j κ => (A.V (Fin.ofNat 8 j) κ : EReal) := funext fun j => funext (hv j)
  have hr := rep_pastSteps (s := s) (fun j κ => A.V (Fin.ofNat 8 j) κ)
    (rep_own (s := fun κ => (A.sO κ : EReal)) (fun κ => EReal.coe_ne_top _) 0 (EReal.coe_ne_bot _) fun κ => A.V A.i κ) A.i.val
    (fun j hj κ => by
      rw [hs j hj κ]
      split
      · exact EReal.coe_ne_top _
      · exact bot_ne_top)
  have hw : ∀ j, j < A.i.val → ∀ κ, wt (s j κ) = if A.Ok (Fin.ofNat 8 j) then Real.exp (A.sP (Fin.ofNat 8 j) κ) else 0 := by
    intro j hj κ
    rw [hs j hj κ]
    split
    · exact wt_coe _
    · exact wt_bot
  have hok : ∀ (f : Fin 8 → ℝ), ∑ j ∈ Finset.range A.i.val, (if A.Ok (Fin.ofNat 8 j) then f (Fin.ofNat 8 j) else 0)
      = ∑ j, if A.Ok j then f j else 0 := fun f => by
    rw [sum_before A.i fun j => if A.Ok j then f j else 0]
    refine Finset.sum_congr rfl fun j _ => ?_
    by_cases h : A.Ok j
    · rw [if_pos h.2]
    · simp only [if_neg h, ite_self]
  have hd : (∑ κ, wt (A.sO κ : EReal)) + ∑ j ∈ Finset.range A.i.val, ∑ κ, wt (s j κ) = A.den := by
    unfold den
    rw [← hok fun j => ∑ κ, Real.exp (A.sP j κ)]
    refine congrArg₂ (fun x y : ℝ => x + y) (Finset.sum_congr rfl fun κ _ => wt_coe _) ?_
    · refine Finset.sum_congr rfl fun j hj => ?_
      simp only [hw j (Finset.mem_range.mp hj)]
      split
      · rfl
      · exact Finset.sum_const_zero
  have hn : (∑ κ, A.V A.i κ * wt (A.sO κ : EReal)) + ∑ j ∈ Finset.range A.i.val, ∑ κ, A.V (Fin.ofNat 8 j) κ * wt (s j κ) = A.num := by
    unfold num
    rw [← hok fun j => ∑ κ, A.V j κ * Real.exp (A.sP j κ)]
    refine congrArg₂ (fun x y : ℝ => x + y) (Finset.sum_congr rfl fun κ _ => by rw [wt_coe]) ?_
    · refine Finset.sum_congr rfl fun j hj => ?_
      simp only [hw j (Finset.mem_range.mp hj)]
      split
      · rfl
      · simp only [mul_zero, Finset.sum_const_zero]
  rw [hd, hn] at hr
  exact finish_rep hr A.den_pos

/-- Slot `s` of the three as a position among all eight. -/
abbrev slot (s : Fin 3) : Fin 8 := ⟨s.val, by omega⟩

/-- The valid slots hold the chosen blocks. -/
theorem sum_slots (f : Fin 8 → ℝ) :
    ∑ s : Fin 3, (if s.val < A.i.val then f (top A.gate (slot s)) else 0) = ∑ j, if A.Ok j then f j else 0 := by
  have h8 : ∑ s : Fin 3, (if s.val < A.i.val then f (top A.gate (slot s)) else 0)
      = ∑ s : Fin 8, if s.val < min A.i.val 3 then f (top A.gate s) else 0 := by
    rw [Fin.sum_univ_three, Fin.sum_univ_eight]
    simp only [lt_min_iff]
    simp [slot]
  rw [h8, sum_top]
  refine Finset.sum_congr rfl fun j _ => ?_
  have : rank A.gate j < min A.i.val 3 ↔ A.Ok j := ⟨fun h => ⟨h, Fin.lt_def.mpr
    (lt_of_rank_lt A.gate A.i.val (by omega) (fun n hn => by rw [gate, if_pos (Fin.lt_def.mpr hn)]; exact EReal.coe_ne_bot _)
      (fun n hn => by rw [gate, if_neg (not_lt.mpr (Fin.le_def.mpr hn))]) j (lt_of_lt_of_le h (min_le_left _ _)))⟩, fun h => h.1⟩
  simp only [this]

/-- A slot's logits in the row of `1024`. -/
abbrev selIx (s : Fin 3) (κ : Fin 256) : Fin 1024 := ⟨s.val * 256 + κ.val, by omega⟩
/-- The own logits in the row of `1024`. -/
abbrev ownIx (κ : Fin 256) : Fin 1024 := ⟨768 + κ.val, by omega⟩

theorem sum_logits (f : Fin 1024 → ℝ) : ∑ x, f x = (∑ κ, f (ownIx κ)) + ∑ s : Fin 3, ∑ κ : Fin 256, f (selIx s κ) := by
  rw [Fin.sum_univ_tiles 4 256 (by rfl) f, Fin.sum_univ_four, Fin.sum_univ_three, add_comm]
  congr 1

/-- The softmax over the chosen blocks' and the own logits. -/
theorem direct (L : Fin 1024 → EReal)
    (hsel : ∀ s κ, L (selIx s κ) = if s.val < A.i.val then (A.sP (top A.gate (slot s)) κ : EReal) else ⊥)
    (hown : ∀ κ, L (ownIx κ) = (A.sO κ : EReal)) (p : Fin 1024 → EReal)
    (hp : ∀ x, p x = Ideal.div (Ideal.exp (L x - rowMax L)) (∑ y, Ideal.exp (L y - rowMax L))) :
    (∑ s : Fin 3, ∑ κ : Fin 256, p (selIx s κ) * (A.V (top A.gate (slot s)) κ : EReal)) + ∑ κ, p (ownIx κ) * (A.V A.i κ : EReal)
      = ((A.num / A.den : ℝ) : EReal) := by
  have hL : ∀ x, L x ≠ ⊤ := by
    intro x
    by_cases hx : x.val < 768
    · have e : x = selIx ⟨x.val / 256, by omega⟩ ⟨x.val % 256, by omega⟩ := Fin.ext (by dsimp only; omega)
      rw [e, hsel]
      split
      · exact EReal.coe_ne_top _
      · exact bot_ne_top
    · have e : x = ownIx ⟨x.val - 768, by omega⟩ := Fin.ext (by dsimp only; omega)
      rw [e, hown]; exact EReal.coe_ne_top _
  have hb : L (ownIx 0) ≠ ⊥ := by rw [hown]; exact EReal.coe_ne_bot _
  have hp' : ∀ x, p x = ((wt (L x) / ∑ y, wt (L y) : ℝ) : EReal) := fun x => (hp x).trans (softmax_at hL _ hb x)
  have hwo : ∀ κ, wt (L (ownIx κ)) = Real.exp (A.sO κ) := fun κ => by rw [hown, wt_coe]
  have hws : ∀ s κ, wt (L (selIx s κ)) = if s.val < A.i.val then Real.exp (A.sP (top A.gate (slot s)) κ) else 0 := by
    intro s κ
    rw [hsel]
    split
    · exact wt_coe _
    · exact wt_bot
  have hd : ∑ y, wt (L y) = A.den := by
    rw [sum_logits, den, ← A.sum_slots fun j => ∑ κ, Real.exp (A.sP j κ)]
    simp only [hwo, hws]
    congr 1
    refine Finset.sum_congr rfl fun s _ => ?_
    split
    · rfl
    · exact Finset.sum_const_zero
  simp only [hp', hd, ← EReal.coe_mul, ← coe_sum, ← EReal.coe_add]
  congr 1
  rw [num, ← A.sum_slots fun j => ∑ κ, A.V j κ * Real.exp (A.sP j κ), add_comm, add_div, Finset.sum_div, Finset.sum_div]
  simp only [hwo, hws]
  congr 1
  · exact Finset.sum_congr rfl fun κ _ => by ring
  · refine Finset.sum_congr rfl fun s _ => ?_
    split
    · rw [Finset.sum_div]; exact Finset.sum_congr rfl fun κ _ => by ring
    · simp

end Dat

/-! ## The whole array -/

/-- The attention of one query at one output column. -/
def quo (i : Fin 8) (q : Fin 64 → ℝ) (km : Fin 8 → Fin 64 → ℝ) (K : Fin 8 → Fin 256 → Fin 64 → ℝ) (V : Fin 8 → Fin 256 → ℝ)
    (bo : Fin 256 → ℝ) (bp : Fin 2 → Fin 256 → ℝ) : EReal :=
  (((Dat.mk (i := i) q km K V bo bp).num / (Dat.mk (i := i) q km K V bo bp).den : ℝ) : EReal)

theorem quo_congr {i i' : Fin 8} {q q' : Fin 64 → ℝ} {km km' : Fin 8 → Fin 64 → ℝ} {K K' : Fin 8 → Fin 256 → Fin 64 → ℝ}
    {V V' : Fin 8 → Fin 256 → ℝ} {bo bo' : Fin 256 → ℝ} {bp bp' : Fin 2 → Fin 256 → ℝ} (hi : i = i') (hq : ∀ e, q e = q' e)
    (hkm : ∀ n e, km n e = km' n e) (hK : ∀ j κ e, K j κ e = K' j κ e) (hV : ∀ j κ, V j κ = V' j κ) (hbo : ∀ κ, bo κ = bo' κ)
    (hbp : ∀ w κ, bp w κ = bp' w κ) : quo i q km K V bo bp = quo i' q' km' K' V' bo' bp' := by
  obtain rfl : q = q' := funext hq
  obtain rfl : km = km' := funext fun n => funext (hkm n)
  obtain rfl : K = K' := funext fun j => funext fun κ => funext (hK j κ)
  obtain rfl : V = V' := funext fun j => funext (hV j)
  obtain rfl : bo = bo' := funext hbo
  obtain rfl : bp = bp' := funext fun w => funext (hbp w)
  rw [hi]

/-- Column `e` of head `h`. -/
abbrev lane (h : Fin 8) (e : Fin 64) : Fin 512 := ⟨64 * h.val + e.val, by omega⟩

/-- The attention over the six arrays: sequence `b`, head `h`, position `s`, column `d`. -/
def attn (a0 : Fin 32768 → Fin 512 → EReal) (a1 : Fin 16 → Fin 8 → Fin 256 → Fin 512 → EReal) (a2 : Fin 16 → Fin 8 → Fin 512 → Fin 256 → EReal)
    (a3 : Fin 16 → Fin 8 → Fin 512 → EReal) (a4 : Fin 8 → Fin 256 → Fin 256 → EReal) (a5 : Fin 8 → Fin 2 → Fin 256 → Fin 256 → EReal)
    (b : Fin 16) (h : Fin 8) (s : Fin 2048) (d : Fin 64) : EReal :=
  quo ⟨s.val / 256, by omega⟩ (fun e => (a0 ⟨b.val * 2048 + s.val, by omega⟩ (lane h e)).toReal) (fun n e => (a3 b n (lane h e)).toReal)
    (fun j κ e => (a1 b j κ (lane h e)).toReal) (fun j κ => (a2 b j (lane h d) κ).toReal)
    (fun κ => (a4 h κ ⟨s.val % 256, by omega⟩).toReal) (fun w κ => (a5 h w κ ⟨s.val % 256, by omega⟩).toReal)

end Cert.Attn

end
-- ==== Proof.AttnPoint.lean ====
/-
  Hand-written, untrusted. The attention kernel's last state of a head, read at one query and one output column over the
  extended reals: for finite blocks it is the quotient of `AttnSpec`.
-/
module

public import proofs.«01_k».proof.Proof.AttnHeads
public import proofs.«01_k».proof.Proof.AttnRead
public import proofs.«01_k».proof.Proof.AttnSpec

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-- All past blocks, at one query and one output column. -/
theorem loopV_at (qm : Vec Ideal S256x128 .bf16) (k : ℕ → Vec Ideal S1x1x256x128 .bf16) (b : ℕ → Vec Ideal S1x1x256x256 .f32)
    (m : ℕ → Vec Ideal S1x1x8x256 .f32) (v : ℕ → Vec Ideal S1x1x64x256 .bf16) (x : St Ideal) (d : Fin 64) (r : Fin 256) (n : ℕ) :
    stAt (loopV qm k b m v x n) d r = pastSteps
      (fun j κ => ((∑ l : Fin 128, k j (ix4 0 0 κ l) * qm (ix2 r l)) + b j (ix4 0 0 κ r) + m j (ix4 0 0 0 r) : EReal))
      (fun j κ => v j (ix4 0 0 d κ)) (stAt x d r) n := by
  induction n with
  | zero => rfl
  | succ n ih => rw [loopV, tripV_at, ih]; rfl

/-- Over the lanes of a pair, a factor that is zero outside one head leaves the sum over the head's lanes. -/
theorem lane_sum (p : Fin 2) (f g : Fin 128 → EReal) :
    ∑ l, f l * (if l.val / 64 = p.val then g l else 0)
      = ∑ e : Fin 64, f ⟨64 * p.val + e.val, by omega⟩ * g ⟨64 * p.val + e.val, by omega⟩ := by
  rw [Fin.sum_univ_tiles 2 64 (by rfl) fun l : Fin 128 => f l * (if l.val / 64 = p.val then g l else 0), Fin.sum_univ_two]
  have hz : ∀ (a : Fin 2), a ≠ p → ∑ e : Fin 64, f ⟨a.val * 64 + e.val, by omega⟩ * (if (a.val * 64 + e.val) / 64 = p.val then g ⟨a.val * 64 + e.val, by omega⟩ else 0) = 0 :=
    fun a ha => Finset.sum_eq_zero fun e _ => by
      rw [if_neg (fun h => ha (Fin.ext (by omega))), mul_zero]
  have ho : ∑ e : Fin 64, f ⟨p.val * 64 + e.val, by omega⟩ * (if (p.val * 64 + e.val) / 64 = p.val then g ⟨p.val * 64 + e.val, by omega⟩ else 0)
      = ∑ e : Fin 64, f ⟨64 * p.val + e.val, by omega⟩ * g ⟨64 * p.val + e.val, by omega⟩ :=
    Finset.sum_congr rfl fun e _ => by
      have hx : (⟨p.val * 64 + e.val, by omega⟩ : Fin 128) = ⟨64 * p.val + e.val, by omega⟩ := Fin.ext (by dsimp only; omega)
      rw [if_pos (by omega), hx]
  rw [← ho]
  fin_cases p
  · exact (congrArg (_ + ·) (hz 1 (by decide))).trans (add_zero _)
  · exact (congrArg (· + _) (hz 0 (by decide))).trans (zero_add _)

variable (i : grid0.Coords) (arg2 : Memref sig .tc .vmem S256x512 .bf16) (harg2 : arg2.IsWhole)
  (arg3 : Memref sig .tc .vmem S1x8x256x512 .bf16) (harg3 : arg3.IsWhole) (arg4 : Memref sig .tc .vmem S1x8x512x256 .bf16)
  (harg4 : arg4.IsWhole) (arg5 : Memref sig .tc .vmem S1x8x512 .f32) (harg5 : arg5.IsWhole)
  (arg6 : Memref sig .tc .vmem S8x256x256 .f32) (harg6 : arg6.IsWhole)
  (x0 : Vec Ideal S256x512 .bf16) (x1 : Vec Ideal S1x8x256x512 .bf16) (x2 : Vec Ideal S1x8x512x256 .bf16) (x3 : Vec Ideal S1x8x512 .f32)
  (x4 : Vec Ideal S8x256x256 .f32) (x5 : Vec Ideal S8x2x256x256 .f32)

/-- The query block of a grid point. -/
abbrev iB : Fin 8 := ⟨(i 1).val, (i 1).isLt⟩

/-- A lane of a head among all lanes. -/
abbrev ln (h : Fin 8) (e : Fin 64) : Fin 512 := ⟨64 * h.val + e.val, by omega⟩

/-- What one output entry is computed from, in the blocks of a grid point. -/
def blkDat (h : Fin 8) (d : Fin 64) (r : Fin 256) : Dat where
  i := iB i
  q e := (x0 (ix2 r (ln h e))).toReal
  km n e := (x3 (ix3 0 n (ln h e))).toReal
  K j κ e := (x1 (ix4 0 j κ (ln h e))).toReal
  V j κ := (x2 (ix4 0 j (ln h d) κ)).toReal
  bo κ := (x4 (ix3 h κ r)).toReal
  bp w κ := (x5 (ix4 h w κ r)).toReal

/-- Every entry is a real number. -/
def IsFin {s : Shape} {φ : EltTy} (x : s.Idx → EReal) : Prop := ∀ y, x y = ((x y).toReal : EReal)

theorem qL_at (p : Fin 4) (r : Fin 256) (l : Fin 128) :
    qL arg2 harg2 x0 p (ix2 r l) = x0 (ix2 r ⟨128 * p.val + l.val, by omega⟩) := by
  unfold qL
  rw [harg2.readAt_unread]
  refine congrArg x0 (funext fun a => ?_)
  fin_cases a <;> refine Fin.ext ?_ <;> simp [Rect.unit, LoadRect.idx, Rect.toLoadRect]
theorem kmL_at (p : Fin 4) (n : Fin 8) (l : Fin 128) :
    kmL arg5 harg5 x3 p (ix3 0 n l) = x3 (ix3 0 n ⟨128 * p.val + l.val, by omega⟩) := by
  unfold kmL
  rw [harg5.readAt_unread]
  refine congrArg x3 (funext fun a => ?_)
  fin_cases a <;> refine Fin.ext ?_ <;> simp [Rect.unit, LoadRect.idx, Rect.toLoadRect]
theorem bL_at (h : Fin 8) (κ r : Fin 256) :
    bL arg6 harg6 x4 h (ix3 0 κ r) = x4 (ix3 h κ r) := by
  unfold bL
  rw [harg6.readAt_unread]
  refine congrArg x4 (funext fun a => ?_)
  fin_cases a <;> refine Fin.ext ?_ <;> simp [Rect.unit, LoadRect.idx, Rect.toLoadRect]

theorem qmH_at (h : Fin 8) (r : Fin 256) (l : Fin 128) :
    qmH arg2 harg2 x0 h (ix2 r l) = if l.val / 64 = h.val % 2 then x0 (ix2 r ⟨128 * (h.val / 2) + l.val, by omega⟩) else (0 : EReal) := by
  have hl := l.isLt
  unfold qmH
  rcases Nat.mod_two_eq_zero_or_one h.val with e | e
  · rw [e]
    refine (qmV_lo _ r l).trans ?_
    rw [qL_at]
    by_cases c : l.val < 64
    · rw [if_pos c, if_pos (by omega)]
    · rw [if_neg c, if_neg (by omega)]
  · rw [e]
    refine (qmV_hi _ r l).trans ?_
    rw [qL_at]
    by_cases c : 64 ≤ l.val
    · rw [if_pos c, if_pos (by omega)]
    · rw [if_neg c, if_neg (by omega)]

/-- A product over a pair's lanes with a head's queries is one over the head's lanes. -/
theorem dot_qmH (h : Fin 8) (r : Fin 256) (f : Fin 512 → EReal) :
    ∑ l : Fin 128, f ⟨128 * (h.val / 2) + l.val, by omega⟩ * qmH arg2 harg2 x0 h (ix2 r l)
      = ∑ e : Fin 64, f (ln h e) * x0 (ix2 r (ln h e)) := by
  simp only [qmH_at]
  refine (lane_sum ⟨h.val % 2, by omega⟩ (fun l => f ⟨128 * (h.val / 2) + l.val, by omega⟩)
    (fun l => x0 (ix2 r ⟨128 * (h.val / 2) + l.val, by omega⟩))).trans ?_
  refine Finset.sum_congr rfl fun e _ => ?_
  have hx : (⟨128 * (h.val / 2) + (64 * (h.val % 2) + e.val), by omega⟩ : Fin 512) = ln h e := Fin.ext (by dsimp only; omega)
  dsimp only
  rw [hx]

variable (f0 : IsFin (φ := .bf16) x0) (f1 : IsFin (φ := .bf16) x1) (f2 : IsFin (φ := .bf16) x2) (f3 : IsFin (φ := .f32) x3)
  (f4 : IsFin (φ := .f32) x4) (f5 : IsFin (φ := .f32) x5)

include f0 in
/-- For real factors the product is real. -/
theorem dot_real (h : Fin 8) (r : Fin 256) (f : Fin 512 → EReal) (hf : ∀ l, f l = ((f l).toReal : EReal)) :
    ∑ l : Fin 128, f ⟨128 * (h.val / 2) + l.val, by omega⟩ * qmH arg2 harg2 x0 h (ix2 r l)
      = ((∑ e : Fin 64, (x0 (ix2 r (ln h e))).toReal * (f (ln h e)).toReal : ℝ) : EReal) := by
  rw [dot_qmH, coe_sum]
  refine Finset.sum_congr rfl fun e _ => ?_
  rw [mul_comm, EReal.coe_mul, ← f0, ← hf]

include f0 f3 in
theorem gate_at (h : Fin 8) (d : Fin 64) (r : Fin 256) (n : Fin 8) :
    gateV (BitVec.ofNat 32 (i 1).val) (qmH arg2 harg2 x0 h) (kmL arg5 harg5 x3 (pr h)) (ix2 n r)
      = (blkDat i x0 x1 x2 x3 x4 x5 h d r).gate n := by
  refine (gateV_at (iB i) _ _ n r).trans ?_
  unfold Dat.gate
  have e0 : ∀ l, kmL arg5 harg5 x3 (pr h) (ix3 0 n l) - kmL arg5 harg5 x3 (pr h) (ix3 0 n l) = (0 : EReal) := fun l => by
    rw [kmL_at, f3, ← EReal.coe_sub, sub_self, EReal.coe_zero]
  simp only [e0, zero_mul, Finset.sum_const_zero, add_zero]
  simp only [kmL_at]
  have e1 := dot_real arg2 harg2 x0 f0 h r (fun l => x3 (ix3 0 n l)) (fun l => f3 _)
  have e2 : ∑ l : Fin 128, x3 (ix3 0 n ⟨128 * (h.val / 2) + l.val, by omega⟩) * qmH arg2 harg2 x0 h (ix2 r l)
      = ((∑ e, (blkDat i x0 x1 x2 x3 x4 x5 h d r).q e * (blkDat i x0 x1 x2 x3 x4 x5 h d r).km n e : ℝ) : EReal) := e1
  rw [e2]
  rfl

include f0 f3 in
theorem mask_at (h : Fin 8) (d : Fin 64) (r : Fin 256) (n : Fin 8) :
    maskH i arg2 harg2 arg5 harg5 x0 x3 h (ix2 n r) = if (blkDat i x0 x1 x2 x3 x4 x5 h d r).Ok n then (0 : EReal) else ⊥ := by
  unfold maskH
  refine (maskV_at (iB i) _ n r).trans ?_
  simp only [gate_at i arg2 harg2 arg5 harg5 x0 x1 x2 x3 x4 x5 f0 f3 h d r]
  rfl

include f0 f1 f2 f3 f4 f5 in
/-- A head's output at one query and one column. -/
theorem fin_at (h : Fin 8) (d : Fin 64) (r : Fin 256) :
    finish (stAt (finH i arg2 harg2 arg5 harg5 arg6 harg6 x0 x1 x2 x3 x4 x5 h (kRd x1 (128 * (h.val / 2)) (i 1).val) (vRd x2 (64 * h.val) (i 1).val)) d r)
      = (((blkDat i x0 x1 x2 x3 x4 x5 h d r).num / (blkDat i x0 x1 x2 x3 x4 x5 h d r).den : ℝ) : EReal) := by
  have hi : (i 1).val < 8 := (i 1).isLt
  have hK : ∀ (j : ℕ) (κ : Fin 256), ∑ l : Fin 128, kRd x1 (128 * (h.val / 2)) j (ix4 0 0 κ l) * qmH arg2 harg2 x0 h (ix2 r l)
      = ((∑ e, (blkDat i x0 x1 x2 x3 x4 x5 h d r).q e * (blkDat i x0 x1 x2 x3 x4 x5 h d r).K (Fin.ofNat 8 j) κ e : ℝ) : EReal) := by
    intro j κ
    refine Eq.trans ?_ (dot_real arg2 harg2 x0 f0 h r (fun l => x1 (ix4 0 (Fin.ofNat 8 j) κ l)) (fun l => f1 _))
    refine Finset.sum_congr rfl fun l _ => ?_
    have hl := l.isLt
    have hx : Fin.ofNat 512 (128 * (h.val / 2) + l.val) = ⟨128 * (h.val / 2) + l.val, by omega⟩ := Fin.ext (Nat.mod_eq_of_lt (by omega))
    show x1 (ix4 0 (Fin.ofNat 8 j) κ (Fin.ofNat 512 (128 * (h.val / 2) + l.val))) * _ = _
    rw [hx]
  have hV : ∀ (j : ℕ) (κ : Fin 256), vRd x2 (64 * h.val) j (ix4 0 0 d κ) = ((blkDat i x0 x1 x2 x3 x4 x5 h d r).V (Fin.ofNat 8 j) κ : EReal) := by
    intro j κ
    have hx : Fin.ofNat 512 (64 * h.val + d.val) = ln h d := Fin.ext (Nat.mod_eq_of_lt (by omega))
    show x2 (ix4 0 (Fin.ofNat 8 j) (Fin.ofNat 512 (64 * h.val + d.val)) κ) = _
    rw [hx]
    exact f2 _
  have hoi : Fin.ofNat 8 (i 1).val = iB i := Fin.ext (Nat.mod_eq_of_lt hi)
  unfold finH headLoop
  rw [loopV_at, ownV_at]
  refine (blkDat i x0 x1 x2 x3 x4 x5 h d r).online _ _ _ _ (fun κ => ?_) (fun κ => ?_) (fun j hj κ => ?_) hV
  · rw [hK, bL_at, f4, ← EReal.coe_add, hoi]; rfl
  · rw [hV, hoi]; rfl
  · have hj' : j < (i 1).val := hj
    have hjv : (Fin.ofNat 8 j).val = j := Nat.mod_eq_of_lt (by omega)
    have hb : bRd x5 h (i 1).val j (ix4 0 0 κ r) = ((blkDat i x0 x1 x2 x3 x4 x5 h d r).bp (if (Fin.ofNat 8 j).val + 1 = (i 1).val then 0 else 1) κ : EReal) := by
      rw [hjv]; exact f5 _
    rw [hK, hb, rowB_at, mask_at i arg2 harg2 arg5 harg5 x0 x1 x2 x3 x4 x5 f0 f3 h d r]
    by_cases c : (blkDat i x0 x1 x2 x3 x4 x5 h d r).Ok (Fin.ofNat 8 j)
    · rw [if_pos c, if_pos c, add_zero, ← EReal.coe_add]; rfl
    · rw [if_neg c, if_neg c, EReal.add_bot]

end Cert.KernelIdeal.Attn
-- ==== Proof.AttnValue.lean ====
/-
  Hand-written, untrusted. The attention call's result array, entry by entry: the attention of `AttnSpec` over the six arguments.
-/
module

public import proofs.«01_k».proof.Proof.AttnFrame
public import proofs.«01_k».proof.Proof.AttnPoint
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic

/-! ## The output block at one entry -/

/-- Column `l` of pair `p`: its head and the head's column. -/
abbrev hd (p : Fin 4) (l : Fin 128) : Fin 8 := ⟨(128 * p.val + l.val) / 64, by omega⟩
abbrev cl (p : Fin 4) (l : Fin 128) : Fin 64 := ⟨(128 * p.val + l.val) % 64, by omega⟩

/-- A store of slab `p`. -/
abbrev slabAt (S : Fin 4 → Vec Ideal S256x128 .bf16) (p : Fin 4) : View.Piece (Elt Ideal) S256x512 .bf16 :=
  ⟨Rect.unit (s := S256x512) ![0, 128 * p.val] S256x128.size (qInb p), S p⟩

theorem slabAt_emb1 (S : Fin 4 → Vec Ideal S256x128 .bf16) (p : Fin 4) (r : Fin 256) (l : Fin 128) :
    ((slabAt S p).1.emb (ix2 r l : S256x128.Idx) 1).val = 128 * p.val + l.val := by
  show 128 * p.val + 1 * l.val = _
  omega
theorem slabAt_emb0 (S : Fin 4 → Vec Ideal S256x128 .bf16) (p : Fin 4) (r : Fin 256) (l : Fin 128) :
    ((slabAt S p).1.emb (ix2 r l : S256x128.Idx) 0).val = r.val := by
  show 0 + 1 * r.val = _
  omega

theorem slabAt_cover (S : Fin 4 → Vec Ideal S256x128 .bf16) (y : S256x512.Idx) :
    ∃ p ∈ [slabAt S 3, slabAt S 2, slabAt S 1, slabAt S 0], y ∈ p.1.set :=
  View.cover_of_tiledL [slabAt S 3, slabAt S 2, slabAt S 1, slabAt S 0] S256x128.size (by sl_kernel_rfl) y

theorem ext3 (G : Fin 8 → Fin 64 → Fin 256 → EReal) {a a' : Fin 8} {b b' : Fin 64} {c c' : Fin 256} (ha : a.val = a'.val) (hb : b.val = b'.val)
    (hc : c.val = c'.val) : G a b c = G a' b' c' := by
  rw [Fin.ext ha, Fin.ext hb, Fin.ext hc]

/-- Four slabs side by side, read at one entry. -/
theorem slabs_at (S : Fin 4 → Vec Ideal S256x128 .bf16) (G : Fin 8 → Fin 64 → Fin 256 → EReal)
    (hS : ∀ p r l, S p (ix2 r l) = G (hd p l) (cl p l) r) (r : Fin 256) (h : Fin 8) (d : Fin 64) :
    View.canon [slabAt S 3, slabAt S 2, slabAt S 1, slabAt S 0] (ix2 r (lane h d)) = G h d r := by
  have hd' := d.isLt
  have hh' := h.isLt
  have key : ∀ (p : Fin 4) (x : S256x128.Idx), S p x
      = (fun y : S256x512.Idx => G (Fin.ofNat 8 ((y 1).val / 64)) (Fin.ofNat 64 (y 1).val) (y 0)) ((slabAt S p).1.emb x) := by
    intro p x
    obtain ⟨r, l, rfl⟩ : ∃ (r : Fin 256) (l : Fin 128), x = (ix2 r l : S256x128.Idx) := ⟨x 0, x 1, eq_ix2 x⟩
    refine (hS p r l).trans ?_
    have hl := l.isLt
    have hp := p.isLt
    have e1 := slabAt_emb1 S p r l
    have e0 := slabAt_emb0 S p r l
    refine ext3 G (a' := Fin.ofNat 8 (((slabAt S p).1.emb (ix2 r l : S256x128.Idx) 1).val / 64))
      (b' := Fin.ofNat 64 ((slabAt S p).1.emb (ix2 r l : S256x128.Idx) 1).val) (c' := (slabAt S p).1.emb (ix2 r l : S256x128.Idx) 0) ?_ ?_ ?_
    · show (128 * p.val + l.val) / 64 = ((slabAt S p).1.emb (ix2 r l : S256x128.Idx) 1).val / 64 % 8
      rw [e1]; clear e1 e0; omega
    · show (128 * p.val + l.val) % 64 = ((slabAt S p).1.emb (ix2 r l : S256x128.Idx) 1).val % 64
      rw [e1]
    · exact e0.symm
  refine (View.canon_apply_of_pieces (Val := Elt Ideal) (e := .bf16) (fun y : S256x512.Idx => G (Fin.ofNat 8 ((y 1).val / 64)) (Fin.ofNat 64 (y 1).val) (y 0)) _ (fun p hp x => ?_) _ (slabAt_cover S _)).trans ?_
  · simp only [List.mem_cons, List.mem_nil_iff, or_false] at hp
    rcases hp with rfl | rfl | rfl | rfl
    · exact key 3 x
    · exact key 2 x
    · exact key 1 x
    · exact key 0 x
  · refine ext3 G (a := Fin.ofNat 8 ((64 * h.val + d.val) / 64)) (b := Fin.ofNat 64 (64 * h.val + d.val)) (c := r) ?_ ?_ rfl
    · show (64 * h.val + d.val) / 64 % 8 = h.val
      omega
    · show (64 * h.val + d.val) % 64 = d.val
      omega

section
variable (i : grid0.Coords) (arg2 : Memref sig .tc .vmem S256x512 .bf16) (harg2 : arg2.IsWhole)
  (arg5 : Memref sig .tc .vmem S1x8x512 .f32) (harg5 : arg5.IsWhole)
  (arg6 : Memref sig .tc .vmem S8x256x256 .f32) (harg6 : arg6.IsWhole)
  (x0 : Vec Ideal S256x512 .bf16) (x1 : Vec Ideal S1x8x256x512 .bf16) (x2 : Vec Ideal S1x8x512x256 .bf16) (x3 : Vec Ideal S1x8x512 .f32)
  (x4 : Vec Ideal S8x256x256 .f32) (x5 : Vec Ideal S8x2x256x256 .f32)
  (f0 : IsFin (φ := .bf16) x0) (f1 : IsFin (φ := .bf16) x1) (f2 : IsFin (φ := .bf16) x2) (f3 : IsFin (φ := .f32) x3)
  (f4 : IsFin (φ := .f32) x4) (f5 : IsFin (φ := .f32) x5)

/-- The attention of query `r` of head `h` at column `d`, over the blocks of a point. -/
def blkQuo (h : Fin 8) (d : Fin 64) (r : Fin 256) : EReal :=
  (((blkDat i x0 x1 x2 x3 x4 x5 h d r).num / (blkDat i x0 x1 x2 x3 x4 x5 h d r).den : ℝ) : EReal)

include f0 f1 f2 f3 f4 f5 in
theorem slabC_at (p : Fin 4) (r : Fin 256) (l : Fin 128) :
    slabC i arg2 harg2 arg5 harg5 arg6 harg6 x0 x1 x2 x3 x4 x5 p (ix2 r l) = blkQuo i x0 x1 x2 x3 x4 x5 (hd p l) (cl p l) r := by
  have hl := l.isLt
  have hp := p.isLt
  by_cases h : l.val < 64
  · have e := slabV_lo (finC i arg2 harg2 arg5 harg5 arg6 harg6 x0 x1 x2 x3 x4 x5 ⟨2 * p.val, by omega⟩)
      (finC i arg2 harg2 arg5 harg5 arg6 harg6 x0 x1 x2 x3 x4 x5 ⟨2 * p.val + 1, by omega⟩) r ⟨l.val, h⟩
    have e1 : hd p l = ⟨2 * p.val, by omega⟩ := Fin.ext (by dsimp only; omega)
    have e2 : cl p l = ⟨l.val, h⟩ := Fin.ext (by dsimp only; omega)
    rw [e1, e2]
    exact e.trans (fin_at i arg2 harg2 arg5 harg5 arg6 harg6 x0 x1 x2 x3 x4 x5 f0 f1 f2 f3 f4 f5 _ _ r)
  · have e := slabV_hi (finC i arg2 harg2 arg5 harg5 arg6 harg6 x0 x1 x2 x3 x4 x5 ⟨2 * p.val, by omega⟩)
      (finC i arg2 harg2 arg5 harg5 arg6 harg6 x0 x1 x2 x3 x4 x5 ⟨2 * p.val + 1, by omega⟩) r ⟨l.val - 64, by omega⟩
    have e0 : l = ⟨64 + (l.val - 64), by omega⟩ := Fin.ext (by dsimp only; omega)
    have e1 : hd p l = ⟨2 * p.val + 1, by omega⟩ := Fin.ext (by dsimp only; omega)
    have e2 : cl p l = ⟨l.val - 64, by omega⟩ := Fin.ext (by dsimp only; omega)
    rw [e1, e2]
    refine Eq.trans (congrArg (fun z => slabC i arg2 harg2 arg5 harg5 arg6 harg6 x0 x1 x2 x3 x4 x5 p (ix2 r z)) e0) ?_
    exact e.trans (fin_at i arg2 harg2 arg5 harg5 arg6 harg6 x0 x1 x2 x3 x4 x5 f0 f1 f2 f3 f4 f5 _ _ r)

include f0 f1 f2 f3 f4 f5 in
theorem pieces_at (r : Fin 256) (h : Fin 8) (d : Fin 64) :
    View.canon (pieces i arg2 harg2 arg5 harg5 arg6 harg6 x0 x1 x2 x3 x4 x5) (ix2 r (lane h d)) = blkQuo i x0 x1 x2 x3 x4 x5 h d r := by
  unfold pieces pieceC
  exact slabs_at (slabC i arg2 harg2 arg5 harg5 arg6 harg6 x0 x1 x2 x3 x4 x5) (blkQuo i x0 x1 x2 x3 x4 x5)
    (slabC_at i arg2 harg2 arg5 harg5 arg6 harg6 x0 x1 x2 x3 x4 x5 f0 f1 f2 f3 f4 f5) r h d
end

/-! ## The blocks of a point -/

variable (m : (ℓ : Loc nD τ sig) → Buf (Elt Ideal) ℓ) (c : Dev nD)

theorem idx : ∀ t : Fin cfg0.N, win0_0.index t = ![t.val, 0] ∧ win0_1.index t = ![t.val / 8, 0, 0, 0] ∧ win0_2.index t = ![t.val / 8, 0, 0, 0]
    ∧ win0_3.index t = ![t.val / 8, 0, 0] ∧ win0_4.index t = ![0, 0, 0] ∧ win0_5.index t = ![0, 0, 0, 0] ∧ win0_6.index t = ![t.val, 0] :=
  (by decide +kernel : ∀ t : Fin grid0.N, _)

theorem coord1 : ∀ t : Fin grid0.N, (grid0.coords t 1).val = t.val % 8 := by decide +kernel

section
variable (t : Fin cfg0.N) (b : Fin 16) (hb : b.val = t.val / 8)

theorem blk0_at (r : Fin 256) (x : Fin 512) (y : Fin 32768) (hy : y.val = t.val * 256 + r.val) :
    iblk m c 0 t (ix2 r x) = m ((c : Thread nD τ).loc main_arg0) (ix2 y x) := by
  blk_ext [iblk, V, idx t]
include hb in
theorem blk1_at (j : Fin 8) (κ : Fin 256) (x : Fin 512) :
    iblk m c 1 t (ix4 0 j κ x) = m ((c : Thread nD τ).loc main_arg1) (ix4 b j κ x) := by
  blk_ext [iblk, V, idx t]
include hb in
theorem blk2_at (j : Fin 8) (x : Fin 512) (κ : Fin 256) :
    iblk m c 2 t (ix4 0 j x κ) = m ((c : Thread nD τ).loc main_arg2) (ix4 b j x κ) := by
  blk_ext [iblk, V, idx t]
include hb in
theorem blk3_at (j : Fin 8) (x : Fin 512) :
    iblk m c 3 t (ix3 0 j x) = m ((c : Thread nD τ).loc main_arg3) (ix3 b j x) := by
  blk_ext [iblk, V, idx t]
theorem blk4_at (h : Fin 8) (κ r : Fin 256) :
    iblk m c 4 t (ix3 h κ r) = m ((c : Thread nD τ).loc main_arg4) (ix3 h κ r) := by
  blk_ext [iblk, V, idx t]
theorem blk5_at (h : Fin 8) (w : Fin 2) (κ r : Fin 256) :
    iblk m c 5 t (ix4 h w κ r) = m ((c : Thread nD τ).loc main_arg5) (ix4 h w κ r) := by
  blk_ext [iblk, V, idx t]
end

/-- The attention over the arguments. -/
abbrev ATT (c : Dev nD) : Fin 16 → Fin 8 → Fin 2048 → Fin 64 → EReal :=
  attn (fun y x => m ((c : Thread nD τ).loc main_arg0) (ix2 y x)) (fun b j κ x => m ((c : Thread nD τ).loc main_arg1) (ix4 b j κ x))
    (fun b j x κ => m ((c : Thread nD τ).loc main_arg2) (ix4 b j x κ)) (fun b j x => m ((c : Thread nD τ).loc main_arg3) (ix3 b j x))
    (fun h κ r => m ((c : Thread nD τ).loc main_arg4) (ix3 h κ r)) (fun h w κ r => m ((c : Thread nD τ).loc main_arg5) (ix4 h w κ r))

theorem block_at (t : Fin cfg0.N) (b : Fin 16) (hb : b.val = t.val / 8) (s : Fin 2048) (r : Fin 256) (hs : s.val = t.val % 8 * 256 + r.val)
    (f0 : IsFin (s := S256x512) (φ := .bf16) (iblk m c 0 t)) (f1 : IsFin (s := S1x8x256x512) (φ := .bf16) (iblk m c 1 t))
    (f2 : IsFin (s := S1x8x512x256) (φ := .bf16) (iblk m c 2 t)) (f3 : IsFin (s := S1x8x512) (φ := .f32) (iblk m c 3 t))
    (f4 : IsFin (s := S8x256x256) (φ := .f32) (iblk m c 4 t)) (f5 : IsFin (s := S8x2x256x256) (φ := .f32) (iblk m c 5 t)) (h : Fin 8) (d : Fin 64) :
    outC m c t (ix2 r (lane h d)) = ATT m c b h s d := by
  have hr := r.isLt
  have ht : t.val < 128 := t.isLt
  unfold outC
  refine (pieces_at _ _ _ _ _ _ _ _ _ _ _ _ _ f0 f1 f2 f3 f4 f5 r h d).trans ?_
  have es : (⟨s.val % 256, by omega⟩ : Fin 256) = r := Fin.ext (by dsimp only; omega)
  have ei : iB (grid0.coords t) = ⟨s.val / 256, by omega⟩ := Fin.ext (by show (grid0.coords t 1).val = _; rw [coord1]; dsimp only; omega)
  exact quo_congr ei (fun e => congrArg EReal.toReal (blk0_at m c t r _ _ (by dsimp only; omega)))
    (fun n e => congrArg EReal.toReal (blk3_at m c t b hb n _))
    (fun j κ e => congrArg EReal.toReal (blk1_at m c t b hb j κ _))
    (fun j κ => congrArg EReal.toReal (blk2_at m c t b hb j _ κ))
    (fun κ => congrArg EReal.toReal ((blk4_at m c t h κ r).trans (by rw [es])))
    (fun w κ => congrArg EReal.toReal ((blk5_at m c t h w κ r).trans (by rw [es])))

/-- The result array as a function of the arguments. -/
def OUT (c : Dev nD) : S32768x512.Idx → EReal := fun y =>
  ATT m c (Fin.ofNat 16 ((y 0).val / 2048)) (Fin.ofNat 8 ((y 1).val / 64)) (Fin.ofNat 2048 (y 0).val) (Fin.ofNat 64 (y 1).val)

theorem OUT_at (b : Fin 16) (s : Fin 2048) (h : Fin 8) (d : Fin 64) (y : Fin 32768) (x : Fin 512) (hy : y.val = b.val * 2048 + s.val)
    (hx : x.val = 64 * h.val + d.val) : OUT m c (ix2 y x) = ATT m c b h s d := by
  have hs := s.isLt
  have hd := d.isLt
  have e1 : Fin.ofNat 16 (y.val / 2048) = b := Fin.ext (by show y.val / 2048 % 16 = b.val; omega)
  have e2 : Fin.ofNat 8 (x.val / 64) = h := Fin.ext (by show x.val / 64 % 8 = h.val; omega)
  have e3 : Fin.ofNat 2048 y.val = s := Fin.ext (by show y.val % 2048 = s.val; omega)
  have e4 : Fin.ofNat 64 x.val = d := Fin.ext (by show x.val % 64 = d.val; omega)
  show ATT m c (Fin.ofNat 16 (y.val / 2048)) (Fin.ofNat 8 (x.val / 64)) (Fin.ofNat 2048 y.val) (Fin.ofNat 64 x.val) = _
  rw [e1, e2, e3, e4]

/-- The six arguments are finite. -/
structure ArgsFin (c : Dev nD) : Prop where
  a0 : IsFin (s := S32768x512) (φ := .bf16) (m ((c : Thread nD τ).loc main_arg0))
  a1 : IsFin (s := S16x8x256x512) (φ := .bf16) (m ((c : Thread nD τ).loc main_arg1))
  a2 : IsFin (s := S16x8x512x256) (φ := .bf16) (m ((c : Thread nD τ).loc main_arg2))
  a3 : IsFin (s := S16x8x512) (φ := .f32) (m ((c : Thread nD τ).loc main_arg3))
  a4 : IsFin (s := S8x256x256) (φ := .f32) (m ((c : Thread nD τ).loc main_arg4))
  a5 : IsFin (s := S8x2x256x256) (φ := .f32) (m ((c : Thread nD τ).loc main_arg5))

theorem isFin_of {s s' : Shape} {φ φ' : EltTy} {x : s.Idx → EReal} {y : s'.Idx → EReal} (hy : IsFin (φ := φ') y) (h : ∀ j, ∃ k, x j = y k) :
    IsFin (φ := φ) x := fun j => by
  obtain ⟨k, e⟩ := h j
  rw [e]; exact hy k

/-- The result array after the run. -/
theorem final (hf : ArgsFin m c) : (dats m 0 c).arrAt 6 (cfgs 0).N = OUT m c := by
  refine (dats m 0 c).arrAt_eq_of_covers 6 _ (by decide +kernel) fun t _ y => ?_
  blk_simp
  rw [after0_6]
  obtain ⟨r, q, rfl⟩ : ∃ (r : Fin 256) (q : Fin 512), y = (ix2 r q : S256x512.Idx) := ⟨y 0, y 1, eq_ix2 y⟩
  have ht : t.val < 128 := t.isLt
  have hr := r.isLt
  have hq := q.isLt
  have hb : (⟨t.val / 8, by omega⟩ : Fin 16).val = t.val / 8 := rfl
  obtain ⟨h, d, hh⟩ : ∃ (h : Fin 8) (d : Fin 64), q = lane h d := ⟨⟨q.val / 64, by omega⟩, ⟨q.val % 64, by omega⟩, Fin.ext (by dsimp only; omega)⟩
  rw [hh]
  refine (block_at m c t ⟨t.val / 8, by omega⟩ rfl ⟨t.val % 8 * 256 + r.val, by omega⟩ r rfl ?_ ?_ ?_ ?_ ?_ ?_ h d).trans ?_
  · exact isFin_of hf.a0 fun j => ⟨_, rfl⟩
  · exact isFin_of hf.a1 fun j => ⟨_, rfl⟩
  · exact isFin_of hf.a2 fun j => ⟨_, rfl⟩
  · exact isFin_of hf.a3 fun j => ⟨_, rfl⟩
  · exact isFin_of hf.a4 fun j => ⟨_, rfl⟩
  · exact isFin_of hf.a5 fun j => ⟨_, rfl⟩
  refine (OUT_at m c ⟨t.val / 8, by omega⟩ ⟨t.val % 8 * 256 + r.val, by omega⟩ h d ⟨t.val * 256 + r.val, by omega⟩ (lane h d) (by dsimp only; omega) rfl).symm.trans ?_
  refine congrArg _ ?_
  blk_ext [idx t]

end Cert.KernelIdeal.Attn

end
-- ==== Proof.AttnFinite.lean ====
/-
  Hand-written, untrusted. The precondition of the attention: every entry of every argument is finite.
-/
module

public import proofs.«01_k».proof.Proof.AttnValue
public import Idealize.ShloMosaic.Lib.ReduceAll
public import Idealize.ShloMosaic.Lib.Affine
public import proofs.«01_k».proof.Defs
public import proofs.«01_k».proof.Proof.Gen.Pre_finite_inputs

@[expose] public section

set_option maxRecDepth 16384

noncomputable section

namespace Cert.KernelIdeal.Attn

open Cert.KernelIdeal Cert.Attn
open Idealize.ShloMosaic Idealize.ShloMosaic.TcCoe

/-- A number whose absolute value is below `+∞` is real. -/
theorem fin_of_olt (φ : FTy) (x : EReal) (h : FloatOps.cmpf (F := Ideal) (φ := φ) .olt (FloatOps.hostAbsf (F := Ideal) (φ := φ) x)
    (FloatOps.ofBits (F := Ideal) .f32 0x7F800000#32 : EReal) = 1#1) : x = (x.toReal : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    unfold Ideal.cmp at h'
    simp [hn] at h'
  have h1 := (max_lt_iff.mp hlt).1
  have h2 := (max_lt_iff.mp hlt).2
  refine (EReal.coe_toReal h1.ne fun e => ?_).symm
  rw [e] at h2
  simp at h2

theorem andi_split {s : Shape} {x y : s.Idx → BitVec 1} {j : s.Idx} (h : andi x y j = 1#1) : x j = 1#1 ∧ y j = 1#1 :=
  IntOp.andi_eq_one.mp h

instance : Subsingleton (⟨0, ![]⟩ : Shape).Idx := ⟨fun a b => funext fun i => i.elim0⟩

variable (m : (ℓ : Loc nD τ sig) → Buf (Elt Ideal) ℓ)

theorem argsFin (hp : Cert.Pre_KernelIdeal_finite_inputs m) (c : Dev nD) : ArgsFin m c := by
  have e := congrFun (hp c) ix0
  dsimp only [Cert.Pre_finite_inputs.fn, Cert.Pre_finite_inputs.fn_part1] at e
  obtain ⟨e, h5⟩ := andi_split e
  obtain ⟨e, h4⟩ := andi_split e
  obtain ⟨e, h3⟩ := andi_split e
  obtain ⟨e, h2⟩ := andi_split e
  obtain ⟨h0, h1⟩ := andi_split e
  exact {
    a0 := fun i => fin_of_olt .f32 _ (Host.reduce_andi_all _ _ _ _ _ h0 i)
    a1 := fun i => fin_of_olt .f32 _ (Host.reduce_andi_all _ _ _ _ _ h1 i)
    a2 := fun i => fin_of_olt .f32 _ (Host.reduce_andi_all _ _ _ _ _ h2 i)
    a3 := fun i => fin_of_olt .f32 _ (Host.reduce_andi_all _ _ _ _ _ h3 i)
    a4 := fun i => fin_of_olt .f32 _ (Host.reduce_andi_all _ _ _ _ _ h4 i)
    a5 := fun i => fin_of_olt .f32 _ (Host.reduce_andi_all _ _ _ _ _ h5 i) }

end Cert.KernelIdeal.Attn

end
-- ==== Proof.AttnRefA.lean ====
/-
  Hand-written, untrusted. The reference's arrays of queries, keys, values, block means and biases, each entry in terms of the
  arguments; the block a position belongs to; the gate with its mask.
-/
module

public import proofs.«01_k».proof.Proof.Gen.ReferenceIdeal.Read
public import proofs.«01_k».proof.Proof.AttnSpec
public import Idealize.ShloMosaic.Lib.Pointwise
public import Idealize.ShloMosaic.Lib.Pipeline.ValueKit

@[expose] public section

set_option maxRecDepth 16384

noncomputable section

namespace Cert.ReferenceIdeal.Attn

open Cert.ReferenceIdeal Cert.ReferenceIdeal.Read Cert.Attn
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

/-- The row of position `s` of sequence `b`. -/
abbrev tok (b : Fin 16) (s : Fin 2048) : Fin 32768 := ⟨b.val * 2048 + s.val, by omega⟩

/-- The block of a position, and the position in its block. -/
abbrev bl (s : Fin 2048) : Fin 8 := ⟨s.val / 256, by omega⟩
abbrev ro (s : Fin 2048) : Fin 256 := ⟨s.val % 256, by omega⟩

theorem lane_eq (h : Fin 8) (e : Fin 64) (p : h.val * 64 + e.val < 512) : (⟨h.val * 64 + e.val, p⟩ : Fin 512) = lane h e :=
  Fin.ext (by show h.val * 64 + e.val = 64 * h.val + e.val; omega)

theorem v2_at (b : Fin 16) (h : Fin 8) (s : Fin 2048) (d : Fin 64) :
    val_main_v2 (F := Ideal) x0 (ix4 b h s d) = x0 (ix2 (tok b s) (lane h d)) := by
  pointwise [val_main_v2, val_main_v1, val_main_v0]
  rw [lane_eq]

theorem v5_at (b : Fin 16) (h : Fin 8) (n : Fin 8) (κ : Fin 256) (d : Fin 64) :
    val_main_v5 (F := Ideal) x1 (ix5 b h n κ d) = x1 (ix4 b n κ (lane h d)) := by
  pointwise [val_main_v5, val_main_v4, val_main_v3]
  rw [lane_eq]

theorem v8_at (b : Fin 16) (h : Fin 8) (n : Fin 8) (κ : Fin 256) (d : Fin 64) :
    val_main_v8 (F := Ideal) x2 (ix5 b h n κ d) = x2 (ix4 b n (lane h d) κ) := by
  pointwise [val_main_v8, val_main_v7, val_main_v6]
  rw [lane_eq]

theorem v10_at (b : Fin 16) (h : Fin 8) (n : Fin 8) (d : Fin 64) :
    val_main_v10 (F := Ideal) x3 (ix4 b h n d) = x3 (ix3 b n (lane h d)) := by
  pointwise [val_main_v10, val_main_v9]
  rw [lane_eq]

theorem v11_at (b : Fin 16) (h : Fin 8) (s : Fin 2048) (n : Fin 8) :
    val_main_v11 (F := Ideal) x0 x3 (ix4 b h s n) = (∑ e : Fin 64, x0 (ix2 (tok b s) (lane h e)) * x3 (ix3 b n (lane h e)) : EReal) := by
  simp only [← v2_at, ← v10_at]
  pointwise [val_main_v11]

theorem v13_at (s : Fin 2048) : val_main_v13 (F := Ideal) (ix1 s) = BitVec.ofNat 32 (s.val / 256) := by
  pointwise [val_main_v13, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_c, val_main_call0_c_0, val_main_c, val_main_v12]
  revert s
  decide +kernel

theorem v19_at (s : Fin 2048) (n : Fin 8) : val_main_v19 (F := Ideal) (ix2 s n) = BitVec.ofBool (decide (n < bl s)) := by
  have e := v13_at s
  pointwise [val_main_v19, val_main_v18, val_main_v17, val_main_v16, val_main_v15, val_main_v14]
  rw [e]
  have key : ∀ m k : Fin 8, IntOp.cmpi CmpIPredicate.slt (BitVec.ofNat 32 m.val) (BitVec.ofNat 32 k.val) = BitVec.ofBool (decide (m < k)) := by
    decide +kernel
  exact key n (bl s)

theorem v20_at (b : Fin 16) (h : Fin 8) (s : Fin 2048) (n : Fin 8) :
    val_main_v20 (F := Ideal) x0 x3 (ix4 b h s n) = if n < bl s then val_main_v11 (F := Ideal) x0 x3 (ix4 b h s n) else (⊥ : EReal) := by
  have e := v19_at s n
  pointwise [val_main_v20, val_main_call1_v2, val_main_call1_v1, val_main_call1_v0, val_main_cst]
  rw [e]
  show Scalar.select _ _ (⊥ : EReal) = _
  by_cases hn : n < bl s
  · rw [decide_eq_true hn, if_pos hn]; rfl
  · rw [decide_eq_false hn, if_neg hn]; rfl

theorem v76_at (h : Fin 8) (s : Fin 2048) (κ : Fin 256) : val_main_v76 (F := Ideal) x5 (ix3 h s κ) = x5 (ix4 h 0 κ (ro s)) := by
  pointwise [val_main_v76, val_main_v75, val_main_v74, val_main_v73, val_main_v72, val_main_v71]

theorem v106_at (b : Fin 16) (h : Fin 8) (s : Fin 2048) (κ : Fin 256) :
    val_main_v106 (F := Ideal) x0 x1 x4 (ix4 b h s κ)
      = ((∑ e : Fin 64, x0 (ix2 (tok b s) (lane h e)) * x1 (ix4 b (bl s) κ (lane h e))) + x4 (ix3 h κ (ro s)) : EReal) := by
  simp only [← v2_at, ← v5_at]
  pointwise [val_main_v106, val_main_v105, val_main_v104, val_main_v103, val_main_v102, val_main_v101, val_main_v100]

end Cert.ReferenceIdeal.Attn

end
-- ==== Proof.AttnRefB.lean ====
/-
  Hand-written, untrusted. The reference's choice of three blocks per position, and the keys and values gathered at them.
-/
module

public import proofs.«01_k».proof.Proof.AttnRefA

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))

/-- The gate of position `s` of sequence `b`, head `h`, over the eight blocks. -/
def gt (b : Fin 16) (h : Fin 8) (s : Fin 2048) (n : Fin 8) : EReal := val_main_v20 (F := Ideal) x0 x3 (ix4 b h s n)

/-- The block at place `t` of the three. -/
abbrev sel (b : Fin 16) (h : Fin 8) (s : Fin 2048) (t : Fin 3) : Fin 8 := top (gt x0 x3 b h s) (slot t)

theorem along_ix4 {n0 n1 n2 n3 : ℕ} (b : Fin n0) (h : Fin n1) (s : Fin n2) (n k : Fin n3) :
    (show (⟨4, ![n0, n1, n2, n3]⟩ : Shape).Idx from ix4 b h s n).along 3 k = ix4 b h s k := by
  funext a
  match a with
  | ⟨0, _⟩ => rfl
  | ⟨1, _⟩ => rfl
  | ⟨2, _⟩ => rfl
  | ⟨3, _⟩ => rfl

theorem gt_bit (x y : EReal) : (FloatOps.cmpfTotal (F := Ideal) (φ := .f32) .gt x y == 1#1) = decide (y < x) := by
  show (BitVec.ofBool (decide (y < x)) == 1#1) = _
  cases decide (y < x) <;> rfl

/-- The index half of a top-3 over the last axis. -/
theorem topK_at (gt : EReal → EReal → BitVec 1) (x : S16x8x2048x8.Idx → EReal) (hx : S16x8x2048x8.Slices (fun _ => 0) S16x8x2048x3)
    (b : Fin 16) (h : Fin 8) (s : Fin 2048) (t : Fin 3) :
    (Host.topK S16x8x2048x3 3 gt x hx).2 (ix4 b h s t)
      = BitVec.ofNat 32 (sortedFrom (n := 8) (fun k k' => gt (x (ix4 b h s k)) (x (ix4 b h s k')) == 1#1) (slot t)).val := by
  have e1 : (Host.topK S16x8x2048x3 3 gt x hx).2 (ix4 b h s t)
      = (Host.sort2 S16x8x2048x8 3 (fun l r => gt l.1 r.1) x
          (fun i => if hd : 3 < S16x8x2048x8.rank then iotaInDim S16x8x2048x8 32 ⟨3, hd⟩ i else 0#32)).2 (ix4 b h s (slot t)) := by
    refine congrArg (Host.sort2 S16x8x2048x8 3 (fun l r => gt l.1 r.1) x
          (fun i => if hd : 3 < S16x8x2048x8.rank then iotaInDim S16x8x2048x8 32 ⟨3, hd⟩ i else 0#32)).2 (funext fun a => Fin.ext ?_)
    match a with
    | ⟨0, _⟩ => show 0 + b.val = b.val; omega
    | ⟨1, _⟩ => show 0 + h.val = h.val; omega
    | ⟨2, _⟩ => show 0 + s.val = s.val; omega
    | ⟨3, _⟩ => show 0 + t.val = t.val; omega
  have e2 : ∀ k : Fin 8, (show S16x8x2048x8.Idx from ix4 b h s (slot t)).along 3 k = ix4 b h s k := along_ix4 b h s (slot t)
  rw [e1]
  show BitVec.ofNat 32 (sortedFrom (n := 8) (fun k k' => gt (x ((show S16x8x2048x8.Idx from ix4 b h s (slot t)).along 3 k))
    (x ((show S16x8x2048x8.Idx from ix4 b h s (slot t)).along 3 k')) == 1#1) (slot t)).val = _
  simp only [e2]

theorem indices_at (b : Fin 16) (h : Fin 8) (s : Fin 2048) (t : Fin 3) :
    val_main_indices (F := Ideal) x0 x3 (ix4 b h s t) = BitVec.ofNat 32 (sel x0 x3 b h s t).val := by
  unfold val_main_indices
  refine (topK_at _ (val_main_v20 (F := Ideal) x0 x3) _ b h s t).trans ?_
  simp only [gt_bit]
  rfl

/-- The dimension numbers of the two gathers. -/
abbrev gd : GatherDims S16x8x8x256x64 S16x8x2048x3x3 S16x8x2048x3x256x64 :=
  gather_S16x8x8x256x64_S16x8x2048x3x3_S16x8x2048x3x256x64_45_012_n_n_012_4_11125664

theorem siIdx_at (b : Fin 16) (h : Fin 8) (s : Fin 2048) (t : Fin 3) (κ : Fin 256) (d : Fin 64) (c : Fin 3) :
    gd.siIdx (ix6 b h s t κ d) (show Fin gd.startIndexMap.length from c) = ix5 b h s t c := by
  funext a
  match a with
  | ⟨0, _⟩ => rfl
  | ⟨1, _⟩ => rfl
  | ⟨2, _⟩ => rfl
  | ⟨3, _⟩ => rfl
  | ⟨4, _⟩ => rfl

theorem clamp16 : ∀ m : Fin 16, min (BitVec.ofNat 32 m.val).toInt.toNat (16 - 1) = m.val := by decide +kernel

theorem clamp8 : ∀ m : Fin 8, min (BitVec.ofNat 32 m.val).toInt.toNat (8 - 1) = m.val := by decide +kernel

/-- The gather reads the row its three start words name. -/
theorem gather_at {α : Type} (x : S16x8x8x256x64.Idx → α) (idx : IVec S16x8x2048x3x3 32) (b : Fin 16) (h : Fin 8) (s : Fin 2048) (t : Fin 3)
    (κ : Fin 256) (d : Fin 64) (n : Fin 8) (h0 : idx (ix5 b h s t 0) = BitVec.ofNat 32 b.val) (h1 : idx (ix5 b h s t 1) = BitVec.ofNat 32 h.val)
    (h2 : idx (ix5 b h s t 2) = BitVec.ofNat 32 n.val) : Host.gather gd x idx (ix6 b h s t κ d) = x (ix5 b h n κ d) := by
  have st : ∀ c : Fin 3, gd.start (ix6 b h s t κ d) idx ⟨c.val, by have := c.isLt; show c.val < 5; omega⟩
      = min (idx (gd.siIdx (ix6 b h s t κ d) (show Fin gd.startIndexMap.length from c))).toInt.toNat (![16, 8, 8] c - 1) := fun c => by
    match c with
    | ⟨0, _⟩ => rfl
    | ⟨1, _⟩ => rfl
    | ⟨2, _⟩ => rfl
  have bc : ∀ a, gd.batchCoord (ix6 b h s t κ d) a = 0 := fun a => gd.batchCoord_eq_zero _ _ List.not_mem_nil
  refine congrArg x (funext fun a => Fin.ext ?_)
  show gd.start (ix6 b h s t κ d) idx a + gd.batchCoord (ix6 b h s t κ d) a + gd.offCoord (ix6 b h s t κ d) a = (ix5 b h n κ d a).val
  rw [bc]
  match a with
  | ⟨0, _⟩ => exact (congrArg (· + 0 + 0) ((st 0).trans (by rw [siIdx_at, h0]; exact clamp16 b)))
  | ⟨1, _⟩ => exact (congrArg (· + 0 + 0) ((st 1).trans (by rw [siIdx_at, h1]; exact clamp8 h)))
  | ⟨2, _⟩ => exact (congrArg (· + 0 + 0) ((st 2).trans (by rw [siIdx_at, h2]; exact clamp8 n)))
  | ⟨3, _⟩ => exact (show 0 + 0 + κ.val = κ.val by omega)
  | ⟨4, _⟩ => exact (show 0 + 0 + d.val = d.val by omega)

theorem v43_at (b : Fin 16) (h : Fin 8) (s : Fin 2048) (t : Fin 3) (z : Fin 1) :
    val_main_v43 (F := Ideal) (ix5 b h s t z) = BitVec.ofNat 32 b.val := by
  pointwise [val_main_v43, val_main_v41, val_main_v30, val_main_v29, val_main_v28, val_main_v27, val_main_v26, val_main_v23, val_main_v22]
  revert b
  decide +kernel

theorem v44_at (b : Fin 16) (h : Fin 8) (s : Fin 2048) (t : Fin 3) (z : Fin 1) :
    val_main_v44 (F := Ideal) (ix5 b h s t z) = BitVec.ofNat 32 h.val := by
  pointwise [val_main_v44, val_main_v42, val_main_v35, val_main_v34, val_main_v33, val_main_v32, val_main_v31, val_main_v25, val_main_v24]
  revert h
  decide +kernel

theorem wrap : ∀ m : Fin 8, Scalar.select (IntOp.cmpi CmpIPredicate.slt (BitVec.ofNat 32 m.val) 0#32) (IntOp.addi (BitVec.ofNat 32 m.val) 8#32)
    (BitVec.ofNat 32 m.val) = BitVec.ofNat 32 m.val := by decide +kernel

theorem v45_at (b : Fin 16) (h : Fin 8) (s : Fin 2048) (t : Fin 3) (z : Fin 1) :
    val_main_v45 (F := Ideal) x0 x3 (ix5 b h s t z) = BitVec.ofNat 32 (sel x0 x3 b h s t).val := by
  have e := indices_at x0 x3 b h s t
  pointwise [val_main_v45, val_main_v40, val_main_v39, val_main_v38, val_main_v37, val_main_v36]
  rw [e]
  exact wrap _

theorem v46_0 (b : Fin 16) (h : Fin 8) (s : Fin 2048) (t : Fin 3) :
    val_main_v46 (F := Ideal) x0 x3 (ix5 b h s t 0) = BitVec.ofNat 32 b.val := by
  rw [← v43_at b h s t 0]
  pointwise [val_main_v46]

theorem v46_1 (b : Fin 16) (h : Fin 8) (s : Fin 2048) (t : Fin 3) :
    val_main_v46 (F := Ideal) x0 x3 (ix5 b h s t 1) = BitVec.ofNat 32 h.val := by
  rw [← v44_at b h s t 0]
  pointwise [val_main_v46]

theorem v46_2 (b : Fin 16) (h : Fin 8) (s : Fin 2048) (t : Fin 3) :
    val_main_v46 (F := Ideal) x0 x3 (ix5 b h s t 2) = BitVec.ofNat 32 (sel x0 x3 b h s t).val := by
  rw [← v45_at x0 x3 b h s t 0]
  pointwise [val_main_v46]

/-- The values are gathered at the same three words. -/
theorem v68_eq : val_main_v68 (F := Ideal) x0 x3 = val_main_v46 (F := Ideal) x0 x3 := rfl

theorem v47_at (b : Fin 16) (h : Fin 8) (s : Fin 2048) (t : Fin 3) (κ : Fin 256) (d : Fin 64) :
    val_main_v47 (F := Ideal) x0 x1 x3 (ix6 b h s t κ d) = x1 (ix4 b (sel x0 x3 b h s t) κ (lane h d)) :=
  (gather_at (val_main_v5 (F := Ideal) x1) (val_main_v46 (F := Ideal) x0 x3) b h s t κ d _ (v46_0 x0 x3 b h s t) (v46_1 x0 x3 b h s t)
    (v46_2 x0 x3 b h s t)).trans (v5_at x1 b h _ κ d)

theorem v69_at (b : Fin 16) (h : Fin 8) (s : Fin 2048) (t : Fin 3) (κ : Fin 256) (d : Fin 64) :
    val_main_v69 (F := Ideal) x0 x2 x3 (ix6 b h s t κ d) = x2 (ix4 b (sel x0 x3 b h s t) (lane h d) κ) :=
  (gather_at (val_main_v8 (F := Ideal) x2) (val_main_v46 (F := Ideal) x0 x3) b h s t κ d _ (v46_0 x0 x3 b h s t) (v46_1 x0 x3 b h s t)
    (v46_2 x0 x3 b h s t)).trans (v8_at x2 b h _ κ d)

end Cert.ReferenceIdeal.Attn

end
-- ==== Proof.AttnRefC.lean ====
/-
  Hand-written, untrusted. The reference's logits, their softmax, and the weighted sum of values, each entry in terms of the
  arguments; the result is the function of `AttnSpec`.
-/
module

public import proofs.«01_k».proof.Proof.AttnRefB

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

theorem v82_at (h : Fin 8) (s : Fin 2048) (κ : Fin 256) : val_main_v82 (F := Ideal) x5 (ix3 h s κ) = x5 (ix4 h 1 κ (ro s)) := by
  pointwise [val_main_v82, val_main_v81, val_main_v80, val_main_v79, val_main_v78, val_main_v77]

theorem prevBit : ∀ i j : Fin 8, IntOp.cmpi CmpIPredicate.eq (IntOp.subi (BitVec.ofNat 32 i.val) (BitVec.ofNat 32 j.val)) 1#32
    = BitVec.ofBool (decide (j.val + 1 = i.val)) := by decide +kernel

theorem validBit : ∀ (t : Fin 3) (i : Fin 8), IntOp.cmpi CmpIPredicate.slt (BitVec.ofNat 32 t.val) (BitVec.ofNat 32 i.val)
    = BitVec.ofBool (decide (t.val < i.val)) := by decide +kernel

theorem select_bool {α : Type} (p : Prop) [Decidable p] (x y : α) : Scalar.select (BitVec.ofBool (decide p)) x y = if p then x else y := by
  by_cases h : p
  · rw [decide_eq_true h, if_pos h]; rfl
  · rw [decide_eq_false h, if_neg h]; rfl

theorem v91_at (b : Fin 16) (h : Fin 8) (s : Fin 2048) (t : Fin 3) (κ : Fin 256) :
    val_main_v91 (F := Ideal) x0 x3 x5 (ix5 b h s t κ)
      = x5 (ix4 h (if (sel x0 x3 b h s t).val + 1 = (bl s).val then 0 else 1) κ (ro s)) := by
  have e := indices_at x0 x3 b h s t
  have e1 := v13_at s
  have e2 := v76_at x5 h s κ
  have e3 := v82_at x5 h s κ
  pointwise [val_main_v91, val_main_call2_v0, val_main_call2_v1, val_main_call2_v2, val_main_v90, val_main_v89, val_main_v88, val_main_v87,
    val_main_v86, val_main_v85, val_main_v84, val_main_v83]
  rw [e, e1, e2, e3]
  refine (congrArg (fun w => Scalar.select w _ _) (prevBit (bl s) (sel x0 x3 b h s t))).trans ?_
  rw [select_bool]
  split <;> rfl

theorem v70_at (b : Fin 16) (h : Fin 8) (s : Fin 2048) (t : Fin 3) (κ : Fin 256) :
    val_main_v70 (F := Ideal) x0 x1 x3 (ix5 b h s t κ)
      = (∑ e : Fin 64, x0 (ix2 (tok b s) (lane h e)) * x1 (ix4 b (sel x0 x3 b h s t) κ (lane h e)) : EReal) := by
  simp only [← v2_at, ← v47_at]
  pointwise [val_main_v70]

theorem v99_at (b : Fin 16) (h : Fin 8) (s : Fin 2048) (t : Fin 3) (κ : Fin 256) :
    val_main_v99 (F := Ideal) x0 x1 x3 x5 (ix5 b h s t κ)
      = if t.val < (bl s).val then (val_main_v70 (F := Ideal) x0 x1 x3 (ix5 b h s t κ) + val_main_v91 (F := Ideal) x0 x3 x5 (ix5 b h s t κ) : EReal)
        else (⊥ : EReal) := by
  have e1 := v13_at s
  pointwise [val_main_v99, val_main_call3_v0, val_main_call3_v1, val_main_call3_v2, val_main_v98, val_main_v97, val_main_v96, val_main_v95,
    val_main_v94, val_main_v93, val_main_v92, val_main_v21, val_main_cst_13]
  rw [e1]
  refine (congrArg (fun w => Scalar.select w _ _) (validBit t (bl s))).trans ?_
  rw [select_bool]
  rfl

theorem v108_sel (b : Fin 16) (h : Fin 8) (s : Fin 2048) (t : Fin 3) (κ : Fin 256) :
    val_main_v108 (F := Ideal) x0 x1 x3 x4 x5 (ix4 b h s (selIx t κ)) = val_main_v99 (F := Ideal) x0 x1 x3 x5 (ix5 b h s t κ) := by
  pointwise [val_main_v108, val_main_v107]
  rw [dif_pos (by have := t.isLt; have := κ.isLt; omega)]

theorem v108_own (b : Fin 16) (h : Fin 8) (s : Fin 2048) (κ : Fin 256) :
    val_main_v108 (F := Ideal) x0 x1 x3 x4 x5 (ix4 b h s (ownIx κ)) = val_main_v106 (F := Ideal) x0 x1 x4 (ix4 b h s κ) := by
  pointwise [val_main_v108]

end Cert.ReferenceIdeal.Attn

end
-- ==== Proof.AttnRefD.lean ====
/-
  Hand-written, untrusted. The reference's softmax over a row of logits.
-/
module

public import proofs.«01_k».proof.Proof.AttnRefC

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe
open Cert.ReferenceIdeal.Facts₀ Cert.ReferenceIdeal.Facts

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

/-- A maximum over the last axis, from `⊥`. -/
theorem fold_at (L : S16x8x2048x1024.Idx → EReal) (v : S_.Idx → EReal) (hv : ∀ i, v i = ⊥) (b : Fin 16) (h : Fin 8) (s : Fin 2048) :
    Host.reduce (FloatOps.maximumf (F := Ideal) (φ := .f32)) L v reducesTo_S16x8x2048x1024_S16x8x2048_d3 h_S_ (ix3 b h s)
      = rowMax fun x : Fin 1024 => L (ix4 b h s x) := by
  pointwise []
  rw [hv]
  rfl

/-- A sum over the last axis, from zero. -/
theorem sum_at (L : FVec Ideal S16x8x2048x1024 .f32) (v : FVec Ideal S_ .f32) (hv : ∀ i, v i = (0 : EReal)) (b : Fin 16) (h : Fin 8) (s : Fin 2048) :
    Host.reduceAdd L v reducesTo_S16x8x2048x1024_S16x8x2048_d3 h_S_ (ix3 b h s) = (∑ x : Fin 1024, L (ix4 b h s x) : EReal) := by
  pointwise []
  rw [hv, zero_add]

theorem zero_word : Ideal.ofBits .f32 0x00000000#32 = 0 := by simp [Ideal.ofBits, Ideal.ieee]

theorem ninf_word : Ideal.ofBits .f32 0xFF800000#32 = ⊥ := rfl

/-- The logits of one query. -/
def lg (b : Fin 16) (h : Fin 8) (s : Fin 2048) (y : Fin 1024) : EReal := val_main_v108 (F := Ideal) x0 x1 x3 x4 x5 (ix4 b h s y)

theorem v109_at (b : Fin 16) (h : Fin 8) (s : Fin 2048) :
    val_main_v109 (F := Ideal) x0 x1 x3 x4 x5 (ix3 b h s) = rowMax (lg x0 x1 x3 x4 x5 b h s) :=
  fold_at (val_main_v108 (F := Ideal) x0 x1 x3 x4 x5) (val_main_cst_14 (F := Ideal)) (fun _ => ninf_word) b h s

theorem v110_at (i : S16x8x2048.Idx) : val_main_v110 (F := Ideal) i = (⊥ : EReal) := (val_main_v110_apply i).trans ninf_word

theorem v111_at (b : Fin 16) (h : Fin 8) (s : Fin 2048) :
    val_main_v111 (F := Ideal) x0 x1 x3 x4 x5 (ix3 b h s) = rowMax (lg x0 x1 x3 x4 x5 b h s) :=
  (val_main_v111_apply x0 x1 x3 x4 x5 _).trans ((congrArg₂ (fun p q : EReal => max p q) (v110_at _) (v109_at x0 x1 x3 x4 x5 b h s)).trans
    (max_eq_right bot_le))

theorem v115_at (b : Fin 16) (h : Fin 8) (s : Fin 2048) (x : Fin 1024) :
    val_main_v115 (F := Ideal) x0 x1 x3 x4 x5 (ix4 b h s x)
      = Ideal.exp (lg x0 x1 x3 x4 x5 b h s x - rowMax (lg x0 x1 x3 x4 x5 b h s)) := by
  have e := v111_at x0 x1 x3 x4 x5 b h s
  have e1 : val_main_v113 (F := Ideal) x0 x1 x3 x4 x5 (ix4 b h s x) = rowMax (lg x0 x1 x3 x4 x5 b h s) := by
    pointwise [val_main_v113, val_main_v112]
    exact e
  rw [val_main_v115_apply, val_main_v114_apply, e1]
  exact congrArg (fun p : EReal => Ideal.exp (p - rowMax (lg x0 x1 x3 x4 x5 b h s)))
    (show val_main_v108 (F := Ideal) x0 x1 x3 x4 x5 (ix4 b h s x) = lg x0 x1 x3 x4 x5 b h s x from rfl)

theorem v116_at (b : Fin 16) (h : Fin 8) (s : Fin 2048) :
    val_main_v116 (F := Ideal) x0 x1 x3 x4 x5 (ix3 b h s)
      = ∑ z : Fin 1024, Ideal.exp (lg x0 x1 x3 x4 x5 b h s z - rowMax (lg x0 x1 x3 x4 x5 b h s)) :=
  (sum_at (val_main_v115 (F := Ideal) x0 x1 x3 x4 x5) (val_main_cst_16 (F := Ideal)) (fun _ => zero_word) b h s).trans
    (Finset.sum_congr rfl fun z _ => v115_at x0 x1 x3 x4 x5 b h s z)

theorem v119_at (b : Fin 16) (h : Fin 8) (s : Fin 2048) (x : Fin 1024) :
    val_main_v119 (F := Ideal) x0 x1 x3 x4 x5 (ix4 b h s x)
      = Ideal.div (Ideal.exp (lg x0 x1 x3 x4 x5 b h s x - rowMax (lg x0 x1 x3 x4 x5 b h s)))
        (∑ z : Fin 1024, Ideal.exp (lg x0 x1 x3 x4 x5 b h s z - rowMax (lg x0 x1 x3 x4 x5 b h s))) := by
  have e := v115_at x0 x1 x3 x4 x5 b h s x
  have e1 := v116_at x0 x1 x3 x4 x5 b h s
  pointwise [val_main_v119, val_main_v118, val_main_v117]
  rw [e, e1]

end Cert.ReferenceIdeal.Attn

end
-- ==== Proof.AttnRefE.lean ====
/-
  Hand-written, untrusted. The reference's two weighted sums of values, and the result from them.
-/
module

public import proofs.«01_k».proof.Proof.AttnRefC

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

theorem v121_at (b : Fin 16) (h : Fin 8) (s : Fin 2048) (t : Fin 3) (κ : Fin 256) :
    val_main_v121 (F := Ideal) x0 x1 x3 x4 x5 (ix5 b h s t κ) = val_main_v119 (F := Ideal) x0 x1 x3 x4 x5 (ix4 b h s (selIx t κ)) := by
  pointwise [val_main_v121, val_main_v120]

theorem v126_at (b : Fin 16) (h : Fin 8) (s : Fin 2048) (d : Fin 64) :
    val_main_v126 (F := Ideal) x0 x1 x2 x3 x4 x5 (ix4 b h s d)
      = (∑ κ : Fin 256, val_main_v119 (F := Ideal) x0 x1 x3 x4 x5 (ix4 b h s (ownIx κ)) * x2 (ix4 b (bl s) (lane h d) κ) : EReal) := by
  simp only [← v8_at]
  pointwise [val_main_v126, val_main_v125, val_main_v123, val_main_v122]

theorem v124_at (b : Fin 16) (h : Fin 8) (s : Fin 2048) (d : Fin 64) :
    val_main_v124 (F := Ideal) x0 x1 x2 x3 x4 x5 (ix4 b h s d)
      = (∑ t : Fin 3, ∑ κ : Fin 256, val_main_v119 (F := Ideal) x0 x1 x3 x4 x5 (ix4 b h s (selIx t κ))
          * x2 (ix4 b (sel x0 x3 b h s t) (lane h d) κ) : EReal) := by
  simp only [← v69_at, ← v121_at]
  pointwise [val_main_v124]
  exact Finset.sum_comm

end Cert.ReferenceIdeal.Attn

end
-- ==== Proof.AttnRefF.lean ====
/-
  Hand-written, untrusted. The reference's result as the two weighted sums, at its own index.
-/
module

public import proofs.«01_k».proof.Proof.AttnRefE

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

theorem idx129_at (b : Fin 16) (h : Fin 8) (s : Fin 2048) (d : Fin 64) : idx_main_v129 (ix2 (tok b s) (lane h d)) = ix4 b s h d := by
  have := b.isLt; have := h.isLt; have := s.isLt; have := d.isLt
  funext a
  refine Fin.ext ?_
  match a with
  | ⟨0, _⟩ => show ((b.val * 2048 + s.val) * 512 + (64 * h.val + d.val)) / 1048576 = b.val; omega
  | ⟨1, _⟩ => show ((b.val * 2048 + s.val) * 512 + (64 * h.val + d.val)) / 512 % 2048 = s.val; omega
  | ⟨2, _⟩ => show ((b.val * 2048 + s.val) * 512 + (64 * h.val + d.val)) / 64 % 8 = h.val; omega
  | ⟨3, _⟩ => show ((b.val * 2048 + s.val) * 512 + (64 * h.val + d.val)) % 64 = d.val; omega

theorem idx128_at (b : Fin 16) (h : Fin 8) (s : Fin 2048) (d : Fin 64) : idx_main_v128 (ix4 b s h d) = ix4 b h s d := by
  funext a
  match a with
  | ⟨0, _⟩ => rfl
  | ⟨1, _⟩ => rfl
  | ⟨2, _⟩ => rfl
  | ⟨3, _⟩ => rfl

theorem v130_at (b : Fin 16) (h : Fin 8) (s : Fin 2048) (d : Fin 64) :
    val_main_v130 (F := Ideal) x0 x1 x2 x3 x4 x5 (ix2 (tok b s) (lane h d))
      = (val_main_v124 (F := Ideal) x0 x1 x2 x3 x4 x5 (ix4 b h s d) + val_main_v126 (F := Ideal) x0 x1 x2 x3 x4 x5 (ix4 b h s d) : EReal) := by
  rw [val_main_v130_apply, val_main_v129_apply, idx129_at, val_main_v128_apply, idx128_at, val_main_v127_apply]
  rfl

end Cert.ReferenceIdeal.Attn

end
-- ==== Proof.AttnRefG.lean ====
/-
  Hand-written, untrusted. Over finite arguments the reference's result is the function of `AttnSpec`.
-/
module

public import proofs.«01_k».proof.Proof.AttnRefD
public import proofs.«01_k».proof.Proof.AttnRefF

@[expose] public section

set_option maxRecDepth 16384

noncomputable section

namespace Cert.ReferenceIdeal.Attn

open Cert.ReferenceIdeal Cert.ReferenceIdeal.Read Cert.Attn Cert.Attn.Dat
open Idealize.ShloMosaic Idealize.ShloMosaic.TcCoe

variable (x0 : (⟨S32768x512, .bf16⟩ : BufTy).Contents (Elt Ideal)) (x1 : (⟨S16x8x256x512, .bf16⟩ : BufTy).Contents (Elt Ideal))
  (x2 : (⟨S16x8x512x256, .bf16⟩ : BufTy).Contents (Elt Ideal)) (x3 : (⟨S16x8x512, .f32⟩ : BufTy).Contents (Elt Ideal))
  (x4 : (⟨S8x256x256, .f32⟩ : BufTy).Contents (Elt Ideal)) (x5 : (⟨S8x2x256x256, .f32⟩ : BufTy).Contents (Elt Ideal))

/-- The reals one entry is computed from. -/
def dt (b : Fin 16) (h : Fin 8) (s : Fin 2048) (d : Fin 64) : Dat :=
  Dat.mk (i := bl s) (fun e => ((x0 (ix2 (tok b s) (lane h e)) : EReal)).toReal) (fun n e => ((x3 (ix3 b n (lane h e)) : EReal)).toReal)
    (fun j κ e => ((x1 (ix4 b j κ (lane h e)) : EReal)).toReal) (fun j κ => ((x2 (ix4 b j (lane h d) κ) : EReal)).toReal)
    (fun κ => ((x4 (ix3 h κ (ro s)) : EReal)).toReal) (fun w κ => ((x5 (ix4 h w κ (ro s)) : EReal)).toReal)

theorem coe_dot {n : ℕ} (f g : Fin n → EReal) (hf : ∀ e, f e = ((f e).toReal : EReal)) (hg : ∀ e, g e = ((g e).toReal : EReal)) :
    ∑ e, f e * g e = ((∑ e, (f e).toReal * (g e).toReal : ℝ) : EReal) := by
  rw [coe_sum]
  refine Finset.sum_congr rfl fun e _ => ?_
  rw [EReal.coe_mul, ← hf, ← hg]

theorem gate_eq (f0 : ∀ y, (x0 y : EReal) = ((x0 y : EReal).toReal : EReal)) (f3 : ∀ y, (x3 y : EReal) = ((x3 y : EReal).toReal : EReal))
    (b : Fin 16) (h : Fin 8) (s : Fin 2048) (d : Fin 64) : gt x0 x3 b h s = (dt x0 x1 x2 x3 x4 x5 b h s d).gate := by
  funext n
  refine (v20_at x0 x3 b h s n).trans ?_
  rw [v11_at, coe_dot _ _ (fun e => f0 _) (fun e => f3 _)]
  rfl

theorem sel_eq (f0 : ∀ y, (x0 y : EReal) = ((x0 y : EReal).toReal : EReal)) (f1 : ∀ y, (x1 y : EReal) = ((x1 y : EReal).toReal : EReal))
    (f3 : ∀ y, (x3 y : EReal) = ((x3 y : EReal).toReal : EReal)) (f5 : ∀ y, (x5 y : EReal) = ((x5 y : EReal).toReal : EReal))
    (b : Fin 16) (h : Fin 8) (s : Fin 2048) (d : Fin 64) (t : Fin 3) (κ : Fin 256) :
    lg x0 x1 x3 x4 x5 b h s (selIx t κ)
      = if t.val < (bl s).val then ((dt x0 x1 x2 x3 x4 x5 b h s d).sP (sel x0 x3 b h s t) κ : EReal) else ⊥ := by
  refine (v108_sel x0 x1 x3 x4 x5 b h s t κ).trans ((v99_at x0 x1 x3 x5 b h s t κ).trans ?_)
  rw [v70_at, v91_at, coe_dot _ _ (fun e => f0 _) (fun e => f1 _)]
  generalize sel x0 x3 b h s t = j
  rw [f5 (ix4 h (if j.val + 1 = (bl s).val then 0 else 1) κ (ro s)), ← EReal.coe_add]
  rfl

theorem own_eq (f0 : ∀ y, (x0 y : EReal) = ((x0 y : EReal).toReal : EReal)) (f1 : ∀ y, (x1 y : EReal) = ((x1 y : EReal).toReal : EReal))
    (f4 : ∀ y, (x4 y : EReal) = ((x4 y : EReal).toReal : EReal)) (b : Fin 16) (h : Fin 8) (s : Fin 2048) (d : Fin 64) (κ : Fin 256) :
    lg x0 x1 x3 x4 x5 b h s (ownIx κ) = ((dt x0 x1 x2 x3 x4 x5 b h s d).sO κ : EReal) := by
  refine (v108_own x0 x1 x3 x4 x5 b h s κ).trans ((v106_at x0 x1 x4 b h s κ).trans ?_)
  rw [coe_dot _ _ (fun e => f0 _) (fun e => f1 _), f4 (ix3 h κ (ro s)), ← EReal.coe_add]
  rfl

theorem ref_at (f0 : ∀ y, (x0 y : EReal) = ((x0 y : EReal).toReal : EReal)) (f1 : ∀ y, (x1 y : EReal) = ((x1 y : EReal).toReal : EReal))
    (f2 : ∀ y, (x2 y : EReal) = ((x2 y : EReal).toReal : EReal)) (f3 : ∀ y, (x3 y : EReal) = ((x3 y : EReal).toReal : EReal))
    (f4 : ∀ y, (x4 y : EReal) = ((x4 y : EReal).toReal : EReal)) (f5 : ∀ y, (x5 y : EReal) = ((x5 y : EReal).toReal : EReal))
    (b : Fin 16) (h : Fin 8) (s : Fin 2048) (d : Fin 64) :
    val_main_v130 (F := Ideal) x0 x1 x2 x3 x4 x5 (ix2 (tok b s) (lane h d))
      = attn (fun y x => x0 (ix2 y x)) (fun b j κ x => x1 (ix4 b j κ x)) (fun b j x κ => x2 (ix4 b j x κ)) (fun b j x => x3 (ix3 b j x))
          (fun h κ r => x4 (ix3 h κ r)) (fun h w κ r => x5 (ix4 h w κ r)) b h s d := by
  have hg := gate_eq x0 x1 x2 x3 x4 x5 f0 f3 b h s d
  have key := Dat.direct (dt x0 x1 x2 x3 x4 x5 b h s d) (lg x0 x1 x3 x4 x5 b h s)
    (fun t κ => by rw [← hg]; exact sel_eq x0 x1 x2 x3 x4 x5 f0 f1 f3 f5 b h s d t κ)
    (fun κ => own_eq x0 x1 x2 x3 x4 x5 f0 f1 f4 b h s d κ)
    (fun x => val_main_v119 (F := Ideal) x0 x1 x3 x4 x5 (ix4 b h s x)) (v119_at x0 x1 x3 x4 x5 b h s)
  rw [← hg] at key
  rw [v130_at, v124_at, v126_at]
  refine Eq.trans ?_ key
  have e2 : ∀ (j : Fin 8) (κ : Fin 256), (x2 (ix4 b j (lane h d) κ) : EReal) = ((dt x0 x1 x2 x3 x4 x5 b h s d).V j κ : EReal) := fun j κ => f2 _
  refine congrArg₂ (fun p q : EReal => p + q) (Finset.sum_congr rfl fun t _ => Finset.sum_congr rfl fun κ _ => ?_)
    (Finset.sum_congr rfl fun κ _ => ?_)
  · exact congrArg (fun z : EReal => val_main_v119 (F := Ideal) x0 x1 x3 x4 x5 (ix4 b h s (selIx t κ)) * z) (e2 _ κ)
  · exact congrArg (fun z : EReal => val_main_v119 (F := Ideal) x0 x1 x3 x4 x5 (ix4 b h s (ownIx κ)) * z) (e2 _ κ)

end Cert.ReferenceIdeal.Attn

end
-- ==== Proof.AttnClaims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.AttnFrame
public import proofs.«01_k».proof.Proof.AttnFrameP
public import proofs.«01_k».proof.Proof.AttnFinite
public import proofs.«01_k».proof.Proof.AttnRefG
public import proofs.«01_k».proof.Proof.Gen.Pre_finite_inputs
public import Idealize.ShloMosaic.Adequacy
public import Idealize.ShloMosaic.Init

@[expose] public section

noncomputable section

/-! The claims about the attention. -/

namespace Cert.Proof.Attn

open Idealize.ShloMosaic Idealize.ShloMosaic.TcCoe Idealize.SL.Sem

theorem frame_p : Cert.quiescent_Kernel := fun m ρ _ => Cert.Kernel.Attn.frame m ρ

theorem frame_pi : Cert.quiescent_KernelIdeal := fun m ρ _ => Cert.KernelIdeal.Attn.frame m ρ

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "neg_inf" .f32 0xF149F2CA#32 ⊥ rfl

theorem frame_pi_pre : Cert.quiescent_KernelIdeal_pre_finite_inputs := fun m ρ _ => Cert.KernelIdeal.Attn.frame m ρ

theorem frame_ri_pre : Cert.quiescent_ReferenceIdeal_pre_finite_inputs := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over finite arguments the kernel's result is the reference's. -/
theorem out_eq (m : (ℓ : Loc Cert.KernelIdeal.nD Cert.KernelIdeal.τ Cert.KernelIdeal.sig) → Buf (Elt Ideal) ℓ) (c : Dev Cert.KernelIdeal.nD)
    (hf : Cert.KernelIdeal.Attn.ArgsFin m c) :
    Cert.KernelIdeal.Attn.OUT m c = Cert.ReferenceIdeal.Read.val_main_v130 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  funext i
  obtain ⟨y, x, rfl⟩ : ∃ (y : Fin 32768) (x : Fin 512), i = (ix2 y x : Cert.KernelIdeal.S32768x512.Idx) := ⟨i 0, i 1, eq_ix2 i⟩
  have hy := y.isLt
  have hx := x.isLt
  have e := Cert.KernelIdeal.Attn.OUT_at m c ⟨y.val / 2048, by omega⟩ ⟨y.val % 2048, by omega⟩ ⟨x.val / 64, by omega⟩ ⟨x.val % 64, by omega⟩ y x
    (by dsimp only; omega) (by dsimp only; omega)
  have e' := Cert.ReferenceIdeal.Attn.ref_at _ _ _ _ _ _ hf.a0 hf.a1 hf.a2 hf.a3 hf.a4 hf.a5
    ⟨y.val / 2048, by omega⟩ ⟨x.val / 64, by omega⟩ ⟨y.val % 2048, by omega⟩ ⟨x.val % 64, by omega⟩
  have ey : Cert.ReferenceIdeal.Attn.tok ⟨y.val / 2048, by omega⟩ ⟨y.val % 2048, by omega⟩ = y := Fin.ext (by dsimp only; omega)
  have ex : Cert.Attn.lane ⟨x.val / 64, by omega⟩ ⟨x.val % 64, by omega⟩ = x :=
    Fin.ext (by show 64 * (x.val / 64) + x.val % 64 = x.val; omega)
  rw [ey, ex] at e'
  exact e.trans e'.symm

theorem algebraic : Cert.algebraic_KernelIdeal_ReferenceIdeal_pre_finite_inputs := by
  intro m g m' g' hp hag
  refine ⟨fun c => (Cert.KernelIdeal.Attn.dats m 0 c).arrAt 6 Cert.KernelIdeal.cfg0.N, Cert.KernelIdeal.Attn.run_blocks m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hag c
  have hf := Cert.KernelIdeal.Attn.argsFin m hp c
  have l (k) (x : Buf (Elt Ideal) ((c.tc : Thread Cert.ReferenceIdeal.nD Cert.ReferenceIdeal.τ).loc k))
      (h : m' ((c.tc : Thread Cert.ReferenceIdeal.nD Cert.ReferenceIdeal.τ).loc k) = x) :
      StableHlo.launchContents m' c (Proc.devRef .tc k) = x := h
  rw [Cert.ReferenceIdeal.Read.val_main_v130_eq, l _ _ h0, l _ _ h1, l _ _ h2, l _ _ h3, l _ _ h4, l _ _ h5]
  exact ((Cert.KernelIdeal.Attn.final m c hf).trans (out_eq m c hf)).symm

end Cert.Proof.Attn

end
-- ==== Proof.ConvBody.lean ====
/-
  Hand-written, untrusted. The body of the convolution call: eight pieces of 64 rows over one window.
-/
module

public import proofs.«01_k».proof.Proof.Gen.Kernel4Ideal.Value
public import Idealize.ShloMosaic.Lib.Pipeline.Value
public import Idealize.ShloMosaic.Lib.Tactic
public import Idealize.ShloMosaic.Lib.VecWindow
public import Idealize.ShloMosaic.PureOps.Ideal.Laws

@[expose] public section

set_option maxRecDepth 16384

noncomputable section

open Idealize.ShloMosaic Idealize.ShloMosaic.TcCoe Idealize.SL.Sem
open Idealize.ShloMosaic.Pipeline (Dat)

namespace Cert.Kernel4Ideal.Conv

open Cert.Kernel4Ideal Cert.Kernel4Ideal.Gen

variable {F : FTy → Type} [FloatOps F]

theorem hz : (![0, 0] : Fin 2 → Nat) = fun _ => 0 := funext fun a => by fin_cases a <;> rfl

/-- The window the body builds: 32 halo rows, then the block's 512 rows. -/
def win (i : grid0.Coords) (x0 : Vec F S32x512 .bf16) (x1 : Vec F S512x512 .bf16) : Vec F S544x512 .f32 :=
  View.canon [⟨Rect.unit ![32, 0] S512x512.size inb_S544x512_S512x512_32_0, k0_pay3 x1⟩,
    ⟨Rect.unit ![0, 0] S32x512.size inb_S544x512_S32x512_0_0, k0_pay2 i x0⟩]

/-- 64 rows of the window from row `k`. -/
def slab (W : Vec F S544x512 .f32) (k : ℕ) (hk : k + 64 ≤ 544) : Vec F S64x512 .f32 :=
  View.ld W (Rect.unit ![k, 0] S64x512.size (fun a => match a with
    | ⟨0, _⟩ => hk
    | ⟨1, _⟩ => le_refl 512))

/-- Row `j` of the taps. -/
def tap (w : Vec F S31x512 .f32) (j : Fin 31) : Vec F S1x512 .f32 :=
  View.ld w (Rect.unit ![j.val, 0] S1x512.size (fun a => match a with
    | ⟨0, _⟩ => j.isLt
    | ⟨1, _⟩ => le_refl 512))

/-- The bias plus the first `n` taps. -/
def taps (bias : Vec F S1x512 .f32) : (n : ℕ) → (Fin n → Vec F S64x512 .f32) → (Fin n → Vec F S1x512 .f32) → FVec F S64x512 .f32
  | 0, _, _ => broadcastTo S64x512 (shapeCast S1x512 (shapeCast S1x512 bias shapeCasts_S1x512_S1x512) shapeCasts_S1x512_S1x512) broadcasts_S1x512_S64x512
  | n + 1, s, w => addf (taps bias n (fun j => s j.castSucc) (fun j => w j.castSucc))
      (mulf (s (Fin.last n)) (broadcastTo S64x512 (w (Fin.last n)) broadcasts_S1x512_S64x512))

/-- The mean of each row. -/
def means (a : FVec F S64x512 .f32) : FVec F S64x1 .f32 :=
  divf (shapeCast S64x1 (multiReduction .add [1] S64 a 0x00000000#32 reduces_S64x512_S64 (.inl rfl) rfl) shapeCasts_S64_S64x1)
    (broadcast S64x1 (Scalar.ofBits .f32 0x44000000#32))

/-- The rows minus their means. -/
def devs (a : FVec F S64x512 .f32) : FVec F S64x512 .f32 := subf a (broadcastTo S64x512 (means a) broadcasts_S64x1_S64x512)

/-- Layer normalization of 64 rows. -/
def normed (a : FVec F S64x512 .f32) (g b : Vec F S1x512 .f32) : FVec F S64x512 .f32 :=
  addf (mulf (mulf (devs a) (broadcastTo S64x512 (rsqrt (addf (means (mulf (devs a) (devs a))) (broadcast S64x1 (Scalar.ofBits .f32 0x3727C5AC#32)))) broadcasts_S64x1_S64x512))
      (broadcastTo S64x512 (shapeCast S1x512 g shapeCasts_S1x512_S1x512) broadcasts_S1x512_S64x512))
    (broadcastTo S64x512 (shapeCast S1x512 b shapeCasts_S1x512_S1x512) broadcasts_S1x512_S64x512)

/-- What the body stores for 64 rows with convolution `a`. -/
def stored (a : FVec F S64x512 .f32) (g b : Vec F S1x512 .f32) : FVec F S64x512 .bf16 :=
  truncf .bf16 (mulf (normed a g b) (logistic (normed a g b))) bitsLt_bf16_f32

/-- Piece `t` of the block. -/
def piece (W : Vec F S544x512 .f32) (x2 : Vec F S31x512 .f32) (x3 x4 x5 : Vec F S1x512 .f32) (t : Fin 8) : FVec F S64x512 .bf16 :=
  stored (taps x3 31 (fun j => slab W (64 * t.val + 2 + j.val) (by omega)) (tap x2)) x4 x5

/-- The eight stores, the last first. -/
def pieces (W : Vec F S544x512 .f32) (x2 : Vec F S31x512 .f32) (x3 x4 x5 : Vec F S1x512 .f32) : List (View.Piece (Elt F) S512x512 .bf16) :=
  List.ofFn fun k : Fin 8 => ⟨Rect.unit ![64 * k.rev.val, 0] S64x512.size (fun a => match a with
    | ⟨0, _⟩ => by show 64 * k.rev.val + 64 ≤ 512; omega
    | ⟨1, _⟩ => le_refl 512), piece W x2 x3 x4 x5 k.rev⟩

section
variable (c : Dev nD) (i : grid0.Coords) (arg2 : Memref sig .tc .vmem S32x512 .bf16) (harg2 : arg2.IsWhole) (arg3 : Memref sig .tc .vmem S512x512 .bf16) (harg3 : arg3.IsWhole) (arg4 : Memref sig .tc .vmem S31x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S544x512 .f32) (harg9 : arg9.IsWhole)

theorem out_eq (x0 : Vec F S32x512 .bf16) (x1 : Vec F S512x512 .bf16) (x2 : Vec F S31x512 .f32) (x3 : Vec F S1x512 .f32) (x4 : Vec F S1x512 .f32) (x5 : Vec F S1x512 .f32) :
    out0_A_6 c i arg2 harg2 arg3 harg3 arg4 harg4 arg5 harg5 arg6 harg6 arg7 harg7 arg8 harg8 arg9 harg9 x0 x1 x2 x3 x4 x5
      = View.canon (pieces (win i x0 x1) x2 x3 x4 x5) := by
  have hc := cover0_A_6 c i arg2 harg2 arg3 harg3 arg4 harg4 arg5 harg5 arg6 harg6 arg7 harg7 arg8 harg8 arg9 harg9 x0 x1 x2 x3 x4 x5
  unfold out0_A_6
  rw [View.read_writes_eq_canon _ _ _ hc]
  clear hc
  unfold kernelRun0_A
  dsimp only
  sl_unfold_words
  have hcov : ∀ (L : List (View.Piece (Elt F) S544x512 .f32)) (r : Rect S544x512), arg9.view.readCov L r.toLoadRect = View.ld (View.canon L) r :=
    fun L r => View.readCov_eq_canon' arg9.view L r.toLoadRect
  simp only [hcov, View.readAt_eq_ld, harg2.read_unread, harg3.read_unread, harg4.read_unread, harg5.read_unread, harg6.read_unread, harg7.read_unread,
    View.ld_unit_zero (S := S32x512) hz, View.ld_unit_zero (S := S512x512) hz, View.ld_unit_zero (S := S1x512) hz]
  have hW : View.canon (s := S544x512) [⟨Rect.unit ![32, 0] S512x512.size inb_S544x512_S512x512_32_0, k0_pay3 x1⟩,
    ⟨Rect.unit ![0, 0] S32x512.size inb_S544x512_S32x512_0_0, k0_pay2 i x0⟩] = win i x0 x1 := rfl
  simp only [hW]
  generalize win i x0 x1 = W
  rfl
end
end Cert.Kernel4Ideal.Conv
end
-- ==== Proof.ConvRef.lean ====
/-
  Hand-written, untrusted. The reference of the convolution call on one position.
-/
module

public import proofs.«01_k».proof.Proof.Gen.Reference4Ideal.Read
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.Conv

/-- The row of the token `(b, s)` in the flattened array. -/
abbrev tok (b : Fin 16) (s : ℕ) (hs : s < 2048) : Fin 32768 := ⟨b.val * 2048 + s, by omega⟩

/-- Sequence `b` behind thirty rows of zeros: row `p`, channel `c`. -/
def padded (u : Fin 32768 → Fin 512 → EReal) (b : Fin 16) (p : ℕ) (hp : p < 2078) (c : Fin 512) : EReal :=
  if h : 30 ≤ p then u (tok b (p - 30) (by omega)) c else 0

/-- The convolution at position `s`: the bias plus the 31 taps. -/
def conv (u : Fin 32768 → Fin 512 → EReal) (w : Fin 31 → Fin 512 → EReal) (bias : Fin 512 → EReal) (b : Fin 16) (s : Fin 2048) (c : Fin 512) : EReal :=
  bias c + ∑ j : Fin 31, padded u b (s.val + j.val) (by omega) c * w j c

/-- The mean of a row. -/
def mean (h : Fin 512 → EReal) : EReal := Ideal.div (∑ x, h x) (Ideal.ofBits FTy.f32 1140850688#32)

/-- Layer normalization of a row with a gain and an offset. -/
def lnorm (h g b : Fin 512 → EReal) (c : Fin 512) : EReal :=
  (h c - mean h) * Ideal.rsqrt (mean (fun x => (h x - mean h) * (h x - mean h)) + Ideal.ofBits FTy.f32 925353388#32) * g c + b c

/-- Layer normalization followed by `silu`. -/
def act (h g b : Fin 512 → EReal) (c : Fin 512) : EReal := lnorm h g b c * Ideal.logistic (lnorm h g b c)

end Cert.Conv

namespace Cert.Reference4Ideal.Conv

open Cert.Reference4Ideal Cert.Reference4Ideal.Gen Cert.Reference4Ideal.Read Cert.Conv

variable (x0 : (⟨S32768x512, .bf16⟩ : BufTy).Contents (Elt Ideal)) (x1 : (⟨S31x512, .f32⟩ : BufTy).Contents (Elt Ideal))
  (x2 x3 x4 : (⟨S512, .f32⟩ : BufTy).Contents (Elt Ideal))

theorem v2_at (b : Fin 16) (p : Fin 2078) (c : Fin 512) :
    val_main_v2 (F := Ideal) x0 (ix3 b p c) = padded (fun r x => x0 (ix2 r x)) b p.val p.isLt c := by
  unfold val_main_v2 padded
  by_cases h : 30 ≤ p.val
  · rw [dif_pos h, pad_apply_of_inside _ _ _ _ _ _ _ _ (ix3 b (⟨p.val - 30, by omega⟩ : Fin 2048) c) (fun a => by
      match a with
      | ⟨0, _⟩ => show b.val = 0 + b.val * (0 + 1); omega
      | ⟨1, _⟩ => show p.val = 30 + (p.val - 30) * (0 + 1); omega
      | ⟨2, _⟩ => show c.val = 0 + c.val * (0 + 1); omega)]
    pointwise [val_main_v1, val_main_v0]
  · rw [dif_neg h, pad_apply_of_not_inside _ _ _ _ _ _ _ _ (1 : Fin 3) (fun hh => h hh.1)]
    pointwise [val_main_call0_v0, val_main_c]
    exact sitofp_zero (φ := .f32)

/-- The dimension numbers of the gather. -/
abbrev gd : GatherDims S16x2078x512 S2048x31x1 S16x2048x31x512 :=
  gather_S16x2078x512_S2048x31x1_S16x2048x31x512_03_1_n_n_1_2_161512

theorem siIdx_at (b : Fin 16) (s : Fin 2048) (j : Fin 31) (c : Fin 512) (z : Fin 1) :
    gd.siIdx (ix4 b s j c) (show Fin gd.startIndexMap.length from z) = ix3 s j z := by
  funext a
  match a with
  | ⟨0, _⟩ => rfl
  | ⟨1, _⟩ => rfl
  | ⟨2, _⟩ => rfl

theorem clamp : ∀ m : Fin 2078, min (BitVec.ofNat 32 m.val).toInt.toNat (2078 - 1) = m.val := by decide +kernel

/-- The gather reads the row its start word names. -/
theorem gather_at {α : Type} (x : S16x2078x512.Idx → α) (idx : IVec S2048x31x1 32) (b : Fin 16) (s : Fin 2048) (j : Fin 31)
    (c : Fin 512) (n : Fin 2078) (h : idx (ix3 s j 0) = BitVec.ofNat 32 n.val) : Host.gather gd x idx (ix4 b s j c) = x (ix3 b n c) := by
  have st : gd.start (ix4 b s j c) idx ⟨1, by decide⟩
      = min (idx (gd.siIdx (ix4 b s j c) (show Fin gd.startIndexMap.length from (0 : Fin 1)))).toInt.toNat (2078 - 1) := rfl
  have bc : ∀ a, gd.batchCoord (ix4 b s j c) a = 0 := fun a => gd.batchCoord_eq_zero _ _ List.not_mem_nil
  refine congrArg x (funext fun a => Fin.ext ?_)
  show gd.start (ix4 b s j c) idx a + gd.batchCoord (ix4 b s j c) a + gd.offCoord (ix4 b s j c) a = (ix3 b n c a).val
  rw [bc]
  match a with
  | ⟨0, _⟩ => exact (show 0 + 0 + b.val = b.val by omega)
  | ⟨1, _⟩ => exact (congrArg (· + 0 + 0) (st.trans (by rw [siIdx_at, h]; exact clamp n)))
  | ⟨2, _⟩ => exact (show 0 + 0 + c.val = c.val by omega)

theorem wrap : ∀ m : Fin 2078, Scalar.select (IntOp.cmpi CmpIPredicate.slt (BitVec.ofNat 32 m.val) 0#32) (IntOp.addi (BitVec.ofNat 32 m.val) 2078#32)
    (BitVec.ofNat 32 m.val) = BitVec.ofNat 32 m.val := by decide +kernel

theorem v15_at (s : Fin 2048) (j : Fin 31) :
    val_main_v15 (F := Ideal) (ix3 s j 0) = BitVec.ofNat 32 (s.val + j.val) := by
  refine Eq.trans ?_ (wrap ⟨s.val + j.val, by omega⟩)
  pointwise [val_main_v15, val_main_v14, val_main_v13, val_main_v12, val_main_v11, val_main_v10, val_main_v9, val_main_v8, val_main_v7, val_main_v6, val_main_v5, val_main_v4, val_main_v3, val_main_c_0, val_main_c_1]
  have e : IntOp.addi (BitVec.ofNat 32 s.val) (BitVec.ofNat 32 j.val) = BitVec.ofNat 32 (s.val + j.val) := (BitVec.ofNat_add ..).symm
  rw [e]

theorem v16_at (b : Fin 16) (s : Fin 2048) (j : Fin 31) (c : Fin 512) :
    val_main_v16 (F := Ideal) x0 (ix4 b s j c) = padded (fun r x => x0 (ix2 r x)) b (s.val + j.val) (by omega) c := by
  rw [val_main_v16, gather_at _ _ b s j c ⟨s.val + j.val, by omega⟩ (v15_at s j), v2_at]

theorem v23_at (b : Fin 16) (s : Fin 2048) (c : Fin 512) :
    val_main_v23 (F := Ideal) x0 x1 x2 (ix3 b s c) = conv (fun r x => x0 (ix2 r x)) (fun j x => x1 (ix2 j x)) (fun x => x2 (ix1 x)) b s c := by
  pointwise [val_main_v23, val_main_v22, val_main_v21, val_main_v20, val_main_v19, val_main_v18, val_main_v17, val_main_cst]
  simp only [v16_at]
  unfold conv
  rw [add_comm]

theorem v47_at (b : Fin 16) (s : Fin 2048) (c : Fin 512) :
    val_main_v47 (F := Ideal) x0 x1 x2 x3 x4 (ix3 b s c)
      = lnorm (fun x => val_main_v23 (F := Ideal) x0 x1 x2 (ix3 b s x)) (fun x => x3 (ix1 x)) (fun x => x4 (ix1 x)) c := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_cst_5, val_main_cst_6]
  unfold lnorm mean
  first | rfl | (simp only [zero_add]; rfl)

theorem v50_at (b : Fin 16) (s : Fin 2048) (c : Fin 512) :
    val_main_v50 (F := Ideal) x0 x1 x2 x3 x4 (ix2 (tok b s.val s.isLt) c)
      = act (conv (fun r x => x0 (ix2 r x)) (fun j x => x1 (ix2 j x)) (fun x => x2 (ix1 x)) b s) (fun x => x3 (ix1 x)) (fun x => x4 (ix1 x)) c := by
  rw [val_main_v50_apply]
  have e : idx_main_v50 (ix2 (tok b s.val s.isLt) c) = ix3 b s c := funext fun a => Fin.ext (by
    match a with
    | ⟨0, _⟩ => show ((b.val * 2048 + s.val) * 512 + c.val) / 1048576 = b.val; omega
    | ⟨1, _⟩ => show ((b.val * 2048 + s.val) * 512 + c.val) / 512 % 2048 = s.val; omega
    | ⟨2, _⟩ => show ((b.val * 2048 + s.val) * 512 + c.val) % 512 = c.val; omega)
  rw [e]
  pointwise [val_main_v49, val_main_v48, val_main_call1_v5, val_main_call1_v4, val_main_call1_v3, val_main_call1_v2, val_main_call1_v1, val_main_call1_v0, val_main_call1_cst, val_main_call1_cst_0]
  rw [v47_at]
  simp only [v23_at]
  rfl

end Cert.Reference4Ideal.Conv
end
-- ==== Proof.ConvValue.lean ====
/-
  Hand-written, untrusted. The convolution call's result is the reference's.
-/
module

public import proofs.«01_k».proof.Proof.ConvBody
public import proofs.«01_k».proof.Proof.ConvRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Conv

open Cert.Kernel4Ideal Cert.Kernel4Ideal.Gen Cert.Conv

/-! ## The pieces at an index -/

theorem means_at (a : FVec Ideal S64x512 .f32) (r : Fin 64) : means (F := Ideal) a (ix2 r 0) = mean (fun x => a (ix2 r x)) := by
  pointwise [means]
  rfl

theorem devs_at (a : FVec Ideal S64x512 .f32) (r : Fin 64) (q : Fin 512) :
    devs (F := Ideal) a (ix2 r q) = (a (ix2 r q) - mean (fun x => a (ix2 r x)) : EReal) := by
  rw [← means_at]
  pointwise [devs]

theorem normed_at (a : FVec Ideal S64x512 .f32) (g b : Vec Ideal S1x512 .f32) (r : Fin 64) (q : Fin 512) :
    normed (F := Ideal) a g b (ix2 r q) = lnorm (fun x => a (ix2 r x)) (fun x => g (ix2 0 x)) (fun x => b (ix2 0 x)) q := by
  pointwise [normed]
  rw [means_at, devs_at]
  unfold lnorm
  have e : (fun x => mulf (devs (F := Ideal) a) (devs a) (ix2 r x))
      = fun x => ((a (ix2 r x) - mean (fun x => a (ix2 r x))) * (a (ix2 r x) - mean (fun x => a (ix2 r x))) : EReal) := by
    funext x
    rw [← devs_at]
    rfl
  rw [e]

theorem stored_at (a : FVec Ideal S64x512 .f32) (g b : Vec Ideal S1x512 .f32) (r : Fin 64) (q : Fin 512) :
    stored (F := Ideal) a g b (ix2 r q) = act (fun x => a (ix2 r x)) (fun x => g (ix2 0 x)) (fun x => b (ix2 0 x)) q := by
  unfold act
  rw [← normed_at]
  pointwise [stored]

theorem taps_at (bias : Vec Ideal S1x512 .f32) (n : ℕ) (s : Fin n → Vec Ideal S64x512 .f32) (w : Fin n → Vec Ideal S1x512 .f32) (r : Fin 64) (q : Fin 512) :
    taps (F := Ideal) bias n s w (ix2 r q) = (bias (ix2 0 q) + ∑ j : Fin n, s j (ix2 r q) * w j (ix2 0 q) : EReal) := by
  induction n with
  | zero =>
    pointwise [taps]
    simp
  | succ n ih =>
    have e := ih (fun j => s j.castSucc) (fun j => w j.castSucc)
    rw [Fin.sum_univ_castSucc, ← add_assoc, ← e, taps]
    pointwise

theorem slab_at (W : Vec Ideal S544x512 .f32) (k : ℕ) (hk : k + 64 ≤ 544) (r : Fin 64) (q : Fin 512) :
    slab (F := Ideal) W k hk (ix2 r q) = W (ix2 ⟨k + r.val, by omega⟩ q) := by
  refine congrArg W (funext fun a => Fin.ext ?_)
  match a with
  | ⟨0, _⟩ => show k + 1 * r.val = k + r.val; omega
  | ⟨1, _⟩ => show 0 + 1 * q.val = q.val; omega

theorem tap_at (w : Vec Ideal S31x512 .f32) (j : Fin 31) (q : Fin 512) : tap (F := Ideal) w j (ix2 0 q) = w (ix2 j q) := by
  refine congrArg w (funext fun a => Fin.ext ?_)
  match a with
  | ⟨0, _⟩ => show j.val + 1 * 0 = j.val; omega
  | ⟨1, _⟩ => show 0 + 1 * q.val = q.val; omega

/-! ## The window at an index -/

theorem sgt : ∀ k : Fin 4, Scalar.cmpi CmpIPredicate.sgt (BitVec.ofNat 32 k.val) 0#32 = if 0 < k.val then 1#1 else 0#1 := by decide +kernel

theorem pay2_at (i : grid0.Coords) (x : Vec Ideal S32x512 .bf16) (k : Fin 32) (q : Fin 512) :
    k0_pay2 (F := Ideal) i x (ix2 k q) = if 0 < (i 1).val then x (ix2 k q) else (0 : EReal) := by
  have h := sgt ⟨(i 1).val, (i 1).isLt⟩
  unfold k0_pay2
  dsimp only at h ⊢
  rw [h]
  by_cases h0 : 0 < (i 1).val
  · rw [if_pos h0, if_pos h0]
    pointwise
  · rw [if_neg h0, if_neg h0]
    pointwise

theorem win_at (i : grid0.Coords) (x0 : Vec Ideal S32x512 .bf16) (x1 : Vec Ideal S512x512 .bf16) (k : Fin 544) (q : Fin 512) :
    win (F := Ideal) i x0 x1 (ix2 k q)
      = if h : 32 ≤ k.val then x1 (ix2 ⟨k.val - 32, by omega⟩ q) else if 0 < (i 1).val then x0 (ix2 ⟨k.val, by omega⟩ q) else (0 : EReal) := by
  have hcov : ∃ p ∈ ([⟨Rect.unit ![32, 0] S512x512.size inb_S544x512_S512x512_32_0, k0_pay3 (F := Ideal) x1⟩,
      ⟨Rect.unit ![0, 0] S32x512.size inb_S544x512_S32x512_0_0, k0_pay2 i x0⟩] : List (View.Piece (Elt Ideal) S544x512 .f32)),
      (ix2 k q : S544x512.Idx) ∈ p.1.set := by
    by_cases h : 32 ≤ k.val
    · refine ⟨_, List.mem_cons_self, (Rect.mem_set_unit (inb := inb_S544x512_S512x512_32_0)).mpr fun a => match a with
        | ⟨0, _⟩ => ⟨h, by show k.val < 32 + 512; omega⟩
        | ⟨1, _⟩ => ⟨Nat.zero_le _, by show q.val < 0 + 512; omega⟩⟩
    · refine ⟨_, List.mem_cons_of_mem _ List.mem_cons_self, (Rect.mem_set_unit (inb := inb_S544x512_S32x512_0_0)).mpr fun a => match a with
        | ⟨0, _⟩ => ⟨Nat.zero_le _, by show k.val < 0 + 32; omega⟩
        | ⟨1, _⟩ => ⟨Nat.zero_le _, by show q.val < 0 + 512; omega⟩⟩
  unfold win
  canon_tiles y h using hcov
  · obtain ⟨a, b, rfl⟩ : ∃ (a : Fin 512) (b : Fin 512), y = (ix2 a b : S512x512.Idx) := ⟨y 0, y 1, eq_ix2 y⟩
    have e0 : k.val = 32 + a.val := h0
    have e1 : q = b := Fin.ext h1
    subst e1
    rw [dif_pos (show 32 ≤ k.val by omega)]
    pointwise [k0_pay3]
    exact congrArg (fun z => x1 (ix2 z q)) (Fin.ext (by show a.val = k.val - 32; omega))
  · obtain ⟨a, b, rfl⟩ : ∃ (a : Fin 32) (b : Fin 512), y = (ix2 a b : S32x512.Idx) := ⟨y 0, y 1, eq_ix2 y⟩
    have e0 : k.val = a.val := h0
    have e1 : q = b := Fin.ext h1
    subst e1
    rw [dif_neg (show ¬ 32 ≤ k.val by omega), pay2_at]
    exact congrArg (fun z => if 0 < (i 1).val then x0 (ix2 z q) else (0 : EReal)) (Fin.ext e0.symm)

/-! ## The blocks and the host's prefix -/

variable (m : (ℓ : Loc nD τ sig) → Buf (Elt Ideal) ℓ)

theorem idx : ∀ t : Fin cfg0.N, win0_0.index t = ![if t.val % 4 = 0 then t.val / 4 * 64 else t.val / 4 * 64 + t.val % 4 * 16 - 1, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ (grid0.coords t 1).val = t.val % 4 :=
  (by decide +kernel : ∀ t : Fin grid0.N, _)

theorem blk0_at (c : Dev nD) (t : Fin cfg0.N) (h : t.val % 4 ≠ 0) (r : Fin 32) (x : Fin 512) :
    iblk m c 0 t (ix2 r x) = m ((c : Thread nD τ).loc main_arg0) (ix2 ⟨t.val * 512 - 32 + r.val, by have : t.val < 64 := t.isLt; omega⟩ x) := by
  have ht : t.val < 64 := t.isLt
  blk_ext [iblk, V, idx t]
  rw [if_neg h]
  omega

theorem blk1_at (c : Dev nD) (t : Fin cfg0.N) (r : Fin 512) (x : Fin 512) :
    iblk m c 1 t (ix2 r x) = m ((c : Thread nD τ).loc main_arg0) (ix2 ⟨t.val * 512 + r.val, by have : t.val < 64 := t.isLt; omega⟩ x) := by
  blk_ext [iblk, V, idx t]

theorem blk2_at (c : Dev nD) (t : Fin cfg0.N) (j : Fin 31) (x : Fin 512) :
    iblk m c 2 t (ix2 j x) = m ((c : Thread nD τ).loc main_arg1) (ix2 j x) := by
  blk_ext [iblk, V, idx t]

theorem blk3_at (c : Dev nD) (t : Fin cfg0.N) (x : Fin 512) :
    iblk m c 3 t (ix2 0 x) = m ((c : Thread nD τ).loc main_arg2) (ix1 x) := by
  blk_simp [iblk, idx t]
  entry_read
  pointwise
  blk_ext [idx t]

theorem blk4_at (c : Dev nD) (t : Fin cfg0.N) (x : Fin 512) :
    iblk m c 4 t (ix2 0 x) = m ((c : Thread nD τ).loc main_arg3) (ix1 x) := by
  blk_simp [iblk, idx t]
  entry_read
  pointwise
  blk_ext [idx t]

theorem blk5_at (c : Dev nD) (t : Fin cfg0.N) (x : Fin 512) :
    iblk m c 5 t (ix2 0 x) = m ((c : Thread nD τ).loc main_arg4) (ix1 x) := by
  blk_simp [iblk, idx t]
  entry_read
  pointwise
  blk_ext [idx t]

/-- The window's row `k` is row `k - 2` of the block's part of the padded sequence. -/
theorem win_row (c : Dev nD) (t : Fin cfg0.N) (k : ℕ) (hk : k < 544) (h2 : 2 ≤ k) (q : Fin 512) (b : Fin 16) (p : ℕ) (hp : p < 2078)
    (hb : t.val / 4 = b.val) (h : p + 2 = t.val % 4 * 512 + k) :
    win (F := Ideal) (grid0.coords t) (iblk m c 0 t) (iblk m c 1 t) (ix2 ⟨k, hk⟩ q)
      = padded (fun r x => m ((c : Thread nD τ).loc main_arg0) (ix2 r x)) b p hp q := by
  have ht : t.val < 64 := t.isLt
  rw [win_at]
  unfold padded
  by_cases h32 : 32 ≤ k
  · rw [dif_pos h32, dif_pos (show 30 ≤ p by omega), blk1_at]
    refine congrArg (fun r => m ((c : Thread nD τ).loc main_arg0) (ix2 r q)) (Fin.ext ?_)
    show t.val * 512 + (k - 32) = b.val * 2048 + (p - 30)
    omega
  · rw [dif_neg h32]
    by_cases h0 : t.val % 4 = 0
    · rw [if_neg (by rw [(idx t).2.2.2.2.2.2.2]; omega), dif_neg (show ¬ 30 ≤ p by omega)]
    · rw [if_pos (by rw [(idx t).2.2.2.2.2.2.2]; omega), dif_pos (show 30 ≤ p by omega), blk0_at m c t h0]
      refine congrArg (fun r => m ((c : Thread nD τ).loc main_arg0) (ix2 r q)) (Fin.ext ?_)
      show t.val * 512 - 32 + k = b.val * 2048 + (p - 30)
      omega

/-! ## The block of a point and the reference's rows -/

/-- The reference's value over the kernel's arguments. -/
abbrev REF (c : Dev nD) : (⟨Cert.Reference4Ideal.S32768x512, .bf16⟩ : BufTy).Contents (Elt Ideal) :=
  Cert.Reference4Ideal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem point (c : Dev nD) (t : Fin cfg0.N) (k : Fin 8) (r : Fin 64) (q : Fin 512) (b : Fin 16) (s : Fin 2048) (hb : t.val / 4 = b.val)
    (hs : s.val = t.val % 4 * 512 + 64 * k.val + r.val) :
    piece (F := Ideal) (win (grid0.coords t) (iblk m c 0 t) (iblk m c 1 t)) (iblk m c 2 t) (iblk m c 3 t) (iblk m c 4 t) (iblk m c 5 t) k (ix2 r q)
      = REF m c (ix2 (tok b s.val s.isLt) q) := by
  refine Eq.trans ?_ (Cert.Reference4Ideal.Conv.v50_at _ _ _ _ _ b s q).symm
  unfold piece
  rw [stored_at]
  have e : (fun x => taps (F := Ideal) (iblk m c 3 t) 31 (fun j => slab (win (grid0.coords t) (iblk m c 0 t) (iblk m c 1 t)) (64 * k.val + 2 + j.val) (by omega)) (tap (iblk m c 2 t)) (ix2 r x))
      = conv (fun r x => m ((c : Thread nD τ).loc main_arg0) (ix2 r x)) (fun j x => m ((c : Thread nD τ).loc main_arg1) (ix2 j x)) (fun x => m ((c : Thread nD τ).loc main_arg2) (ix1 x)) b s := by
    funext x
    rw [taps_at, blk3_at]
    refine Ideal.add_congr rfl (Finset.sum_congr rfl fun j _ => ?_)
    rw [tap_at, blk2_at, slab_at, win_row m c t _ _ (by omega) x b (s.val + j.val) (by omega) hb (by omega)]
  rw [e]
  refine congr (congr (congrArg _ (funext fun x => blk4_at m c t x)) (funext fun x => blk5_at m c t x)) rfl

/-- The result array after the run is the reference's. -/
theorem final (c : Dev nD) : (dats m 0 c).arrAt 6 (cfgs 0).N = REF m c := by
  refine (dats m 0 c).arrAt_eq_of_covers 6 _ (by decide +kernel) fun t _ y => ?_
  blk_simp
  rw [after0_6]
  unfold outsAt0
  rw [out_eq]
  obtain ⟨r, q, rfl⟩ : ∃ (r : Fin 512) (q : Fin 512), y = (ix2 r q : S512x512.Idx) := ⟨y 0, y 1, eq_ix2 y⟩
  have ht : t.val < 64 := t.isLt
  unfold pieces
  refine View.canon_ofFn_unit_eq_of_forall _ _ _ _ _ _ ?_ ?_
  · refine ⟨(⟨r.val / 64, by omega⟩ : Fin 8).rev, fun a => ?_⟩
    rw [Fin.rev_rev]
    match a with
    | ⟨0, _⟩ => exact ⟨by show 64 * (r.val / 64) ≤ r.val; omega, by show r.val < 64 * (r.val / 64) + 64; omega⟩
    | ⟨1, _⟩ => exact ⟨Nat.zero_le _, by show q.val < 0 + 512; omega⟩
  · intro k
    generalize k.rev = k
    tile_intro x h
    obtain ⟨a, d, rfl⟩ : ∃ (a : Fin 64) (d : Fin 512), x = (ix2 a d : S64x512.Idx) := ⟨x 0, x 1, eq_ix2 x⟩
    have e0 : r.val = 64 * k.val + a.val := h0
    have e1 : q = d := Fin.ext h1
    subst e1
    refine (point m c t k a q ⟨t.val / 4, by omega⟩ ⟨t.val % 4 * 512 + 64 * k.val + a.val, by omega⟩ rfl rfl).trans ?_
    refine congrArg _ ?_
    blk_ext [idx t]

end Cert.Kernel4Ideal.Conv
end
-- ==== Proof.ConvClaims.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.ConvValue
public import Idealize.ShloMosaic.Adequacy
public import Idealize.ShloMosaic.Init

@[expose] public section

noncomputable section

/-! The claims about the convolution call. -/

namespace Cert.Proof.Conv

open Idealize.ShloMosaic Idealize.ShloMosaic.TcCoe Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ hag
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ⟨(h c).1.trans ?_, (h c).2⟩)
    (Cert.Reference4Ideal.Value.run (F := Ideal) m' g')
  obtain ⟨h0, h1, h2, h3, h4⟩ := hag c
  rw [Cert.Reference4Ideal.Read.val_main_v50_eq, h0, h1, h2, h3, h4]
  exact (Cert.Kernel4Ideal.Conv.final m c).symm

end Cert.Proof.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_inputs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FfnClaims
public import proofs.«01_k».proof.Proof.InprojClaims
public import proofs.«01_k».proof.Proof.AttnClaims
public import proofs.«01_k».proof.Proof.ConvClaims
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_inputs.Gen.facts,
  Attn.frame_p, Attn.frame_pi, Attn.frame_pi_pre, Attn.frame_ri, Attn.frame_ri_pre, Ffn.frame_p, Ffn.frame_pi, Ffn.frame_ri,
  Inproj.frame_p, Inproj.frame_pi, Inproj.frame_ri,
  Conv.frame_p, Conv.frame_pi, Conv.frame_ri,
  Attn.preserves, Attn.algebraic, Ffn.preserves, Ffn.algebraic, Inproj.preserves, Inproj.algebraic, Conv.preserves, Conv.algebraic⟩

end Cert.Proof

end
